-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S16x32x100000 : Shape := ⟨3, ![16, 32, 100000]⟩
abbrev S16x32 : Shape := ⟨2, ![16, 32]⟩
abbrev S_ : Shape := ⟨0, ![]⟩

class Facts : Prop where
  bcast_S_S16x32x100000 : S_.BroadcastsInDim S16x32x100000 (![] : Fin 0 → Fin S16x32x100000.rank)

variable [Facts]

def fn {F : FTy → Type} [FloatOps F] (main_arg0 : FVec F S16x32x100000 .f32) (main_arg1 : IVec S16x32 32) : IVec S16x32x100000 1 :=
  let main_v0 : FVec F S16x32x100000 .f32 := Host.absf main_arg0
  let main_cst : FVec F S_ .f32 := constant S_ .f32 0x7F800000#32
  let main_v1 : FVec F S16x32x100000 .f32 := broadcastInDim S16x32x100000 ![] bcast_S_S16x32x100000 main_cst
  let main_v2 : IVec S16x32x100000 1 := cmpf .olt main_v0 main_v1
  main_v2
-- ==== Kernel.lean ====
abbrev S16x32x100000 : Shape := ⟨3, ![16, 32, 100000]⟩
abbrev S16x32 : Shape := ⟨2, ![16, 32]⟩
abbrev S512x100000 : Shape := ⟨2, ![512, 100000]⟩
abbrev S64x1x8 : Shape := ⟨3, ![64, 1, 8]⟩
abbrev S8x100000 : Shape := ⟨2, ![8, 100000]⟩
abbrev S1x1x8 : Shape := ⟨3, ![1, 1, 8]⟩
abbrev S8 : Shape := ⟨1, ![8]⟩
abbrev S8x1 : Shape := ⟨2, ![8, 1]⟩
abbrev S16 : Shape := ⟨1, ![16]⟩
abbrev S16x1 : Shape := ⟨2, ![16, 1]⟩
abbrev S512 : Shape := ⟨1, ![512]⟩
abbrev S_ : Shape := ⟨0, ![]⟩
abbrev S1 : Shape := ⟨1, ![1]⟩
abbrev S512x8x12500 : Shape := ⟨3, ![512, 8, 12500]⟩
abbrev S512x1x1 : Shape := ⟨3, ![512, 1, 1]⟩
abbrev S512x1x8 : Shape := ⟨3, ![512, 1, 8]⟩
abbrev S1x8x12500 : Shape := ⟨3, ![1, 8, 12500]⟩
abbrev S8x12500 : Shape := ⟨2, ![8, 12500]⟩
abbrev S1x1x1 : Shape := ⟨3, ![1, 1, 1]⟩

abbrev nBuf : Space → Nat
  | .hbm => 37
  | .vmem => 13
  | .smem => 2
  | _ => 0

abbrev bufTy : (tb : Table) → Fin (tcTables nBuf tb) → BufTy
  | .hbm, ⟨0, _⟩ => ⟨S16x32x100000, .f32⟩
  | .hbm, ⟨1, _⟩ => ⟨S16x32, .i32⟩
  | .hbm, ⟨2, _⟩ => ⟨S512x100000, .f32⟩
  | .hbm, ⟨3, _⟩ => ⟨S64x1x8, .f32⟩
  | .hbm, ⟨4, _⟩ => ⟨S16x32, .f32⟩
  | .hbm, ⟨5, _⟩ => ⟨S16x32, .i32⟩
  | .hbm, ⟨6, _⟩ => ⟨S512, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512x8x12500, .f32⟩
  | .hbm, ⟨31, _⟩ => ⟨S512x1x1, .i32⟩
  | .hbm, ⟨32, _⟩ => ⟨S512x1x8, .i32⟩
  | .hbm, ⟨33, _⟩ => ⟨S512x1x8, .i32⟩
  | .hbm, ⟨34, _⟩ => ⟨S512x1x1, .i32⟩
  | .hbm, ⟨35, _⟩ => ⟨S512, .i32⟩
  | .hbm, ⟨36, _⟩ => ⟨S16x32, .i32⟩
  | .local _ .vmem, ⟨0, _⟩ => ⟨S8x100000, .f32⟩
  | .local _ .vmem, ⟨1, _⟩ => ⟨S8x100000, .f32⟩
  | .local _ .vmem, ⟨2, _⟩ => ⟨S1x1x8, .f32⟩
  | .local _ .vmem, ⟨3, _⟩ => ⟨S1x1x8, .f32⟩
  | .local _ .vmem, ⟨4, _⟩ => ⟨S16x32, .f32⟩
  | .local _ .vmem, ⟨5, _⟩ => ⟨S16x32, .i32⟩
  | .local _ .vmem, ⟨6, _⟩ => ⟨S16x32, .i32⟩
  | .local _ .vmem, ⟨7, _⟩ => ⟨S1x8x12500, .f32⟩
  | .local _ .vmem, ⟨8, _⟩ => ⟨S1x8x12500, .f32⟩
  | .local _ .vmem, ⟨9, _⟩ => ⟨S1x1x8, .i32⟩
  | .local _ .vmem, ⟨10, _⟩ => ⟨S1x1x8, .i32⟩
  | .local _ .vmem, ⟨11, _⟩ => ⟨S1x1x8, .i32⟩
  | .local _ .vmem, ⟨12, _⟩ => ⟨S1x1x8, .i32⟩
  | .local _ .smem, ⟨0, _⟩ => ⟨S512, .i32⟩
  | .local _ .smem, ⟨1, _⟩ => ⟨S1, .i32⟩
  | _, _ => ⟨S16x32x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1_0 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v19 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc2_sem0_0 : DmaSem sig := 7
abbrev cc2_sem0_1 : DmaSem sig := 8
abbrev cc2_sem1_0 : DmaSem sig := 9
abbrev cc2_sem1_1 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S16x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x32 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x32 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![512], ![false]⟩

abbrev pre2 : Pipeline.Prefetch sig := ⟨2, ![main_v19.idx, main_v23.idx], fun | 0 => main_v19.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) : Fin 1 → Nat :=
  let arg0 : BitVec 32 := BitVec.ofNat 32 (i 0).val
  let v7 : Index := Scalar.indexCast arg0
  ![v7.toNat]
def k2_cond1 (i : grid2.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k2_cond2 (v0 : BitVec 32) : BitVec 1 :=
  let c0_i32_0 : BitVec 32 := 0#32
  let v4 : BitVec 1 := Scalar.cmpi .eq v0 c0_i32_0
  let v5 : BitVec 32 := Scalar.extui v4
  let c0_i32_1 : BitVec 32 := 0#32
  let v6 : BitVec 1 := Scalar.cmpi .ne v5 c0_i32_1
  v6

def cc2_transform_0 (k2_off1_inb : ∀ i : grid2.Coords, ∀ a, (k2_off1 i) a + S1.size a ≤ S512.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S512) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S512.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S512) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S512.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S512) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage2_0 : Fin 2 → Memref sig .tc .vmem S1x8x12500 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x8 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x8 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S16x32x100000 : Shape := ⟨3, ![16, 32, 100000]⟩
abbrev S16x32 : Shape := ⟨2, ![16, 32]⟩
abbrev S_ : Shape := ⟨0, ![]⟩
abbrev S1 : Shape := ⟨1, ![1]⟩
abbrev S16x32x1 : Shape := ⟨3, ![16, 32, 1]⟩
abbrev S16x4 : Shape := ⟨2, ![16, 4]⟩
abbrev S16x1 : Shape := ⟨2, ![16, 1]⟩
abbrev S2 : Shape := ⟨1, ![2]⟩

abbrev nBuf : Space → Nat
  | .hbm => 328
  | .vmem => 0
  | .smem => 0
  | _ => 0

abbrev hbmTy0_0 (i : Nat) : BufTy := match i % 128 with
  | 0 => ⟨S16x32x100000, .f32⟩
  | 1 => ⟨S16x32, .i32⟩
  | 2 => ⟨S_, .i32⟩
  | 3 => ⟨S1, .i32⟩
  | 4 => ⟨S_, .f32⟩
  | 5 => ⟨S16x32, .f32⟩
  | 6 => ⟨S16x32x100000, .f32⟩
  | 7 => ⟨S_, .f32⟩
  | 8 => ⟨S16x32x100000, .f32⟩
  | 9 => ⟨S16x32x100000, .f32⟩
  | 10 => ⟨S_, .f32⟩
  | 11 => ⟨S16x32, .f32⟩
  | 12 => ⟨S_, .f32⟩
  | 13 => ⟨S16x32, .f32⟩
  | 14 => ⟨S16x32, .f32⟩
  | 15 => ⟨S16x32x1, .f32⟩
  | 16 => ⟨S16x32x100000, .f32⟩
  | 17 => ⟨S16x32x100000, .f32⟩
  | 18 => ⟨S16x32x100000, .f32⟩
  | 19 => ⟨S_, .f32⟩
  | 20 => ⟨S16x32, .f32⟩
  | 21 => ⟨S16x32x1, .f32⟩
  | 22 => ⟨S16x32x100000, .f32⟩
  | 23 => ⟨S16x32x100000, .f32⟩
  | 24 => ⟨S_, .f32⟩
  | 25 => ⟨S16x32, .f32⟩
  | 26 => ⟨S_, .i32⟩
  | 27 => ⟨S16x32, .i32⟩
  | 28 => ⟨S16x32, .i1⟩
  | 29 => ⟨S_, .f32⟩
  | 30 => ⟨S_, .f32⟩
  | 31 => ⟨S16x32, .f32⟩
  | 32 => ⟨S16x32, .f32⟩
  | 33 => ⟨S16x4, .f32⟩
  | 34 => ⟨S16x4, .i32⟩
  | 35 => ⟨S16x1, .f32⟩
  | 36 => ⟨S16x32, .f32⟩
  | 37 => ⟨S16x32, .i1⟩
  | 38 => ⟨S16x32, .i1⟩
  | 39 => ⟨S_, .i32⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S1, .i32⟩
  | 48 => ⟨S2, .i32⟩
  | 49 => ⟨S1, .i32⟩
  | 50 => ⟨S_, .i32⟩
  | 51 => ⟨S1, .i32⟩
  | 52 => ⟨S_, .i32⟩
  | 53 => ⟨S16x32x100000, .i64⟩
  | 54 => ⟨S16x32x100000, .i64⟩
  | 55 => ⟨S16x32x100000, .i64⟩
  | 56 => ⟨S_, .i64⟩
  | 57 => ⟨S16x32x100000, .i64⟩
  | 58 => ⟨S16x32x100000, .i64⟩
  | 59 => ⟨S_, .i64⟩
  | 60 => ⟨S16x32x100000, .i64⟩
  | 61 => ⟨S16x32x100000, .i64⟩
  | 62 => ⟨S_, .i64⟩
  | 63 => ⟨S16x32x100000, .i64⟩
  | 64 => ⟨S16x32x100000, .i64⟩
  | 65 => ⟨S16x32x100000, .i64⟩
  | 66 => ⟨S16x32x100000, .i64⟩
  | 67 => ⟨S_, .i64⟩
  | 68 => ⟨S16x32x100000, .i64⟩
  | 69 => ⟨S16x32x100000, .i64⟩
  | 70 => ⟨S16x32x100000, .i32⟩
  | 71 => ⟨S16x32x100000, .i32⟩
  | 72 => ⟨S_, .i32⟩
  | 73 => ⟨S_, .i32⟩
  | 74 => ⟨S_, .i32⟩
  | 75 => ⟨S16x32x100000, .i32⟩
  | 76 => ⟨S16x32x100000, .i32⟩
  | 77 => ⟨S16x32x100000, .i32⟩
  | 78 => ⟨S16x32x100000, .i32⟩
  | 79 => ⟨S16x32x100000, .i32⟩
  | 80 => ⟨S_, .i32⟩
  | 81 => ⟨S16x32x100000, .i32⟩
  | 82 => ⟨S16x32x100000, .i32⟩
  | 83 => ⟨S_, .i32⟩
  | 84 => ⟨S16x32x100000, .i32⟩
  | 85 => ⟨S16x32x100000, .i32⟩
  | 86 => ⟨S16x32x100000, .i32⟩
  | 87 => ⟨S16x32x100000, .i32⟩
  | 88 => ⟨S16x32x100000, .i32⟩
  | 89 => ⟨S_, .i32⟩
  | 90 => ⟨S16x32x100000, .i32⟩
  | 91 => ⟨S16x32x100000, .i32⟩
  | 92 => ⟨S_, .i32⟩
  | 93 => ⟨S16x32x100000, .i32⟩
  | 94 => ⟨S16x32x100000, .i32⟩
  | 95 => ⟨S16x32x100000, .i32⟩
  | 96 => ⟨S16x32x100000, .i32⟩
  | 97 => ⟨S16x32x100000, .i32⟩
  | 98 => ⟨S_, .i32⟩
  | 99 => ⟨S16x32x100000, .i32⟩
  | 100 => ⟨S16x32x100000, .i32⟩
  | 101 => ⟨S_, .i32⟩
  | 102 => ⟨S16x32x100000, .i32⟩
  | 103 => ⟨S16x32x100000, .i32⟩
  | 104 => ⟨S16x32x100000, .i32⟩
  | 105 => ⟨S16x32x100000, .i32⟩
  | 106 => ⟨S16x32x100000, .i32⟩
  | 107 => ⟨S_, .i32⟩
  | 108 => ⟨S16x32x100000, .i32⟩
  | 109 => ⟨S16x32x100000, .i32⟩
  | 110 => ⟨S_, .i32⟩
  | 111 => ⟨S16x32x100000, .i32⟩
  | 112 => ⟨S16x32x100000, .i32⟩
  | 113 => ⟨S16x32x100000, .i32⟩
  | 114 => ⟨S16x32x100000, .i32⟩
  | 115 => ⟨S16x32x100000, .i32⟩
  | 116 => ⟨S16x32x100000, .i32⟩
  | 117 => ⟨S16x32x100000, .i32⟩
  | 118 => ⟨S16x32x100000, .i32⟩
  | 119 => ⟨S_, .i32⟩
  | 120 => ⟨S16x32x100000, .i32⟩
  | 121 => ⟨S16x32x100000, .i32⟩
  | 122 => ⟨S16x32x100000, .i32⟩
  | 123 => ⟨S_, .i32⟩
  | 124 => ⟨S16x32x100000, .i32⟩
  | 125 => ⟨S16x32x100000, .i32⟩
  | 126 => ⟨S_, .i32⟩
  | 127 => ⟨S16x32x100000, .i32⟩
  | _ => ⟨S16x32x100000, .f32⟩

abbrev hbmTy0_1 (i : Nat) : BufTy := match i % 128 with
  | 0 => ⟨S16x32x100000, .i32⟩
  | 1 => ⟨S16x32x100000, .i32⟩
  | 2 => ⟨S16x32x100000, .i32⟩
  | 3 => ⟨S16x32x100000, .i32⟩
  | 4 => ⟨S_, .i32⟩
  | 5 => ⟨S16x32x100000, .i32⟩
  | 6 => ⟨S16x32x100000, .i32⟩
  | 7 => ⟨S_, .i32⟩
  | 8 => ⟨S16x32x100000, .i32⟩
  | 9 => ⟨S16x32x100000, .i32⟩
  | 10 => ⟨S16x32x100000, .i32⟩
  | 11 => ⟨S16x32x100000, .i32⟩
  | 12 => ⟨S16x32x100000, .i32⟩
  | 13 => ⟨S_, .i32⟩
  | 14 => ⟨S16x32x100000, .i32⟩
  | 15 => ⟨S16x32x100000, .i32⟩
  | 16 => ⟨S_, .i32⟩
  | 17 => ⟨S16x32x100000, .i32⟩
  | 18 => ⟨S16x32x100000, .i32⟩
  | 19 => ⟨S16x32x100000, .i32⟩
  | 20 => ⟨S16x32x100000, .i32⟩
  | 21 => ⟨S16x32x100000, .i32⟩
  | 22 => ⟨S_, .i32⟩
  | 23 => ⟨S16x32x100000, .i32⟩
  | 24 => ⟨S16x32x100000, .i32⟩
  | 25 => ⟨S_, .i32⟩
  | 26 => ⟨S16x32x100000, .i32⟩
  | 27 => ⟨S16x32x100000, .i32⟩
  | 28 => ⟨S16x32x100000, .i32⟩
  | 29 => ⟨S16x32x100000, .i32⟩
  | 30 => ⟨S16x32x100000, .i32⟩
  | 31 => ⟨S16x32x100000, .i32⟩
  | 32 => ⟨S16x32x100000, .i32⟩
  | 33 => ⟨S16x32x100000, .i32⟩
  | 34 => ⟨S_, .i32⟩
  | 35 => ⟨S16x32x100000, .i32⟩
  | 36 => ⟨S16x32x100000, .i32⟩
  | 37 => ⟨S16x32x100000, .i32⟩
  | 38 => ⟨S_, .i32⟩
  | 39 => ⟨S16x32x100000, .i32⟩
  | 40 => ⟨S16x32x100000, .i32⟩
  | 41 => ⟨S_, .i32⟩
  | 42 => ⟨S16x32x100000, .i32⟩
  | 43 => ⟨S16x32x100000, .i32⟩
  | 44 => ⟨S16x32x100000, .i32⟩
  | 45 => ⟨S16x32x100000, .i32⟩
  | 46 => ⟨S16x32x100000, .i32⟩
  | 47 => ⟨S_, .i32⟩
  | 48 => ⟨S16x32x100000, .i32⟩
  | 49 => ⟨S16x32x100000, .i32⟩
  | 50 => ⟨S_, .i32⟩
  | 51 => ⟨S16x32x100000, .i32⟩
  | 52 => ⟨S16x32x100000, .i32⟩
  | 53 => ⟨S16x32x100000, .i32⟩
  | 54 => ⟨S16x32x100000, .i32⟩
  | 55 => ⟨S16x32x100000, .i32⟩
  | 56 => ⟨S_, .i32⟩
  | 57 => ⟨S16x32x100000, .i32⟩
  | 58 => ⟨S16x32x100000, .i32⟩
  | 59 => ⟨S_, .i32⟩
  | 60 => ⟨S16x32x100000, .i32⟩
  | 61 => ⟨S16x32x100000, .i32⟩
  | 62 => ⟨S16x32x100000, .i32⟩
  | 63 => ⟨S16x32x100000, .i32⟩
  | 64 => ⟨S16x32x100000, .i32⟩
  | 65 => ⟨S_, .i32⟩
  | 66 => ⟨S16x32x100000, .i32⟩
  | 67 => ⟨S16x32x100000, .i32⟩
  | 68 => ⟨S_, .i32⟩
  | 69 => ⟨S16x32x100000, .i32⟩
  | 70 => ⟨S16x32x100000, .i32⟩
  | 71 => ⟨S16x32x100000, .i32⟩
  | 72 => ⟨S16x32x100000, .i32⟩
  | 73 => ⟨S16x32x100000, .i32⟩
  | 74 => ⟨S16x32x100000, .i32⟩
  | 75 => ⟨S16x32x100000, .i32⟩
  | 76 => ⟨S16x32x100000, .i32⟩
  | 77 => ⟨S_, .i32⟩
  | 78 => ⟨S16x32x100000, .i32⟩
  | 79 => ⟨S16x32x100000, .i32⟩
  | 80 => ⟨S16x32x100000, .i32⟩
  | 81 => ⟨S_, .i32⟩
  | 82 => ⟨S16x32x100000, .i32⟩
  | 83 => ⟨S16x32x100000, .i32⟩
  | 84 => ⟨S_, .i32⟩
  | 85 => ⟨S16x32x100000, .i32⟩
  | 86 => ⟨S16x32x100000, .i32⟩
  | 87 => ⟨S16x32x100000, .i32⟩
  | 88 => ⟨S16x32x100000, .i32⟩
  | 89 => ⟨S16x32x100000, .i32⟩
  | 90 => ⟨S_, .i32⟩
  | 91 => ⟨S16x32x100000, .i32⟩
  | 92 => ⟨S16x32x100000, .i32⟩
  | 93 => ⟨S_, .i32⟩
  | 94 => ⟨S16x32x100000, .i32⟩
  | 95 => ⟨S16x32x100000, .i32⟩
  | 96 => ⟨S16x32x100000, .i32⟩
  | 97 => ⟨S16x32x100000, .i32⟩
  | 98 => ⟨S16x32x100000, .i32⟩
  | 99 => ⟨S_, .i32⟩
  | 100 => ⟨S16x32x100000, .i32⟩
  | 101 => ⟨S16x32x100000, .i32⟩
  | 102 => ⟨S_, .i32⟩
  | 103 => ⟨S16x32x100000, .i32⟩
  | 104 => ⟨S16x32x100000, .i32⟩
  | 105 => ⟨S16x32x100000, .i32⟩
  | 106 => ⟨S16x32x100000, .i32⟩
  | 107 => ⟨S16x32x100000, .i32⟩
  | 108 => ⟨S_, .i32⟩
  | 109 => ⟨S16x32x100000, .i32⟩
  | 110 => ⟨S16x32x100000, .i32⟩
  | 111 => ⟨S_, .i32⟩
  | 112 => ⟨S16x32x100000, .i32⟩
  | 113 => ⟨S16x32x100000, .i32⟩
  | 114 => ⟨S16x32x100000, .i32⟩
  | 115 => ⟨S16x32x100000, .i32⟩
  | 116 => ⟨S16x32x100000, .i32⟩
  | 117 => ⟨S16x32x100000, .i32⟩
  | 118 => ⟨S16x32x100000, .i32⟩
  | 119 => ⟨S16x32x100000, .i32⟩
  | 120 => ⟨S_, .i32⟩
  | 121 => ⟨S16x32x100000, .i32⟩
  | 122 => ⟨S16x32x100000, .i32⟩
  | 123 => ⟨S16x32x100000, .i32⟩
  | 124 => ⟨S_, .i32⟩
  | 125 => ⟨S16x32x100000, .i32⟩
  | 126 => ⟨S16x32x100000, .i32⟩
  | 127 => ⟨S_, .i32⟩
  | _ => ⟨S16x32x100000, .f32⟩

abbrev hbmTy0_2 (i : Nat) : BufTy := match i % 128 with
  | 0 => ⟨S16x32x100000, .i32⟩
  | 1 => ⟨S16x32x100000, .i32⟩
  | 2 => ⟨S16x32x100000, .i32⟩
  | 3 => ⟨S16x32x100000, .i32⟩
  | 4 => ⟨S16x32x100000, .i32⟩
  | 5 => ⟨S_, .i32⟩
  | 6 => ⟨S16x32x100000, .i32⟩
  | 7 => ⟨S16x32x100000, .i32⟩
  | 8 => ⟨S_, .i32⟩
  | 9 => ⟨S16x32x100000, .i32⟩
  | 10 => ⟨S16x32x100000, .i32⟩
  | 11 => ⟨S16x32x100000, .i32⟩
  | 12 => ⟨S16x32x100000, .i32⟩
  | 13 => ⟨S16x32x100000, .i32⟩
  | 14 => ⟨S_, .i32⟩
  | 15 => ⟨S16x32x100000, .i32⟩
  | 16 => ⟨S16x32x100000, .i32⟩
  | 17 => ⟨S_, .i32⟩
  | 18 => ⟨S16x32x100000, .i32⟩
  | 19 => ⟨S16x32x100000, .i32⟩
  | 20 => ⟨S16x32x100000, .i32⟩
  | 21 => ⟨S16x32x100000, .i32⟩
  | 22 => ⟨S16x32x100000, .i32⟩
  | 23 => ⟨S_, .i32⟩
  | 24 => ⟨S16x32x100000, .i32⟩
  | 25 => ⟨S16x32x100000, .i32⟩
  | 26 => ⟨S_, .i32⟩
  | 27 => ⟨S16x32x100000, .i32⟩
  | 28 => ⟨S16x32x100000, .i32⟩
  | 29 => ⟨S16x32x100000, .i32⟩
  | 30 => ⟨S16x32x100000, .i32⟩
  | 31 => ⟨S16x32x100000, .i32⟩
  | 32 => ⟨S16x32x100000, .i32⟩
  | 33 => ⟨S16x32x100000, .i32⟩
  | 34 => ⟨S16x32x100000, .i32⟩
  | 35 => ⟨S_, .i32⟩
  | 36 => ⟨S16x32x100000, .i32⟩
  | 37 => ⟨S16x32x100000, .i32⟩
  | 38 => ⟨S16x32x100000, .i32⟩
  | 39 => ⟨S_, .i32⟩
  | 40 => ⟨S16x32x100000, .i32⟩
  | 41 => ⟨S16x32x100000, .i32⟩
  | 42 => ⟨S_, .i32⟩
  | 43 => ⟨S16x32x100000, .i32⟩
  | 44 => ⟨S16x32x100000, .i32⟩
  | 45 => ⟨S16x32x100000, .f32⟩
  | 46 => ⟨S_, .f32⟩
  | 47 => ⟨S16x32x100000, .f32⟩
  | 48 => ⟨S16x32x100000, .f32⟩
  | 49 => ⟨S_, .f32⟩
  | 50 => ⟨S16x32x100000, .f32⟩
  | 51 => ⟨S16x32x100000, .f32⟩
  | 52 => ⟨S_, .f32⟩
  | 53 => ⟨S16x32x100000, .f32⟩
  | 54 => ⟨S16x32x100000, .f32⟩
  | 55 => ⟨S_, .f32⟩
  | 56 => ⟨S16x32x100000, .f32⟩
  | 57 => ⟨S16x32x100000, .f32⟩
  | 58 => ⟨S16x32x100000, .f32⟩
  | 59 => ⟨S16x32x100000, .f32⟩
  | 60 => ⟨S16x32x100000, .f32⟩
  | 61 => ⟨S16x32x100000, .f32⟩
  | 62 => ⟨S_, .f32⟩
  | 63 => ⟨S16x32x100000, .f32⟩
  | 64 => ⟨S16x32x100000, .f32⟩
  | 65 => ⟨S16x32x100000, .f32⟩
  | 66 => ⟨S16x32x100000, .i32⟩
  | 67 => ⟨S_, .f32⟩
  | 68 => ⟨S_, .i32⟩
  | 69 => ⟨S16x32, .f32⟩
  | 70 => ⟨S16x32, .i32⟩
  | 71 => ⟨S16x32, .i32⟩
  | _ => ⟨S16x32x100000, .f32⟩

abbrev hbmTy (i : Nat) : BufTy := match i / 128 with
  | 0 => hbmTy0_0 i
  | 1 => hbmTy0_1 i
  | 2 => hbmTy0_2 i
  | _ => ⟨S16x32x100000, .f32⟩

abbrev bufTy : (tb : Table) → Fin (tcTables nBuf tb) → BufTy
  | .hbm, ⟨i, _⟩ => hbmTy i
  | _, _ => ⟨S16x32x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_values : Ref sig .tc := ⟨.hbm, 33, rfl⟩
abbrev main_indices : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_c_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_9 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_c_11 : Ref sig .tc := ⟨.hbm, 59, rfl⟩
abbrev main_v40 : Ref sig .tc := ⟨.hbm, 60, rfl⟩
abbrev main_v41 : Ref sig .tc := ⟨.hbm, 61, rfl⟩
abbrev main_c_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_c_0 : Ref sig .tc := ⟨.hbm, 80, rfl⟩
abbrev main_call1_v7 : Ref sig .tc := ⟨.hbm, 81, rfl⟩
abbrev main_call1_v8 : Ref sig .tc := ⟨.hbm, 82, rfl⟩
abbrev main_call1_c_1 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_v12 : Ref sig .tc := ⟨.hbm, 87, rfl⟩
abbrev main_call1_v13 : Ref sig .tc := ⟨.hbm, 88, rfl⟩
abbrev main_call1_c_2 : Ref sig .tc := ⟨.hbm, 89, rfl⟩
abbrev main_call1_v14 : Ref sig .tc := ⟨.hbm, 90, rfl⟩
abbrev main_call1_v15 : Ref sig .tc := ⟨.hbm, 91, rfl⟩
abbrev main_call1_c_3 : Ref sig .tc := ⟨.hbm, 92, rfl⟩
abbrev main_call1_v16 : Ref sig .tc := ⟨.hbm, 93, rfl⟩
abbrev main_call1_v17 : Ref sig .tc := ⟨.hbm, 94, rfl⟩
abbrev main_call1_v18 : Ref sig .tc := ⟨.hbm, 95, rfl⟩
abbrev main_call1_v19 : Ref sig .tc := ⟨.hbm, 96, rfl⟩
abbrev main_call1_v20 : Ref sig .tc := ⟨.hbm, 97, rfl⟩
abbrev main_call1_c_4 : Ref sig .tc := ⟨.hbm, 98, rfl⟩
abbrev main_call1_v21 : Ref sig .tc := ⟨.hbm, 99, rfl⟩
abbrev main_call1_v22 : Ref sig .tc := ⟨.hbm, 100, rfl⟩
abbrev main_call1_c_5 : Ref sig .tc := ⟨.hbm, 101, rfl⟩
abbrev main_call1_v23 : Ref sig .tc := ⟨.hbm, 102, rfl⟩
abbrev main_call1_v24 : Ref sig .tc := ⟨.hbm, 103, rfl⟩
abbrev main_call1_v25 : Ref sig .tc := ⟨.hbm, 104, rfl⟩
abbrev main_call1_v26 : Ref sig .tc := ⟨.hbm, 105, rfl⟩
abbrev main_call1_v27 : Ref sig .tc := ⟨.hbm, 106, rfl⟩
abbrev main_call1_c_6 : Ref sig .tc := ⟨.hbm, 107, rfl⟩
abbrev main_call1_v28 : Ref sig .tc := ⟨.hbm, 108, rfl⟩
abbrev main_call1_v29 : Ref sig .tc := ⟨.hbm, 109, rfl⟩
abbrev main_call1_c_7 : Ref sig .tc := ⟨.hbm, 110, rfl⟩
abbrev main_call1_v30 : Ref sig .tc := ⟨.hbm, 111, rfl⟩
abbrev main_call1_v31 : Ref sig .tc := ⟨.hbm, 112, rfl⟩
abbrev main_call1_v32 : Ref sig .tc := ⟨.hbm, 113, rfl⟩
abbrev main_call1_v33 : Ref sig .tc := ⟨.hbm, 114, rfl⟩
abbrev main_call1_v34 : Ref sig .tc := ⟨.hbm, 115, rfl⟩
abbrev main_call1_v35 : Ref sig .tc := ⟨.hbm, 116, rfl⟩
abbrev main_call1_v36 : Ref sig .tc := ⟨.hbm, 117, rfl⟩
abbrev main_call1_v37 : Ref sig .tc := ⟨.hbm, 118, rfl⟩
abbrev main_call1_c_8 : Ref sig .tc := ⟨.hbm, 119, rfl⟩
abbrev main_call1_v38 : Ref sig .tc := ⟨.hbm, 120, rfl⟩
abbrev main_call1_v39 : Ref sig .tc := ⟨.hbm, 121, rfl⟩
abbrev main_call1_v40 : Ref sig .tc := ⟨.hbm, 122, rfl⟩
abbrev main_call1_c_9 : Ref sig .tc := ⟨.hbm, 123, rfl⟩
abbrev main_call1_v41 : Ref sig .tc := ⟨.hbm, 124, rfl⟩
abbrev main_call1_v42 : Ref sig .tc := ⟨.hbm, 125, rfl⟩
abbrev main_call1_c_10 : Ref sig .tc := ⟨.hbm, 126, rfl⟩
abbrev main_call1_v43 : Ref sig .tc := ⟨.hbm, 127, rfl⟩
abbrev main_call1_v44 : Ref sig .tc := ⟨.hbm, 128, rfl⟩
abbrev main_call1_v45 : Ref sig .tc := ⟨.hbm, 129, rfl⟩
abbrev main_call1_v46 : Ref sig .tc := ⟨.hbm, 130, rfl⟩
abbrev main_call1_v47 : Ref sig .tc := ⟨.hbm, 131, rfl⟩
abbrev main_call1_c_11 : Ref sig .tc := ⟨.hbm, 132, rfl⟩
abbrev main_call1_v48 : Ref sig .tc := ⟨.hbm, 133, rfl⟩
abbrev main_call1_v49 : Ref sig .tc := ⟨.hbm, 134, rfl⟩
abbrev main_call1_c_12 : Ref sig .tc := ⟨.hbm, 135, rfl⟩
abbrev main_call1_v50 : Ref sig .tc := ⟨.hbm, 136, rfl⟩
abbrev main_call1_v51 : Ref sig .tc := ⟨.hbm, 137, rfl⟩
abbrev main_call1_v52 : Ref sig .tc := ⟨.hbm, 138, rfl⟩
abbrev main_call1_v53 : Ref sig .tc := ⟨.hbm, 139, rfl⟩
abbrev main_call1_v54 : Ref sig .tc := ⟨.hbm, 140, rfl⟩
abbrev main_call1_c_13 : Ref sig .tc := ⟨.hbm, 141, rfl⟩
abbrev main_call1_v55 : Ref sig .tc := ⟨.hbm, 142, rfl⟩
abbrev main_call1_v56 : Ref sig .tc := ⟨.hbm, 143, rfl⟩
abbrev main_call1_c_14 : Ref sig .tc := ⟨.hbm, 144, rfl⟩
abbrev main_call1_v57 : Ref sig .tc := ⟨.hbm, 145, rfl⟩
abbrev main_call1_v58 : Ref sig .tc := ⟨.hbm, 146, rfl⟩
abbrev main_call1_v59 : Ref sig .tc := ⟨.hbm, 147, rfl⟩
abbrev main_call1_v60 : Ref sig .tc := ⟨.hbm, 148, rfl⟩
abbrev main_call1_v61 : Ref sig .tc := ⟨.hbm, 149, rfl⟩
abbrev main_call1_c_15 : Ref sig .tc := ⟨.hbm, 150, rfl⟩
abbrev main_call1_v62 : Ref sig .tc := ⟨.hbm, 151, rfl⟩
abbrev main_call1_v63 : Ref sig .tc := ⟨.hbm, 152, rfl⟩
abbrev main_call1_c_16 : Ref sig .tc := ⟨.hbm, 153, rfl⟩
abbrev main_call1_v64 : Ref sig .tc := ⟨.hbm, 154, rfl⟩
abbrev main_call1_v65 : Ref sig .tc := ⟨.hbm, 155, rfl⟩
abbrev main_call1_v66 : Ref sig .tc := ⟨.hbm, 156, rfl⟩
abbrev main_call1_v67 : Ref sig .tc := ⟨.hbm, 157, rfl⟩
abbrev main_call1_v68 : Ref sig .tc := ⟨.hbm, 158, rfl⟩
abbrev main_call1_v69 : Ref sig .tc := ⟨.hbm, 159, rfl⟩
abbrev main_call1_v70 : Ref sig .tc := ⟨.hbm, 160, rfl⟩
abbrev main_call1_v71 : Ref sig .tc := ⟨.hbm, 161, rfl⟩
abbrev main_call1_c_17 : Ref sig .tc := ⟨.hbm, 162, rfl⟩
abbrev main_call1_v72 : Ref sig .tc := ⟨.hbm, 163, rfl⟩
abbrev main_call1_v73 : Ref sig .tc := ⟨.hbm, 164, rfl⟩
abbrev main_call1_v74 : Ref sig .tc := ⟨.hbm, 165, rfl⟩
abbrev main_call1_c_18 : Ref sig .tc := ⟨.hbm, 166, rfl⟩
abbrev main_call1_v75 : Ref sig .tc := ⟨.hbm, 167, rfl⟩
abbrev main_call1_v76 : Ref sig .tc := ⟨.hbm, 168, rfl⟩
abbrev main_call1_c_19 : Ref sig .tc := ⟨.hbm, 169, rfl⟩
abbrev main_call1_v77 : Ref sig .tc := ⟨.hbm, 170, rfl⟩
abbrev main_call1_v78 : Ref sig .tc := ⟨.hbm, 171, rfl⟩
abbrev main_call1_v79 : Ref sig .tc := ⟨.hbm, 172, rfl⟩
abbrev main_call1_v80 : Ref sig .tc := ⟨.hbm, 173, rfl⟩
abbrev main_call1_v81 : Ref sig .tc := ⟨.hbm, 174, rfl⟩
abbrev main_call1_c_20 : Ref sig .tc := ⟨.hbm, 175, rfl⟩
abbrev main_call1_v82 : Ref sig .tc := ⟨.hbm, 176, rfl⟩
abbrev main_call1_v83 : Ref sig .tc := ⟨.hbm, 177, rfl⟩
abbrev main_call1_c_21 : Ref sig .tc := ⟨.hbm, 178, rfl⟩
abbrev main_call1_v84 : Ref sig .tc := ⟨.hbm, 179, rfl⟩
abbrev main_call1_v85 : Ref sig .tc := ⟨.hbm, 180, rfl⟩
abbrev main_call1_v86 : Ref sig .tc := ⟨.hbm, 181, rfl⟩
abbrev main_call1_v87 : Ref sig .tc := ⟨.hbm, 182, rfl⟩
abbrev main_call1_v88 : Ref sig .tc := ⟨.hbm, 183, rfl⟩
abbrev main_call1_c_22 : Ref sig .tc := ⟨.hbm, 184, rfl⟩
abbrev main_call1_v89 : Ref sig .tc := ⟨.hbm, 185, rfl⟩
abbrev main_call1_v90 : Ref sig .tc := ⟨.hbm, 186, rfl⟩
abbrev main_call1_c_23 : Ref sig .tc := ⟨.hbm, 187, rfl⟩
abbrev main_call1_v91 : Ref sig .tc := ⟨.hbm, 188, rfl⟩
abbrev main_call1_v92 : Ref sig .tc := ⟨.hbm, 189, rfl⟩
abbrev main_call1_v93 : Ref sig .tc := ⟨.hbm, 190, rfl⟩
abbrev main_call1_v94 : Ref sig .tc := ⟨.hbm, 191, rfl⟩
abbrev main_call1_v95 : Ref sig .tc := ⟨.hbm, 192, rfl⟩
abbrev main_call1_c_24 : Ref sig .tc := ⟨.hbm, 193, rfl⟩
abbrev main_call1_v96 : Ref sig .tc := ⟨.hbm, 194, rfl⟩
abbrev main_call1_v97 : Ref sig .tc := ⟨.hbm, 195, rfl⟩
abbrev main_call1_c_25 : Ref sig .tc := ⟨.hbm, 196, rfl⟩
abbrev main_call1_v98 : Ref sig .tc := ⟨.hbm, 197, rfl⟩
abbrev main_call1_v99 : Ref sig .tc := ⟨.hbm, 198, rfl⟩
abbrev main_call1_v100 : Ref sig .tc := ⟨.hbm, 199, rfl⟩
abbrev main_call1_v101 : Ref sig .tc := ⟨.hbm, 200, rfl⟩
abbrev main_call1_v102 : Ref sig .tc := ⟨.hbm, 201, rfl⟩
abbrev main_call1_v103 : Ref sig .tc := ⟨.hbm, 202, rfl⟩
abbrev main_call1_v104 : Ref sig .tc := ⟨.hbm, 203, rfl⟩
abbrev main_call1_v105 : Ref sig .tc := ⟨.hbm, 204, rfl⟩
abbrev main_call1_c_26 : Ref sig .tc := ⟨.hbm, 205, rfl⟩
abbrev main_call1_v106 : Ref sig .tc := ⟨.hbm, 206, rfl⟩
abbrev main_call1_v107 : Ref sig .tc := ⟨.hbm, 207, rfl⟩
abbrev main_call1_v108 : Ref sig .tc := ⟨.hbm, 208, rfl⟩
abbrev main_call1_c_27 : Ref sig .tc := ⟨.hbm, 209, rfl⟩
abbrev main_call1_v109 : Ref sig .tc := ⟨.hbm, 210, rfl⟩
abbrev main_call1_v110 : Ref sig .tc := ⟨.hbm, 211, rfl⟩
abbrev main_call1_c_28 : Ref sig .tc := ⟨.hbm, 212, rfl⟩
abbrev main_call1_v111 : Ref sig .tc := ⟨.hbm, 213, rfl⟩
abbrev main_call1_v112 : Ref sig .tc := ⟨.hbm, 214, rfl⟩
abbrev main_call1_v113 : Ref sig .tc := ⟨.hbm, 215, rfl⟩
abbrev main_call1_v114 : Ref sig .tc := ⟨.hbm, 216, rfl⟩
abbrev main_call1_v115 : Ref sig .tc := ⟨.hbm, 217, rfl⟩
abbrev main_call1_c_29 : Ref sig .tc := ⟨.hbm, 218, rfl⟩
abbrev main_call1_v116 : Ref sig .tc := ⟨.hbm, 219, rfl⟩
abbrev main_call1_v117 : Ref sig .tc := ⟨.hbm, 220, rfl⟩
abbrev main_call1_c_30 : Ref sig .tc := ⟨.hbm, 221, rfl⟩
abbrev main_call1_v118 : Ref sig .tc := ⟨.hbm, 222, rfl⟩
abbrev main_call1_v119 : Ref sig .tc := ⟨.hbm, 223, rfl⟩
abbrev main_call1_v120 : Ref sig .tc := ⟨.hbm, 224, rfl⟩
abbrev main_call1_v121 : Ref sig .tc := ⟨.hbm, 225, rfl⟩
abbrev main_call1_v122 : Ref sig .tc := ⟨.hbm, 226, rfl⟩
abbrev main_call1_c_31 : Ref sig .tc := ⟨.hbm, 227, rfl⟩
abbrev main_call1_v123 : Ref sig .tc := ⟨.hbm, 228, rfl⟩
abbrev main_call1_v124 : Ref sig .tc := ⟨.hbm, 229, rfl⟩
abbrev main_call1_c_32 : Ref sig .tc := ⟨.hbm, 230, rfl⟩
abbrev main_call1_v125 : Ref sig .tc := ⟨.hbm, 231, rfl⟩
abbrev main_call1_v126 : Ref sig .tc := ⟨.hbm, 232, rfl⟩
abbrev main_call1_v127 : Ref sig .tc := ⟨.hbm, 233, rfl⟩
abbrev main_call1_v128 : Ref sig .tc := ⟨.hbm, 234, rfl⟩
abbrev main_call1_v129 : Ref sig .tc := ⟨.hbm, 235, rfl⟩
abbrev main_call1_c_33 : Ref sig .tc := ⟨.hbm, 236, rfl⟩
abbrev main_call1_v130 : Ref sig .tc := ⟨.hbm, 237, rfl⟩
abbrev main_call1_v131 : Ref sig .tc := ⟨.hbm, 238, rfl⟩
abbrev main_call1_c_34 : Ref sig .tc := ⟨.hbm, 239, rfl⟩
abbrev main_call1_v132 : Ref sig .tc := ⟨.hbm, 240, rfl⟩
abbrev main_call1_v133 : Ref sig .tc := ⟨.hbm, 241, rfl⟩
abbrev main_call1_v134 : Ref sig .tc := ⟨.hbm, 242, rfl⟩
abbrev main_call1_v135 : Ref sig .tc := ⟨.hbm, 243, rfl⟩
abbrev main_call1_v136 : Ref sig .tc := ⟨.hbm, 244, rfl⟩
abbrev main_call1_v137 : Ref sig .tc := ⟨.hbm, 245, rfl⟩
abbrev main_call1_v138 : Ref sig .tc := ⟨.hbm, 246, rfl⟩
abbrev main_call1_v139 : Ref sig .tc := ⟨.hbm, 247, rfl⟩
abbrev main_call1_c_35 : Ref sig .tc := ⟨.hbm, 248, rfl⟩
abbrev main_call1_v140 : Ref sig .tc := ⟨.hbm, 249, rfl⟩
abbrev main_call1_v141 : Ref sig .tc := ⟨.hbm, 250, rfl⟩
abbrev main_call1_v142 : Ref sig .tc := ⟨.hbm, 251, rfl⟩
abbrev main_call1_c_36 : Ref sig .tc := ⟨.hbm, 252, rfl⟩
abbrev main_call1_v143 : Ref sig .tc := ⟨.hbm, 253, rfl⟩
abbrev main_call1_v144 : Ref sig .tc := ⟨.hbm, 254, rfl⟩
abbrev main_call1_c_37 : Ref sig .tc := ⟨.hbm, 255, rfl⟩
abbrev main_call1_v145 : Ref sig .tc := ⟨.hbm, 256, rfl⟩
abbrev main_call1_v146 : Ref sig .tc := ⟨.hbm, 257, rfl⟩
abbrev main_call1_v147 : Ref sig .tc := ⟨.hbm, 258, rfl⟩
abbrev main_call1_v148 : Ref sig .tc := ⟨.hbm, 259, rfl⟩
abbrev main_call1_v149 : Ref sig .tc := ⟨.hbm, 260, rfl⟩
abbrev main_call1_c_38 : Ref sig .tc := ⟨.hbm, 261, rfl⟩
abbrev main_call1_v150 : Ref sig .tc := ⟨.hbm, 262, rfl⟩
abbrev main_call1_v151 : Ref sig .tc := ⟨.hbm, 263, rfl⟩
abbrev main_call1_c_39 : Ref sig .tc := ⟨.hbm, 264, rfl⟩
abbrev main_call1_v152 : Ref sig .tc := ⟨.hbm, 265, rfl⟩
abbrev main_call1_v153 : Ref sig .tc := ⟨.hbm, 266, rfl⟩
abbrev main_call1_v154 : Ref sig .tc := ⟨.hbm, 267, rfl⟩
abbrev main_call1_v155 : Ref sig .tc := ⟨.hbm, 268, rfl⟩
abbrev main_call1_v156 : Ref sig .tc := ⟨.hbm, 269, rfl⟩
abbrev main_call1_c_40 : Ref sig .tc := ⟨.hbm, 270, rfl⟩
abbrev main_call1_v157 : Ref sig .tc := ⟨.hbm, 271, rfl⟩
abbrev main_call1_v158 : Ref sig .tc := ⟨.hbm, 272, rfl⟩
abbrev main_call1_c_41 : Ref sig .tc := ⟨.hbm, 273, rfl⟩
abbrev main_call1_v159 : Ref sig .tc := ⟨.hbm, 274, rfl⟩
abbrev main_call1_v160 : Ref sig .tc := ⟨.hbm, 275, rfl⟩
abbrev main_call1_v161 : Ref sig .tc := ⟨.hbm, 276, rfl⟩
abbrev main_call1_v162 : Ref sig .tc := ⟨.hbm, 277, rfl⟩
abbrev main_call1_v163 : Ref sig .tc := ⟨.hbm, 278, rfl⟩
abbrev main_call1_c_42 : Ref sig .tc := ⟨.hbm, 279, rfl⟩
abbrev main_call1_v164 : Ref sig .tc := ⟨.hbm, 280, rfl⟩
abbrev main_call1_v165 : Ref sig .tc := ⟨.hbm, 281, rfl⟩
abbrev main_call1_c_43 : Ref sig .tc := ⟨.hbm, 282, rfl⟩
abbrev main_call1_v166 : Ref sig .tc := ⟨.hbm, 283, rfl⟩
abbrev main_call1_v167 : Ref sig .tc := ⟨.hbm, 284, rfl⟩
abbrev main_call1_v168 : Ref sig .tc := ⟨.hbm, 285, rfl⟩
abbrev main_call1_v169 : Ref sig .tc := ⟨.hbm, 286, rfl⟩
abbrev main_call1_v170 : Ref sig .tc := ⟨.hbm, 287, rfl⟩
abbrev main_v50_0 : Ref sig .tc := ⟨.hbm, 288, rfl⟩
abbrev main_call1_v172 : Ref sig .tc := ⟨.hbm, 289, rfl⟩
abbrev main_call1_v173 : Ref sig .tc := ⟨.hbm, 290, rfl⟩
abbrev main_call1_c_44 : Ref sig .tc := ⟨.hbm, 291, rfl⟩
abbrev main_call1_v174 : Ref sig .tc := ⟨.hbm, 292, rfl⟩
abbrev main_v50_1 : Ref sig .tc := ⟨.hbm, 293, rfl⟩
abbrev main_v51 : Ref sig .tc := ⟨.hbm, 294, rfl⟩
abbrev main_c_14 : Ref sig .tc := ⟨.hbm, 295, rfl⟩
abbrev main_v52 : Ref sig .tc := ⟨.hbm, 296, rfl⟩
abbrev main_v53 : Ref sig .tc := ⟨.hbm, 297, rfl⟩
abbrev main_c_15 : Ref sig .tc := ⟨.hbm, 298, rfl⟩
abbrev main_v54 : Ref sig .tc := ⟨.hbm, 299, rfl⟩
abbrev main_v55 : Ref sig .tc := ⟨.hbm, 300, rfl⟩
abbrev main_v56 : Ref sig .tc := ⟨.hbm, 301, rfl⟩
abbrev main_cst_16 : Ref sig .tc := ⟨.hbm, 302, rfl⟩
abbrev main_v57 : Ref sig .tc := ⟨.hbm, 303, rfl⟩
abbrev main_v58 : Ref sig .tc := ⟨.hbm, 304, rfl⟩
abbrev main_cst_17 : Ref sig .tc := ⟨.hbm, 305, rfl⟩
abbrev main_v59 : Ref sig .tc := ⟨.hbm, 306, rfl⟩
abbrev main_v60 : Ref sig .tc := ⟨.hbm, 307, rfl⟩
abbrev main_cst_18 : Ref sig .tc := ⟨.hbm, 308, rfl⟩
abbrev main_v61 : Ref sig .tc := ⟨.hbm, 309, rfl⟩
abbrev main_v62 : Ref sig .tc := ⟨.hbm, 310, rfl⟩
abbrev main_cst_19 : Ref sig .tc := ⟨.hbm, 311, rfl⟩
abbrev main_v63 : Ref sig .tc := ⟨.hbm, 312, rfl⟩
abbrev main_v64 : Ref sig .tc := ⟨.hbm, 313, rfl⟩
abbrev main_v65 : Ref sig .tc := ⟨.hbm, 314, rfl⟩
abbrev main_v66 : Ref sig .tc := ⟨.hbm, 315, rfl⟩
abbrev main_v67 : Ref sig .tc := ⟨.hbm, 316, rfl⟩
abbrev main_v68 : Ref sig .tc := ⟨.hbm, 317, rfl⟩
abbrev main_cst_20 : Ref sig .tc := ⟨.hbm, 318, rfl⟩
abbrev main_v69 : Ref sig .tc := ⟨.hbm, 319, rfl⟩
abbrev main_v70 : Ref sig .tc := ⟨.hbm, 320, rfl⟩
abbrev main_v71 : Ref sig .tc := ⟨.hbm, 321, rfl⟩
abbrev main_call2_v0 : Ref sig .tc := ⟨.hbm, 322, rfl⟩
abbrev main_call2_cst : Ref sig .tc := ⟨.hbm, 323, rfl⟩
abbrev main_call2_c : Ref sig .tc := ⟨.hbm, 324, rfl⟩
abbrev main_call2_v1_0 : Ref sig .tc := ⟨.hbm, 325, rfl⟩
abbrev main_v72 : Ref sig .tc := ⟨.hbm, 326, rfl⟩
abbrev main_v73 : Ref sig .tc := ⟨.hbm, 327, rfl⟩

abbrev nD : Nat := 1
abbrev τ : Topo := Topo.v7x

variable {F : FTy → Type} [FloatOps F]
-- ==== Proof.KernelIdeal.RegionConf.lean ====
/-
  The first call's body (`_conf_body`) at any point of its grid, over any contents of the buffers at the entry: what the
  body leaves in the output's staging buffer, and the pipeline's body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.ConfCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole logits block, -/
abbrev rIn : Rect S8x100000 := Rect.unit (s := S8x100000) ![0, 0] S8x100000.size inb_S8x100000_S8x100000_0_0
/-- and the whole block of the confidences. -/
abbrev rOut : Rect S1x1x8 := Rect.unit (s := S1x1x8) ![0, 0, 0] S1x1x8.size inb_S1x1x8_S1x1x8_0_0_0

/-- What the body leaves in the output's staging buffer, from the logits block. -/
def out (x : Vec F S8x100000 .f32) : Vec F S1x1x8 .f32 := View.canon [⟨rOut, k0_pay1 (View.ld x rIn)⟩]

/-- Its one store covers the buffer. -/
theorem cover (p : Vec F S1x1x8 .f32) (y : S1x1x8.Idx) :
    ∃ pc ∈ ([⟨rOut, p⟩] : List (View.Piece (Elt F) S1x1x8 .f32)), y ∈ pc.1.set :=
  View.cover_of_tiled [⟨rOut, p⟩] S1x1x8.size (by rfl) y

set_option maxHeartbeats 1000000 in
/-- The body keeps its input's block and leaves the output's buffer at `out` of it. -/
theorem triple (c : Dev nD) (E : Set ℕ) (i : grid0.Coords) (a1 : Memref sig .tc .vmem S8x100000 .f32) (h1 : a1.IsWhole)
    (a2 : Memref sig .tc .vmem S1x1x8 .f32) (h2 : a2.IsWhole) (x : Vec F S8x100000 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (out x)) -∗ K ⟨⟩))
      ⊢ wp frame (wpE (defs₀ (F := F)) Variants.none c none) E (cc0__conf_body i a1 h1 a2 h2) K := by
  simp only [cc0__conf_body_eq_skeleton]; unfold cc0__conf_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

-- the contents of the buffers when the call is entered
variable (V : (c : Dev nD) → Valuation τ sig (Elt F))

/-- Window `w`'s block at point `t` of its array at the entry. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The call's proof data: the arrays at the entry; after a point the input's buffer at its block and the output's at
    `out` of it; nothing of its own, nothing owed. -/
def dat (c : Dev nD) : Dat τ (Elt F) Unit ℕ (UR sig nD τ) ℕ cfg0 c where
  A w := V c (Proc.devRef .tc (Pipeline.arrRef spec0 w))
  after w t := match w with
    | ⟨0, _⟩ => blk V c 0 t
    | ⟨1, _⟩ => out (blk V c 0 t)
  Φ _ := Pipeline.scopedRest spec0 c
  q _ := fullShare
  owed _ := 0

theorem after_in (c : Dev nD) (t : Fin cfg0.N) : (dat V c).after 0 t = blk V c 0 t := by dsimp only [dat]
theorem after_out (c : Dev nD) (t : Fin cfg0.N) : (dat V c).after 1 t = out (blk V c 0 t) := by dsimp only [dat]
theorem A_eq (c : Dev nD) (w : Fin cfg0.W) : (dat V c).A w = V c (Proc.devRef .tc (Pipeline.arrRef spec0 w)) := by dsimp only [dat]

/-- The input's buffer holds its block when the body runs. -/
theorem before_in (c : Dev nD) (t : Fin cfg0.N) (d) : (dat V c).before 0 t d = blk V c 0 t :=
  ((dat V c).before_in_eq_fetched 0 rfl (fun _ => rfl) (fun _ _ _ => rfl)
    (fun t => by rw [after_in]; unfold Dat.blockOf blk; rw [A_eq]; try rfl) t d).trans
    (by unfold Dat.fetched Dat.blockOf blk; rw [A_eq]; try rfl)

/-- What the body is called with at point `t`, -/
def pre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def post (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem at_point (c : Dev nD) (t : Fin cfg0.N) :
    pre V c t ⊢ wp frame (wpE (defs₀ (F := F)) Variants.none c none) Set.univ (bodyAt0 t) (fun _ => post V c t) := by
  unfold pre post bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (triple c Set.univ (grid0.coords t) _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem row (t : Fin cfg0.N) : defs₀ (F := F) .tc cfg0.body (cfg0.bodyArgs t (cfg0.slots t)) = bodyAt0 t := by
  unfold defs₀; rw [Defs.onTc_tc]

/-- The pipeline's obligation of the body, at every point. -/
theorem obligation (c : Dev nD) : BodyObligation (dat V c) (defs₀ (F := F)) Variants.none () Set.univ := fun t => by
  rw [bigSep_W0, bigSep_W0, row]
  exact triple_restated (at_point V c t) rfl .rfl fun _ => .rfl

end Cert.KernelIdeal.ConfCall

end
-- ==== Proof.KernelIdeal.RegionSelect.lean ====
/-
  The second call's body (`_select_body`), over any contents of the buffers at the entry: what the body leaves in the
  output's staging buffer, and the pipeline's body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.SelectCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole array, of each of the three. -/
abbrev rAll : Rect S16x32 := Rect.unit (s := S16x32) ![0, 0] S16x32.size inb_S16x32_S16x32_0_0

/-- The positions the body selects, from the confidences and the tokens. -/
def pos (x : Vec F S16x32 .f32) (y : Vec F S16x32 .i32) : Vec F S16x32 .i32 :=
  k1_pay1 (k1_pay2 y) (k1_pay3 x y) (k1_pay4 x y) (k1_pay5 x y) (Scalar.ofBits .f32 0xFF800000#32 : F .f32)

/-- What the body leaves in the output's staging buffer, from the two inputs. -/
def out (x : Vec F S16x32 .f32) (y : Vec F S16x32 .i32) : Vec F S16x32 .i32 :=
  View.canon [⟨rAll, pos (View.ld x rAll) (View.ld y rAll)⟩]

/-- Its one store covers the buffer. -/
theorem cover (p : Vec F S16x32 .i32) (y : S16x32.Idx) :
    ∃ pc ∈ ([⟨rAll, p⟩] : List (View.Piece (Elt F) S16x32 .i32)), y ∈ pc.1.set :=
  View.cover_of_tiled [⟨rAll, p⟩] S16x32.size (by rfl) y

set_option maxHeartbeats 1000000 in
/-- The body keeps its inputs' blocks and leaves the output's buffer at `out` of them. -/
theorem triple (c : Dev nD) (E : Set ℕ) (a0 : Memref sig .tc .vmem S16x32 .f32) (h0 : a0.IsWhole)
    (a1 : Memref sig .tc .vmem S16x32 .i32) (h1 : a1.IsWhole) (a2 : Memref sig .tc .vmem S16x32 .i32) (h2 : a2.IsWhole)
    (x : Vec F S16x32 .f32) (y : Vec F S16x32 .i32) (K : PUnit → sProp 𝕄) :
    iprop(owns (c : Thread nD τ) a0 fullShare x ∗ owns (c : Thread nD τ) a1 fullShare y ∗ (∃ d, owns (c : Thread nD τ) a2 fullShare d)
        ∗ (iprop(owns (c : Thread nD τ) a0 fullShare x ∗ owns (c : Thread nD τ) a1 fullShare y
            ∗ owns (c : Thread nD τ) a2 fullShare (out x y)) -∗ K ⟨⟩))
      ⊢ wp frame (wpE (defs₀ (F := F)) Variants.none c none) E (cc1__select_body a0 h0 a1 h1 a2 h2) K := by
  simp only [cc1__select_body_eq_skeleton]; unfold cc1__select_body_skel
  simp only [k1_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

-- the contents of the buffers when the call is entered
variable (V : (c : Dev nD) → Valuation τ sig (Elt F))

/-- Window `w`'s block at the one point: its array at the entry. -/
def blk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The call's proof data: the arrays at the entry; after the point the inputs' buffers at their blocks and the output's
    at `out` of them; nothing of its own, nothing owed. -/
def dat (c : Dev nD) : Dat τ (Elt F) Unit ℕ (UR sig nD τ) ℕ cfg1 c where
  A w := V c (Proc.devRef .tc (Pipeline.arrRef spec1 w))
  after w t := match w with
    | ⟨0, _⟩ => blk V c 0 t
    | ⟨1, _⟩ => blk V c 1 t
    | ⟨2, _⟩ => out (blk V c 0 t) (blk V c 1 t)
  Φ _ := Pipeline.scopedRest spec1 c
  q _ := fullShare
  owed _ := 0

theorem after_conf (c : Dev nD) (t : Fin cfg1.N) : (dat V c).after 0 t = blk V c 0 t := by dsimp only [dat]
theorem after_tok (c : Dev nD) (t : Fin cfg1.N) : (dat V c).after 1 t = blk V c 1 t := by dsimp only [dat]
theorem after_out (c : Dev nD) (t : Fin cfg1.N) : (dat V c).after 2 t = out (blk V c 0 t) (blk V c 1 t) := by dsimp only [dat]
theorem A_eq (c : Dev nD) (w : Fin cfg1.W) : (dat V c).A w = V c (Proc.devRef .tc (Pipeline.arrRef spec1 w)) := by dsimp only [dat]

/-- Each input's buffer holds its block when the body runs. -/
theorem before_conf (c : Dev nD) (t : Fin cfg1.N) (d) : (dat V c).before 0 t d = blk V c 0 t :=
  ((dat V c).before_in_eq_fetched 0 rfl (fun _ => rfl) (fun _ _ _ => rfl)
    (fun t => by rw [after_conf]; unfold Dat.blockOf blk; rw [A_eq]; try rfl) t d).trans
    (by unfold Dat.fetched Dat.blockOf blk; rw [A_eq]; try rfl)
theorem before_tok (c : Dev nD) (t : Fin cfg1.N) (d) : (dat V c).before 1 t d = blk V c 1 t :=
  ((dat V c).before_in_eq_fetched 1 rfl (fun _ => rfl) (fun _ _ _ => rfl)
    (fun t => by rw [after_tok]; unfold Dat.blockOf blk; rw [A_eq]; try rfl) t d).trans
    (by unfold Dat.fetched Dat.blockOf blk; rw [A_eq]; try rfl)

/-- What the body is called with, -/
def pre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def post (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem at_point (c : Dev nD) (t : Fin cfg1.N) :
    pre V c t ⊢ wp frame (wpE (defs₀ (F := F)) Variants.none c none) Set.univ (bodyAt1 t) (fun _ => post V c t) := by
  unfold pre post bodyAt1
  simp only [before_conf, before_tok]
  rw [show (dat V c).Φ t.succ = (dat V c).Φ t.castSucc from rfl,
    show (dat V c).owesAt () t.succ = (dat V c).owesAt () t.castSucc from rfl,
    after_conf, after_tok, after_out]
  iintro ⟨HΦ, Ho, ⟨%d0, H0⟩, ⟨%d1, H1⟩, ⟨%d2, H2⟩⟩
  iapply (triple c Set.univ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row (t : Fin cfg1.N) : defs₀ (F := F) .tc cfg1.body (cfg1.bodyArgs t (cfg1.slots t)) = bodyAt1 t := by
  unfold defs₀; rw [Defs.onTc_tc]

/-- The pipeline's obligation of the body. -/
theorem obligation (c : Dev nD) : BodyObligation (dat V c) (defs₀ (F := F)) Variants.none () Set.univ := fun t => by
  rw [bigSep_W1, bigSep_W1, row]
  exact triple_restated (at_point V c t) rfl .rfl fun _ => .rfl

end Cert.KernelIdeal.SelectCall

end
-- ==== Proof.KernelIdeal.FinalSelect.lean ====
/-
  What the second call leaves in its output's array: the positions selected, of the confidences and the tokens that its
  two input arrays hold. Each word is a bit, widened.
-/
module

public import proofs.«01_k».proof.Proof.KernelIdeal.RegionSelect
public import Idealize.ShloMosaic.Lib.Pipeline.Value
public import Idealize.ShloMosaic.Lib.VecWindow

@[expose] public section

set_option maxRecDepth 16384

noncomputable section

namespace Cert.KernelIdeal.SelectCall

open Cert.KernelIdeal.Gen
open Idealize.ShloMosaic Idealize.ShloMosaic.TcCoe
open Idealize.ShloMosaic.Pipeline (Dat Cfg Window)

variable {F : FTy → Type} [FloatOps F]

theorem emb_all (j : S16x32.Idx) : rAll.emb j = j := by
  refine funext fun a => Fin.ext ?_
  match a with
  | ⟨0, _⟩ => show 0 + 1 * (j 0).val = (j 0).val; omega
  | ⟨1, _⟩ => show 0 + 1 * (j 1).val = (j 1).val; omega

theorem ld_all {e : EltTy} (x : Vec F S16x32 e) : View.ld x rAll = x := by
  funext j
  exact congrArg x (emb_all j)

/-- What the body leaves, entry by entry. -/
theorem out_eq (x : Vec F S16x32 .f32) (y : Vec F S16x32 .i32) : out x y = pos x y := by
  funext j
  unfold out
  rw [ld_all, ld_all]
  have h := View.canon_cons_emb (Val := Elt F) (e := .i32) rAll (pos x y) [] j
  rw [emb_all] at h
  exact h

variable (V : (c : Dev nD) → Valuation τ sig (Elt F))

theorem blk_conf (c : Dev nD) (t : Fin cfg1.N) : blk V c 0 t = V c (Proc.devRef .tc main_v2) := by
  funext j
  show V c (Proc.devRef .tc main_v2) (((cfg1.win 0).rect t).emb j) = V c (Proc.devRef .tc main_v2) j
  refine congrArg (V c (Proc.devRef .tc main_v2)) (funext fun b => Fin.ext ?_)
  exact Pipeline.Window.rect_emb_val_of_index_zero (cfg1.win 0) t b rfl j

theorem blk_tok (c : Dev nD) (t : Fin cfg1.N) : blk V c 1 t = V c (Proc.devRef .tc main_arg1) := by
  funext j
  show V c (Proc.devRef .tc main_arg1) (((cfg1.win 1).rect t).emb j) = V c (Proc.devRef .tc main_arg1) j
  refine congrArg (V c (Proc.devRef .tc main_arg1)) (funext fun b => Fin.ext ?_)
  exact Pipeline.Window.rect_emb_val_of_index_zero (cfg1.win 1) t b rfl j

theorem emb_out (t : Fin cfg1.N) (j : S16x32.Idx) : (((cfg1.win 2).rect t).emb j : S16x32.Idx) = j := by
  refine funext fun b => Fin.ext ?_
  exact Pipeline.Window.rect_emb_val_of_index_zero (cfg1.win 2) t b rfl j

/-- The array after the call. -/
theorem final (c : Dev nD) :
    (dat V c).arrAt 2 cfg1.N = pos (V c (Proc.devRef .tc main_v2)) (V c (Proc.devRef .tc main_arg1)) := by
  refine Dat.arrAt_eq_of_cover (dat V c) 2 (pos (V c (Proc.devRef .tc main_v2)) (V c (Proc.devRef .tc main_arg1))) (fun t hf => ?_)
    (fun i => ⟨⟨0, by decide⟩, by decide, ?_⟩)
  · show (dat V c).after 2 t = _
    rw [after_out, blk_conf, blk_tok, out_eq]
    funext j
    exact (congrArg (pos (V c (Proc.devRef .tc main_v2)) (V c (Proc.devRef .tc main_arg1))) (emb_out t j)).symm
  · have e := emb_out ⟨0, by decide⟩ i
    have h := View.emb_mem_set ((cfg1.win 2).blk ⟨0, by decide⟩).view i
    exact e ▸ h

/-- A position as a bit. -/
def bit (x : Vec F S16x32 .f32) (y : Vec F S16x32 .i32) (j : S16x32.Idx) : BitVec 1 :=
  IntOp.andi (k1_pay2 (F := F) y j) (FloatOps.cmpf .oge (k1_pay3 x y j)
    (broadcastTo S16x32 (shapeCast S16x1 (multiReduction .maximumf [1] S16
      (select (k1_pay5 x y) (broadcast S16x32 (Scalar.ofBits .f32 0xFF800000#32 : F .f32)) (k1_pay4 x y))
      0xFF800000#32 reduces_S16x32_S16 (.inl rfl) rfl) shapeCasts_S16_S16x1) broadcasts_S16x1_S16x32 j))

theorem pos_eq (x : Vec F S16x32 .f32) (y : Vec F S16x32 .i32) (j : S16x32.Idx) : pos x y j = (bit x y j).setWidth 32 := rfl

end Cert.KernelIdeal.SelectCall
-- ==== Proof.KernelIdeal.SampleBody.lean ====
/-
  The third call's body (`_sample_body`): what one grid point leaves in the output's staging buffer, from the two
  prefetched tables and the two input blocks. Three cases: the point samples a row, the point copies a block because no
  row is selected, or the point does nothing.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.SampleCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the row table that a point reads, -/
abbrev word (T : pre2.Contents (Elt F)) (i : grid2.Coords) : BitVec 32 :=
  T.at 0 (Rect.unit (s := S512) (k2_off2 i) S1.size (k2_off2_inb i)) numel1_S1

/-- and the count. -/
abbrev count (T : pre2.Contents (Elt F)) : BitVec 32 :=
  T.at 1 (Rect.unit (s := S1) ![0] S1.size inb_S1_S1_0) numel1_S1

/-- The whole block of an input or of the output. -/
abbrev rRow : Rect S1x8x12500 := Rect.unit (s := S1x8x12500) ![0, 0, 0] S1x8x12500.size inb_S1x8x12500_S1x8x12500_0_0_0
abbrev rTok : Rect S1x1x8 := Rect.unit (s := S1x1x8) ![0, 0, 0] S1x1x8.size inb_S1x1x8_S1x1x8_0_0_0

/-- The random bits of a row and their two halves before the last xor. -/
def words (w : BitVec 32) : IVec S8x12500 32 × IVec S8x12500 32 :=
  let a := k2_pay12 (F := F) w
  let b := k2_pay13 (F := F) w
  let c := k2_pay22 a b
  let d := k2_pay23 a b
  let e := k2_pay24 a b
  let p := k2_pay35 c d e 19#32
  let q := k2_pay36 c d e 19#32
  (k2_pay46 p q 16#32, k2_pay47 p q 16#32)

/-- The token a point samples, from the row's number and the row's logits. -/
def sample (w : BitVec 32) (x : Vec F S1x8x12500 .f32) : BitVec 32 :=
  extractAt ![0, 0, 0] (k2_pay48 (k2_pay3 x) k2_pay4 (words (F := F) w).1 (words (F := F) w).2) inpos_S1x1x1_p0_0_0

/-- What a sampling point leaves in the output's buffer, -/
def hit (w : BitVec 32) (x : Vec F S1x8x12500 .f32) : Vec F S1x1x8 .i32 :=
  View.canon [⟨rTok, k2_pay1 (sample w (View.ld x rRow))⟩]
/-- and a copying one. -/
def copied (y : Vec F S1x1x8 .i32) : Vec F S1x1x8 .i32 :=
  View.canon [⟨rTok, k2_pay2 (View.ld y rTok)⟩]

/-- The one store of either covers the buffer. -/
theorem cover (p : Vec F S1x1x8 .i32) (y : S1x1x8.Idx) :
    ∃ pc ∈ ([⟨rTok, p⟩] : List (View.Piece (Elt F) S1x1x8 .i32)), y ∈ pc.1.set :=
  View.cover_of_tiled [⟨rTok, p⟩] S1x1x8.size (by rfl) y

/-- The tables' contents as contents of their buffers. -/
abbrev rowTable (c : Dev nD) (T : pre2.Contents (Elt F)) : Buf (Elt F) ((c : Thread nD τ).loc main_v19) := T 0
abbrev countTable (c : Dev nD) (T : pre2.Contents (Elt F)) : Buf (Elt F) ((c : Thread nD τ).loc main_v23) := T 1

/-- The two tables, held whole. -/
def tables (c : Dev nD) (T : pre2.Contents (Elt F)) : sProp 𝕄 :=
  iprop((∃ f : Buf (Elt F) ((c : Thread nD τ).loc main_v19), ⌜f = rowTable c T⌝ ∗ (((c : Thread nD τ).loc main_v19) ↦{fullShare} f))
    ∗ (∃ f : Buf (Elt F) ((c : Thread nD τ).loc main_v23), ⌜f = countTable c T⌝ ∗ (((c : Thread nD τ).loc main_v23) ↦{fullShare} f)))

/-- The body's load from the row table reads the point's word, -/
theorem read_word (c : Dev nD) (T : pre2.Contents (Elt F)) (i : grid2.Coords) (f : Buf (Elt F) ((c : Thread nD τ).loc main_v19))
    (hf : f = rowTable c T) :
    (((Memref.whole main_v19).access (Rect.unit (s := S512) (k2_off2 i) S1.size (k2_off2_inb i)) : View sig .tc _ _ _).read (Elt F) f)
      (Shape.Idx.first (s := S1) (numel1_S1.symm ▸ Nat.one_pos)) = word T i := by
  subst hf; rfl

/-- and its load from the other the count. -/
theorem read_count (c : Dev nD) (T : pre2.Contents (Elt F)) (f : Buf (Elt F) ((c : Thread nD τ).loc main_v23))
    (hf : f = countTable c T) :
    (((Memref.whole main_v23).access (Rect.unit (s := S1) ![0] S1.size inb_S1_S1_0) : View sig .tc _ _ _).read (Elt F) f)
      (Shape.Idx.first (s := S1) (numel1_S1.symm ▸ Nat.one_pos)) = count T := by
  subst hf; rfl

set_option maxHeartbeats 2000000 in
/-- A point below the count, which is not zero, samples its row. -/
theorem triple_hit (c : Dev nD) (E : Set ℕ) (i : grid2.Coords) (T : pre2.Contents (Elt F))
    (hc1 : k2_cond1 i (count T) = 1#1) (hc2 : ¬ k2_cond2 (count T) = 1#1)
    (a3 : Memref sig .tc .vmem S1x8x12500 .f32) (h3 : a3.IsWhole)
    (a4 : Memref sig .tc .vmem S1x1x8 .i32) (h4 : a4.IsWhole) (a5 : Memref sig .tc .vmem S1x1x8 .i32) (h5 : a5.IsWhole)
    (x : Vec F S1x8x12500 .f32) (K : PUnit → sProp 𝕄) :
    iprop(tables c T ∗ owns (c : Thread nD τ) a3 fullShare x ∗ (∃ d, owns (c : Thread nD τ) a5 fullShare d)
        ∗ (iprop(tables c T ∗ owns (c : Thread nD τ) a3 fullShare x
            ∗ owns (c : Thread nD τ) a5 fullShare (hit (word T i) x)) -∗ K ⟨⟩))
      ⊢ wp frame (wpE (defs₀ (F := F)) Variants.none c none) E
          (cc2__sample_body i (Memref.whole main_v19) (Memref.isWhole_whole _) (Memref.whole main_v23) (Memref.isWhole_whole _)
            a3 h3 a4 h4 a5 h5) K := by
  simp only [cc2__sample_body_eq_skeleton]; unfold cc2__sample_body_skel
  simp only [k2_part1_eq_skeleton, k2_part2_eq_skeleton, k2_part3_eq_skeleton, k2_part4_eq_skeleton, k2_part5_eq_skeleton]
  unfold k2_part1_skel k2_part2_skel k2_part3_skel k2_part4_skel k2_part5_skel
  unfold owns tables smemLoad smemLoadElt
  iintro ⟨⟨⟨%g0, %hT0, HT0⟩, ⟨%g1, %hT1, HT1⟩⟩, ⟨%f3, %hf3, H3⟩, ⟨%d5, %f5, -, H5⟩, Hk⟩
  subst hf3
  simp only [Prog.bind_op, Prog.bind_ret]
  iapply (wp_load_rect Variants.none (c : Thread nD τ) none E (m := Memref.whole main_v23)
    (r := Rect.unit (s := S1) ![0] S1.size inb_S1_S1_0) (Finset.subset_univ _)) $$ HT1
  iintro HT1
  rw [read_count c T _ hT1, dif_pos hc1, dif_neg hc2]
  simp only [Prog.bind_op, Prog.bind_ret]
  iapply (wp_load_rect Variants.none (c : Thread nD τ) none E (m := Memref.whole main_v19)
    (r := Rect.unit (s := S512) (k2_off2 i) S1.size (k2_off2_inb i)) (Finset.subset_univ _)) $$ HT0
  iintro HT0
  rw [read_word c T i _ hT0]
  sl_exec
  sl_step
  iapply Hk
  isplitl [HT0 HT1]
  · isplitl [HT0]
    · iexists g0; isplitr; · ipureintro; exact hT0
      iexact HT0
    iexists g1; isplitr; · ipureintro; exact hT1
    iexact HT1
  isplitl [H3]
  · iexists f3; isplitr; · ipureintro; rfl
    iexact H3
  iexists _; isplitr
  swap; · iexact H5
  ipureintro
  exact View.read_writes_eq_canon _ _ _ (cover _)

set_option maxHeartbeats 2000000 in
/-- A point of a call that selects no row copies its block of tokens. -/
theorem triple_copied (c : Dev nD) (E : Set ℕ) (i : grid2.Coords) (T : pre2.Contents (Elt F))
    (hc1 : ¬ k2_cond1 i (count T) = 1#1) (hc2 : k2_cond2 (count T) = 1#1)
    (a3 : Memref sig .tc .vmem S1x8x12500 .f32) (h3 : a3.IsWhole)
    (a4 : Memref sig .tc .vmem S1x1x8 .i32) (h4 : a4.IsWhole) (a5 : Memref sig .tc .vmem S1x1x8 .i32) (h5 : a5.IsWhole)
    (y : Vec F S1x1x8 .i32) (K : PUnit → sProp 𝕄) :
    iprop(tables c T ∗ owns (c : Thread nD τ) a4 fullShare y ∗ (∃ d, owns (c : Thread nD τ) a5 fullShare d)
        ∗ (iprop(tables c T ∗ owns (c : Thread nD τ) a4 fullShare y
            ∗ owns (c : Thread nD τ) a5 fullShare (copied y)) -∗ K ⟨⟩))
      ⊢ wp frame (wpE (defs₀ (F := F)) Variants.none c none) E
          (cc2__sample_body i (Memref.whole main_v19) (Memref.isWhole_whole _) (Memref.whole main_v23) (Memref.isWhole_whole _)
            a3 h3 a4 h4 a5 h5) K := by
  simp only [cc2__sample_body_eq_skeleton]; unfold cc2__sample_body_skel
  unfold owns tables smemLoad smemLoadElt
  iintro ⟨⟨⟨%g0, %hT0, HT0⟩, ⟨%g1, %hT1, HT1⟩⟩, ⟨%f4, %hf4, H4⟩, ⟨%d5, %f5, -, H5⟩, Hk⟩
  subst hf4
  simp only [Prog.bind_op, Prog.bind_ret]
  iapply (wp_load_rect Variants.none (c : Thread nD τ) none E (m := Memref.whole main_v23)
    (r := Rect.unit (s := S1) ![0] S1.size inb_S1_S1_0) (Finset.subset_univ _)) $$ HT1
  iintro HT1
  rw [read_count c T _ hT1, dif_neg hc1, dif_pos hc2]
  sl_exec
  sl_step
  iapply Hk
  isplitl [HT0 HT1]
  · isplitl [HT0]
    · iexists g0; isplitr; · ipureintro; exact hT0
      iexact HT0
    iexists g1; isplitr; · ipureintro; exact hT1
    iexact HT1
  isplitl [H4]
  · iexists f4; isplitr; · ipureintro; rfl
    iexact H4
  iexists _; isplitr
  swap; · iexact H5
  ipureintro
  exact View.read_writes_eq_canon _ _ _ (cover _)

set_option maxHeartbeats 2000000 in
/-- A point at or past a count that is not zero does nothing. -/
theorem triple_idle (c : Dev nD) (E : Set ℕ) (i : grid2.Coords) (T : pre2.Contents (Elt F))
    (hc1 : ¬ k2_cond1 i (count T) = 1#1) (hc2 : ¬ k2_cond2 (count T) = 1#1)
    (a3 : Memref sig .tc .vmem S1x8x12500 .f32) (h3 : a3.IsWhole)
    (a4 : Memref sig .tc .vmem S1x1x8 .i32) (h4 : a4.IsWhole) (a5 : Memref sig .tc .vmem S1x1x8 .i32) (h5 : a5.IsWhole)
    (K : PUnit → sProp 𝕄) :
    iprop(tables c T ∗ (tables c T -∗ K ⟨⟩))
      ⊢ wp frame (wpE (defs₀ (F := F)) Variants.none c none) E
          (cc2__sample_body i (Memref.whole main_v19) (Memref.isWhole_whole _) (Memref.whole main_v23) (Memref.isWhole_whole _)
            a3 h3 a4 h4 a5 h5) K := by
  simp only [cc2__sample_body_eq_skeleton]; unfold cc2__sample_body_skel
  unfold tables smemLoad smemLoadElt
  iintro ⟨⟨⟨%g0, %hT0, HT0⟩, ⟨%g1, %hT1, HT1⟩⟩, Hk⟩
  simp only [Prog.bind_op, Prog.bind_ret]
  iapply (wp_load_rect Variants.none (c : Thread nD τ) none E (m := Memref.whole main_v23)
    (r := Rect.unit (s := S1) ![0] S1.size inb_S1_S1_0) (Finset.subset_univ _)) $$ HT1
  iintro HT1
  rw [read_count c T _ hT1, dif_neg hc1, dif_neg hc2]
  sl_exec
  sl_step
  iapply Hk
  isplitl [HT0]
  · iexists g0; isplitr; · ipureintro; exact hT0
    iexact HT0
  iexists g1; isplitr; · ipureintro; exact hT1
  iexact HT1

end Cert.KernelIdeal.SampleCall

end
-- ==== Proof.KernelIdeal.SampleTables.lean ====
/-
  The third call over any contents of the buffers at its entry: the prefetched tables name, point by point, the row that
  the point works on. When the rows named are distinct below the count and the same from there on, the pipeline's side
  condition holds, the points past the count find the last block still in the output's buffer, and the pipeline's body
  obligation holds.
-/
module

public import proofs.«01_k».proof.Proof.KernelIdeal.SampleBody

@[expose] public section

set_option maxRecDepth 16384

noncomputable section

namespace Cert.KernelIdeal.SampleCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Entry `t` of a table of 512 words. -/
def at512 (t : Fin 512) : S512.Idx := fun | ⟨0, _⟩ => t

/-- The row that the tables name for point `t`. -/
def ids (T : pre2.Contents (Elt F)) (t : Fin 512) : ℕ := BitVec.toNat (w := 32) (T 0 (at512 t))

/-- The number of rows selected. -/
def cnt (T : pre2.Contents (Elt F)) : ℕ := BitVec.toNat (w := 32) (count T)

/-- What the tables satisfy: the rows named are rows; those of the points below the count are distinct; from the last of
    these on they are the same. -/
structure Good (T : pre2.Contents (Elt F)) : Prop where
  lt : ∀ t, ids T t < 512
  cnt_le : cnt T ≤ 512
  inj : ∀ s t : Fin 512, s.val ≤ cnt T - 1 → t.val ≤ cnt T - 1 → ids T s = ids T t → s = t
  tail : ∀ s t : Fin 512, cnt T - 1 ≤ s.val → cnt T - 1 ≤ t.val → ids T s = ids T t

theorem index_word : ∀ t : Fin 512, (Scalar.indexCast (BitVec.ofNat 32 t.val)).toNat = t.val := by decide +kernel

/-- A point of the grid as a number below 512. -/
abbrev pt (t : Fin grid2.N) : Fin 512 := ⟨t.val, N_2 ▸ t.isLt⟩

theorem coords_pt (t : Fin grid2.N) : (grid2.coords t 0).val = t.val := by
  have : t.val < 512 := N_2 ▸ t.isLt
  rw [Pipeline.Grid.coords_val t 0 (show grid2.stride 0 = 1 by decide) (show grid2.bound 0 = 512 by decide)]
  omega

/-- A coordinate as a number below 512. -/
abbrev co (i : grid2.Coords) : Fin 512 := ⟨(i 0).val, (i 0).isLt⟩

theorem co_coords (t : Fin grid2.N) : co (grid2.coords t) = pt t := Fin.ext (coords_pt t)

/-- The word that a point reads is the table's entry. -/
theorem word_eq (T : pre2.Contents (Elt F)) (i : grid2.Coords) : word T i = T 0 (at512 (co i)) := by
  show T 0 _ = _
  refine congrArg (T 0) (funext fun a => ?_)
  match a with
  | ⟨0, _⟩ =>
    refine Fin.ext ?_
    show (Scalar.indexCast (BitVec.ofNat 32 (i 0).val)).toNat + 1 * 0 = (i 0).val
    rw [index_word ⟨(i 0).val, (i 0).isLt⟩]; rfl

theorem word_toNat (T : pre2.Contents (Elt F)) (i : grid2.Coords) : BitVec.toNat (w := 32) (word T i) = ids T (co i) := by
  rw [word_eq]; rfl

/-- The block index of each window at a point: the row named, then zeros. -/
theorem ix2_eq (T : pre2.Contents (Elt F)) (w : Fin 3) (i : grid2.Coords) : ix2 T w i = fun a => if a.val = 0 then ids T (co i) else 0 := by
  rw [← word_toNat]
  match w with
  | ⟨0, _⟩ => funext a; match a with | ⟨0, _⟩ => rfl | ⟨1, _⟩ => rfl | ⟨2, _⟩ => rfl
  | ⟨1, _⟩ => funext a; match a with | ⟨0, _⟩ => rfl | ⟨1, _⟩ => rfl | ⟨2, _⟩ => rfl
  | ⟨2, _⟩ => funext a; match a with | ⟨0, _⟩ => rfl | ⟨1, _⟩ => rfl | ⟨2, _⟩ => rfl

theorem ix2_inj (T : pre2.Contents (Elt F)) (w : Fin 3) (i i' : grid2.Coords) (h : ix2 T w i = ix2 T w i') : ids T (co i) = ids T (co i') := by
  rw [ix2_eq, ix2_eq] at h
  match w with
  | ⟨0, _⟩ => exact congrFun h ⟨0, by show 0 < 3; omega⟩
  | ⟨1, _⟩ => exact congrFun h ⟨0, by show 0 < 3; omega⟩
  | ⟨2, _⟩ => exact congrFun h ⟨0, by show 0 < 3; omega⟩

/-- The side condition of the call. -/
theorem ok_of_good (T : pre2.Contents (Elt F)) (h : Good T) : ok2 T := by
  have hb (w : Fin 3) (i : grid2.Coords) : ids T (co i) < 512 := h.lt _
  refine ⟨fun i => ⟨?_, .inl rfl⟩, fun i => ⟨?_, .inl rfl⟩, fun i => ⟨?_, .inl rfl⟩, ?_⟩
  · intro a
    have e := congrFun (ix2_eq T 0 i) a
    have hl := h.lt (co i)
    match a with
    | ⟨0, _⟩ => rw [show cc2_transform_0 k2_off1_inb numel1_S1 T i ⟨0, _⟩ = ids T (co i) from e]; show (_ + 1) * 1 ≤ 512; omega
    | ⟨1, _⟩ => show (0 + 1) * 8 ≤ 8; omega
    | ⟨2, _⟩ => show (0 + 1) * 12500 ≤ 12500; omega
  · intro a
    have e := congrFun (ix2_eq T 1 i) a
    have hl := h.lt (co i)
    match a with
    | ⟨0, _⟩ => rw [show cc2_transform_1 k2_off1_inb numel1_S1 T i ⟨0, _⟩ = ids T (co i) from e]; show (_ + 1) * 1 ≤ 512; omega
    | ⟨1, _⟩ => show (0 + 1) * 1 ≤ 1; omega
    | ⟨2, _⟩ => show (0 + 1) * 8 ≤ 8; omega
  · intro a
    have e := congrFun (ix2_eq T 2 i) a
    have hl := h.lt (co i)
    match a with
    | ⟨0, _⟩ => rw [show cc2_transform_2 k2_off1_inb numel1_S1 T i ⟨0, _⟩ = ids T (co i) from e]; show (_ + 1) * 1 ≤ 512; omega
    | ⟨1, _⟩ => show (0 + 1) * 1 ≤ 1; omega
    | ⟨2, _⟩ => show (0 + 1) * 8 ≤ 8; omega
  · refine ⟨rfl, rfl, rfl, ?_, ?_, ?_⟩
    · intro a a' e
      have : a = a' := Fin.ext e
      subst this; rfl
    · intro c a a' e
      have : a = a' := Fin.ext e
      subst this; rfl
    · intro u u' hlt _ hf he
      have hu : u.val < 512 := N_2 ▸ u.isLt
      have hu' : u'.val < 512 := N_2 ▸ u'.isLt
      have e := ix2_inj T 2 _ _ he
      rw [co_coords, co_coords] at e
      have hne : ids T ⟨u'.val + 1, by omega⟩ ≠ ids T (pt u') := by
        unfold Pipeline.WinSpec.flushAt at hf
        rw [Bool.and_eq_true, Bool.or_eq_true] at hf
        rcases hf.2 with h1 | h1
        · have := of_decide_eq_true h1
          have hN : grid2.N = 512 := N_2
          omega
        · obtain ⟨h2, h3⟩ := of_decide_eq_true h1
          intro h4
          apply h3
          rw [ix2_eq, ix2_eq, co_coords, co_coords]
          exact congrArg (fun n => fun b : Fin 3 => if b.val = 0 then n else 0) h4
      have hk : u'.val < cnt T - 1 := by
        by_contra hge
        exact hne (h.tail _ _ (show cnt T - 1 ≤ u'.val + 1 by omega) (show cnt T - 1 ≤ u'.val by omega))
      have hle := h.cnt_le
      by_cases hu2 : u.val ≤ cnt T - 1
      · have := congrArg Fin.val (h.inj (pt u') (pt u) (by show u'.val ≤ _; omega) hu2 e)
        have : u'.val = u.val := this
        omega
      · have e2 := h.tail (pt u) ⟨cnt T - 1, by omega⟩ (by show _ ≤ u.val; omega) (le_refl _)
        have := congrArg Fin.val (h.inj (pt u') ⟨cnt T - 1, by omega⟩ (by show u'.val ≤ _; omega) (le_refl _) (e.trans e2))
        have : u'.val = cnt T - 1 := this
        omega

/-- The guards of the body at a point, as comparisons of numbers. -/
theorem cond1_iff (T : pre2.Contents (Elt F)) (h : cnt T ≤ 512) (i : grid2.Coords) : k2_cond1 i (count T) = 1#1 ↔ (i 0).val < cnt T := by
  have hi : (i 0).val < 512 := (i 0).isLt
  unfold cnt at h ⊢
  generalize count T = n at h ⊢
  show (Scalar.cmpi .ne (Scalar.extui (Scalar.cmpi .slt (BitVec.ofNat 32 (i 0).val) n) : BitVec 32) 0#32) = 1#1 ↔ _
  generalize (i 0).val = k at hi ⊢
  have hn : n.toInt = n.toNat := BitVec.toInt_eq_toNat_of_lt (by omega)
  have hk : (BitVec.ofNat 32 k).toInt = k := by
    rw [BitVec.toInt_eq_toNat_of_lt (by rw [BitVec.toNat_ofNat]; omega), BitVec.toNat_ofNat]; omega
  have hs : Scalar.cmpi .slt (BitVec.ofNat 32 k) n = BitVec.ofBool (decide (k < n.toNat)) := by
    show BitVec.ofBool (BitVec.slt _ _) = _
    rw [BitVec.slt, hn, hk]; congr 1; simp
  rw [hs]
  by_cases hkn : k < n.toNat
  · simp only [hkn, decide_true, iff_true]; decide
  · simp only [hkn, decide_false, iff_false]; decide

theorem cond2_iff (T : pre2.Contents (Elt F)) : k2_cond2 (count T) = 1#1 ↔ cnt T = 0 := by
  unfold cnt
  generalize count T = n
  show (Scalar.cmpi .ne (Scalar.extui (Scalar.cmpi .eq n 0#32) : BitVec 32) 0#32) = 1#1 ↔ _
  have hs : Scalar.cmpi .eq n 0#32 = BitVec.ofBool (decide (n.toNat = 0)) := by
    show BitVec.ofBool (n == 0#32) = _
    congr 1
    rw [Bool.eq_iff_iff, beq_iff_eq, decide_eq_true_iff, ← BitVec.toNat_inj]; rfl
  rw [hs]
  by_cases hn : n.toNat = 0
  · simp only [hn, decide_true, iff_true]; decide
  · simp only [hn, decide_false, iff_false]; decide

/-- The count as the pipeline's idle table names it. -/
theorem atD_count (T : pre2.Contents (Elt F)) : T.atD 1 ![0] = count T := by
  unfold Pipeline.Prefetch.Contents.atD
  rw [dif_pos (by decide)]
  rfl

/-- The points that are idle for the output: those at or past a count that is not zero. -/
theorem idle2_iff (T : pre2.Contents (Elt F)) (h : cnt T ≤ 512) (i : grid2.Coords) : idle2 T 2 i = true ↔ cnt T ≤ (i 0).val ∧ cnt T ≠ 0 := by
  dsimp only [idle2]
  rw [atD_count, Bool.and_eq_true, Bool.not_eq_true', Bool.not_eq_true', beq_eq_false_iff_ne,
    beq_eq_false_iff_ne, Ne, Ne, cond1_iff T h, cond2_iff]
  omega

end Cert.KernelIdeal.SampleCall

end
-- ==== Proof.KernelIdeal.RegionSample.lean ====
/-
  The third call over any contents of the buffers at its entry and tables that satisfy `Good`: what each window's buffer
  holds at each point, the points past the count finding the last block still in the output's, and the pipeline's body
  obligation.
-/
module

public import proofs.«01_k».proof.Proof.KernelIdeal.SampleTables
public import Idealize.ShloMosaic.Lib.Pipeline.Value

@[expose] public section

set_option maxRecDepth 16384

noncomputable section

namespace Cert.KernelIdeal.SampleCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window not fetched at a point, nor written back or used at the one before it, finds there what that one found; -/
theorem before_of_idle {cfg : Cfg sig Λ₀} {c : Dev nD} (d : Dat τ (Elt F) Unit ℕ (UR sig nD τ) ℕ cfg c) (w : Fin cfg.W)
    (t : Fin cfg.N) (ht : t.val ≠ 0) (hf : (cfg.win w).fetch t = false) (hfl : (cfg.win w).flush ⟨t.val - 1, Nat.lt_of_le_of_lt (Nat.sub_le _ _) t.isLt⟩ = false)
    (hi : cfg.idle w (cfg.grid.coords ⟨t.val - 1, Nat.lt_of_le_of_lt (Nat.sub_le _ _) t.isLt⟩) = true) (x : (cfg.win w).block.Idx → Elt F (cfg.win w).elt) :
    d.before w t x = d.before w ⟨t.val - 1, Nat.lt_of_le_of_lt (Nat.sub_le _ _) t.isLt⟩ x := by
  rw [d.before_of_pos w t ht hf, if_neg (by rw [hfl]; exact Bool.false_ne_true)]
  unfold Dat.left
  rw [hi]

/-- used at it, what that one left. -/
theorem before_of_live {cfg : Cfg sig Λ₀} {c : Dev nD} (d : Dat τ (Elt F) Unit ℕ (UR sig nD τ) ℕ cfg c) (w : Fin cfg.W)
    (t : Fin cfg.N) (ht : t.val ≠ 0) (hf : (cfg.win w).fetch t = false) (hfl : (cfg.win w).flush ⟨t.val - 1, Nat.lt_of_le_of_lt (Nat.sub_le _ _) t.isLt⟩ = false)
    (hi : cfg.idle w (cfg.grid.coords ⟨t.val - 1, Nat.lt_of_le_of_lt (Nat.sub_le _ _) t.isLt⟩) = false) (x : (cfg.win w).block.Idx → Elt F (cfg.win w).elt) :
    d.before w t x = d.kept w ⟨t.val - 1, Nat.lt_of_le_of_lt (Nat.sub_le _ _) t.isLt⟩ x := by
  rw [d.before_of_pos w t ht hf, if_neg (by rw [hfl]; exact Bool.false_ne_true)]
  unfold Dat.left
  rw [hi]

/-! ### The arrays' blocks -/

variable (a : (pcfg2 (F := F)).Adm) (V : (c : Dev nD) → Valuation τ sig (Elt F))

/-- An index of the logits, cut in rows, and of the tokens. -/
def atRow (r : ℕ) (j : S1x8x12500.Idx) : S512x8x12500.Idx := fun
  | ⟨0, _⟩ => ⟨r % 512, Nat.mod_lt _ (by decide)⟩
  | ⟨1, _⟩ => j 1
  | ⟨2, _⟩ => j 2
def atTok (r : ℕ) (j : S1x1x8.Idx) : S512x1x8.Idx := fun
  | ⟨0, _⟩ => ⟨r % 512, Nat.mod_lt _ (by decide)⟩
  | ⟨1, _⟩ => j 1
  | ⟨2, _⟩ => j 2

/-- Row `r` of the logits, and of the tokens. -/
def rowBlk (c : Dev nD) (r : ℕ) : Vec F S1x8x12500 .f32 := fun j => V c (Proc.devRef .tc main_v20) (atRow r j)
def tokBlk (c : Dev nD) (r : ℕ) : Vec F S1x1x8 .i32 := fun j => V c (Proc.devRef .tc main_v22) (atTok r j)

/-- What a point that works on row `r` leaves in the output's buffer. -/
def left (c : Dev nD) (r : ℕ) : Vec F S1x1x8 .i32 :=
  if cnt a.1 = 0 then copied (tokBlk V c r) else hit (BitVec.ofNat 32 r) (rowBlk V c r)

/-- The call's proof data: the arrays at the entry; after a point each buffer at the block of the row named; the tables held
    throughout; nothing owed. -/
def dat (c : Dev nD) : Dat τ (Elt F) Unit ℕ (UR sig nD τ) ℕ (cfg2 a) c where
  A w := V c (Proc.devRef .tc (Pipeline.arrRef spec2 w))
  after w t := match w with
    | ⟨0, _⟩ => rowBlk V c (ids a.1 (pt t))
    | ⟨1, _⟩ => tokBlk V c (ids a.1 (pt t))
    | ⟨2, _⟩ => left a V c (ids a.1 (pt t))
  Φ _ := iprop(Pipeline.scopedRest spec2 c ∗ tables c a.1)
  q _ := fullShare
  owed _ := 0

theorem after_row (c : Dev nD) (t : Fin (cfg2 a).N) : (dat a V c).after 0 t = rowBlk V c (ids a.1 (pt t)) := rfl
theorem after_tok (c : Dev nD) (t : Fin (cfg2 a).N) : (dat a V c).after 1 t = tokBlk V c (ids a.1 (pt t)) := rfl
theorem after_out (c : Dev nD) (t : Fin (cfg2 a).N) : (dat a V c).after 2 t = left a V c (ids a.1 (pt t)) := rfl
theorem A_eq (c : Dev nD) (w : Fin (cfg2 a).W) : (dat a V c).A w = V c (Proc.devRef .tc (Pipeline.arrRef spec2 w)) := by dsimp only [dat]

theorem index_eq (w : Fin 3) (t : Fin (cfg2 a).N) : ((cfg2 a).win w).index t = fun b => if b.val = 0 then ids a.1 (pt t) else 0 :=
  (ix2_eq a.1 w (grid2.coords t)).trans (by rw [co_coords])

/-- The output's blocks are whole: what is kept of one is what was left. -/
theorem kept_out (c : Dev nD) (t : Fin (cfg2 a).N) (x) : (dat a V c).kept 2 t x = left a V c (ids a.1 (pt t)) := by
  rw [← after_out]
  rfl

variable (hg : Good a.1)
include hg

/-- The block of the logits under a point is the row named, -/
theorem blk_row (c : Dev nD) (t : Fin (cfg2 a).N) :
    ((cfg2 a).win 0 |>.blk t).view.read (Elt F) (V c (Proc.devRef .tc main_v20)) = rowBlk V c (ids a.1 (pt t)) := by
  funext j
  show V c (Proc.devRef .tc main_v20) ((((cfg2 a).win 0).rect t).emb j) = V c (Proc.devRef .tc main_v20) (atRow (ids a.1 (pt t)) j)
  refine congrArg (V c (Proc.devRef .tc main_v20)) (funext fun b => Fin.ext ?_)
  have hj : (j ⟨0, by show 0 < 3; omega⟩).val < 1 := (j ⟨0, _⟩).isLt
  have hl := hg.lt (pt t)
  refine (Pipeline.Window.rect_emb_val ((cfg2 a).win 0) t j b rfl).trans ?_
  refine (congrArg (fun n => n * ((cfg2 a).win 0).size b + (j b).val) (congrFun (index_eq a 0 t) b)).trans ?_
  match b with
  | ⟨0, _⟩ => show ids a.1 (pt t) * 1 + (j ⟨0, _⟩).val = ids a.1 (pt t) % 512; omega
  | ⟨1, _⟩ => exact (congrArg (· + (j ⟨1, _⟩).val) (Nat.zero_mul _)).trans (Nat.zero_add _)
  | ⟨2, _⟩ => exact (congrArg (· + (j ⟨2, _⟩).val) (Nat.zero_mul _)).trans (Nat.zero_add _)

/-- and so is that of the tokens. -/
theorem blk_tok (c : Dev nD) (t : Fin (cfg2 a).N) :
    ((cfg2 a).win 1 |>.blk t).view.read (Elt F) (V c (Proc.devRef .tc main_v22)) = tokBlk V c (ids a.1 (pt t)) := by
  funext j
  show V c (Proc.devRef .tc main_v22) ((((cfg2 a).win 1).rect t).emb j) = V c (Proc.devRef .tc main_v22) (atTok (ids a.1 (pt t)) j)
  refine congrArg (V c (Proc.devRef .tc main_v22)) (funext fun b => Fin.ext ?_)
  have hj : (j ⟨0, by show 0 < 3; omega⟩).val < 1 := (j ⟨0, _⟩).isLt
  have hl := hg.lt (pt t)
  refine (Pipeline.Window.rect_emb_val ((cfg2 a).win 1) t j b rfl).trans ?_
  refine (congrArg (fun n => n * ((cfg2 a).win 1).size b + (j b).val) (congrFun (index_eq a 1 t) b)).trans ?_
  match b with
  | ⟨0, _⟩ => show ids a.1 (pt t) * 1 + (j ⟨0, _⟩).val = ids a.1 (pt t) % 512; omega
  | ⟨1, _⟩ => exact (congrArg (· + (j ⟨1, _⟩).val) (Nat.zero_mul _)).trans (Nat.zero_add _)
  | ⟨2, _⟩ => exact (congrArg (· + (j ⟨2, _⟩).val) (Nat.zero_mul _)).trans (Nat.zero_add _)

theorem before_row (c : Dev nD) (t : Fin (cfg2 a).N) (d) : (dat a V c).before 0 t d = rowBlk V c (ids a.1 (pt t)) :=
  ((dat a V c).before_in_eq_fetched 0 rfl (fun _ => rfl) (fun _ _ _ => rfl)
    (fun t => by rw [after_row, ← blk_row a V hg c t]; unfold Dat.blockOf; rw [A_eq]; try rfl) t d).trans
    (by rw [← blk_row a V hg c t]; unfold Dat.fetched Dat.blockOf; rw [A_eq]; try rfl)
theorem before_tok (c : Dev nD) (t : Fin (cfg2 a).N) (d) : (dat a V c).before 1 t d = tokBlk V c (ids a.1 (pt t)) :=
  ((dat a V c).before_in_eq_fetched 1 rfl (fun _ => rfl) (fun _ _ _ => rfl)
    (fun t => by rw [after_tok, ← blk_tok a V hg c t]; unfold Dat.blockOf; rw [A_eq]; try rfl) t d).trans
    (by rw [← blk_tok a V hg c t]; unfold Dat.fetched Dat.blockOf; rw [A_eq]; try rfl)

/-- The points that are idle for the output: those at or past a count that is not zero. -/
theorem idle_iff (t : Fin (cfg2 a).N) : (cfg2 a).idle 2 (grid2.coords t) = true ↔ cnt a.1 ≤ t.val ∧ cnt a.1 ≠ 0 := by
  have h := idle2_iff a.1 hg.cnt_le (grid2.coords t)
  rw [coords_pt] at h
  exact h

/-- At an idle point the output's buffer still holds the last block. -/
theorem before_idle (c : Dev nD) (d) : ∀ (n : ℕ) (t : Fin (cfg2 a).N), t.val = n → (cfg2 a).idle 2 (grid2.coords t) = true →
    (dat a V c).before 2 t d = left a V c (ids a.1 (pt t)) := by
  intro n
  induction n with
  | zero => intro t ht hi; have := (idle_iff a hg t).mp hi; omega
  | succ n ih =>
    intro t ht hi
    obtain ⟨h1, h2⟩ := (idle_iff a hg t).mp hi
    have hN : t.val < 512 := N_2 ▸ t.isLt
    have hlt : t.val - 1 < (cfg2 a).N := by have := t.isLt; omega
    have hids : ids a.1 (pt t) = ids a.1 (pt ⟨t.val - 1, hlt⟩) :=
      hg.tail _ _ (by show _ ≤ t.val; omega) (by show _ ≤ t.val - 1; omega)
    have hflush : ((cfg2 a).win 2).flush ⟨t.val - 1, hlt⟩ = false := by
      rw [Bool.eq_false_iff]
      intro hf
      have hf' : Pipeline.WinSpec.flushAt (G := grid2) (spec2 2) (ix2 a.1 2) ⟨t.val - 1, hlt⟩ = true := hf
      unfold Pipeline.WinSpec.flushAt at hf'
      rw [Bool.and_eq_true, Bool.or_eq_true] at hf'
      rcases hf'.2 with h3 | h3
      · have h4 := of_decide_eq_true h3
        have hN' : grid2.N = 512 := N_2
        have h5 : t.val - 1 + 1 = grid2.N := h4
        have h6 := t.isLt
        have h7 : t.val < grid2.N := h6
        omega
      · obtain ⟨h4, h5⟩ := of_decide_eq_true h3
        apply h5
        rw [ix2_eq, ix2_eq, co_coords, co_coords]
        have e : pt ⟨t.val - 1 + 1, h4⟩ = pt t := Fin.ext (by show t.val - 1 + 1 = t.val; omega)
        exact congrArg (fun n => fun b : Fin 3 => if b.val = 0 then n else 0) ((congrArg (ids a.1) e).trans hids)
    cases hi' : (cfg2 a).idle 2 ((cfg2 a).grid.coords ⟨t.val - 1, hlt⟩) with
    | true =>
      refine (before_of_idle (dat a V c) 2 t (by omega) rfl hflush hi' d).trans ?_
      exact (ih ⟨t.val - 1, hlt⟩ (by show t.val - 1 = n; omega) hi').trans (congrArg (left a V c) hids.symm)
    | false =>
      refine (before_of_live (dat a V c) 2 t (by omega) rfl hflush hi' d).trans ?_
      rw [kept_out, hids]

omit hg in
theorem row (t : Fin (cfg2 a).N) : defs₀ (F := F) .tc (cfg2 a).body ((cfg2 a).bodyArgs t ((cfg2 a).slots t))
    = cc2__sample_body (grid2.coords t) (Memref.whole main_v19) (Memref.isWhole_whole _) (Memref.whole main_v23) (Memref.isWhole_whole _)
        (spec2_0.stage ((cfg2 a).slots t 0)) (hstage2_0 (((cfg2 a).slots t 0).cast nbuf2_0))
        (spec2_1.stage ((cfg2 a).slots t 1)) (hstage2_1 (((cfg2 a).slots t 1).cast nbuf2_1))
        (spec2_2.stage ((cfg2 a).slots t 2)) (hstage2_2 (((cfg2 a).slots t 2).cast nbuf2_2)) := by
  unfold defs₀; rw [Defs.onTc_tc]

/-- A point that names row `r` leaves the buffer at `left` of the row: where it samples, -/
theorem left_hit (c : Dev nD) (t : Fin (cfg2 a).N) (h : ¬ cnt a.1 = 0) :
    hit (word a.1 (grid2.coords t)) (rowBlk V c (ids a.1 (pt t))) = left a V c (ids a.1 (pt t)) := by
  unfold left
  rw [if_neg h]
  refine congrArg (fun w => hit w _) ?_
  refine BitVec.eq_of_toNat_eq ?_
  have hl := hg.lt (pt t)
  refine (word_toNat a.1 (grid2.coords t)).trans ?_
  rw [co_coords, BitVec.toNat_ofNat]
  omega

omit hg in
/-- and where it copies. -/
theorem left_copied (c : Dev nD) (t : Fin (cfg2 a).N) (h : cnt a.1 = 0) :
    copied (tokBlk V c (ids a.1 (pt t))) = left a V c (ids a.1 (pt t)) := by
  unfold left
  rw [if_pos h]

/-- What the body is called with, -/
def pre (c : Dev nD) (t : Fin (cfg2 a).N) : sProp 𝕄 :=
  iprop((dat a V c).Φ t.castSucc ∗ (dat a V c).owesAt () t.castSucc
    ∗ (∃ d, owns (c : Thread nD τ) (((cfg2 a).win 0).stage ((cfg2 a).slots t 0)) fullShare ((dat a V c).before 0 t d))
    ∗ (∃ d, owns (c : Thread nD τ) (((cfg2 a).win 1).stage ((cfg2 a).slots t 1)) fullShare ((dat a V c).before 1 t d))
    ∗ (∃ d, owns (c : Thread nD τ) (((cfg2 a).win 2).stage ((cfg2 a).slots t 2)) fullShare ((dat a V c).before 2 t d)))

/-- and what it returns. -/
def post (c : Dev nD) (t : Fin (cfg2 a).N) : sProp 𝕄 :=
  iprop((dat a V c).Φ t.succ ∗ (dat a V c).owesAt () t.succ
    ∗ owns (c : Thread nD τ) (((cfg2 a).win 0).stage ((cfg2 a).slots t 0)) fullShare ((dat a V c).after 0 t)
    ∗ owns (c : Thread nD τ) (((cfg2 a).win 1).stage ((cfg2 a).slots t 1)) fullShare ((dat a V c).after 1 t)
    ∗ owns (c : Thread nD τ) (((cfg2 a).win 2).stage ((cfg2 a).slots t 2)) fullShare ((dat a V c).after 2 t))

set_option maxHeartbeats 1000000 in
theorem at_point (c : Dev nD) (t : Fin (cfg2 a).N) :
    pre a V c t ⊢ wp frame (wpE (defs₀ (F := F)) Variants.none c none) Set.univ
      (cc2__sample_body (grid2.coords t) (Memref.whole main_v19) (Memref.isWhole_whole _) (Memref.whole main_v23) (Memref.isWhole_whole _)
        (spec2_0.stage ((cfg2 a).slots t 0)) (hstage2_0 (((cfg2 a).slots t 0).cast nbuf2_0))
        (spec2_1.stage ((cfg2 a).slots t 1)) (hstage2_1 (((cfg2 a).slots t 1).cast nbuf2_1))
        (spec2_2.stage ((cfg2 a).slots t 2)) (hstage2_2 (((cfg2 a).slots t 2).cast nbuf2_2))) (fun _ => post a V c t) := by
  have hN : t.val < 512 := N_2 ▸ t.isLt
  have hle := hg.cnt_le
  have e0 := before_row a V hg c t
  have e1 := before_tok a V hg c t
  unfold pre post
  rw [show (dat a V c).Φ t.succ = (dat a V c).Φ t.castSucc from rfl,
    show (dat a V c).owesAt () t.succ = (dat a V c).owesAt () t.castSucc from rfl,
    show (dat a V c).Φ t.castSucc = iprop(Pipeline.scopedRest spec2 c ∗ tables c a.1) from rfl, after_row, after_tok, after_out]
  iintro ⟨⟨HΦ, HT⟩, Ho, ⟨%d0, H0⟩, ⟨%d1, H1⟩, ⟨%d2, H2⟩⟩
  ihave H0 := (Entails.of_eq (congrArg (owns (c : Thread nD τ) (((cfg2 a).win 0).stage ((cfg2 a).slots t 0)) fullShare) (e0 d0))) $$ H0
  ihave H1 := (Entails.of_eq (congrArg (owns (c : Thread nD τ) (((cfg2 a).win 1).stage ((cfg2 a).slots t 1)) fullShare) (e1 d1))) $$ H1
  by_cases hi : (cfg2 a).idle 2 (grid2.coords t) = true
  · obtain ⟨h1, h2⟩ := (idle_iff a hg t).mp hi
    have hc1 : ¬ k2_cond1 (grid2.coords t) (count a.1) = 1#1 := by
      rw [cond1_iff a.1 hg.cnt_le, coords_pt]; omega
    have hc2 : ¬ k2_cond2 (count a.1) = 1#1 := by rw [cond2_iff]; exact h2
    ihave H2 := (Entails.of_eq (congrArg (owns (c : Thread nD τ) (((cfg2 a).win 2).stage ((cfg2 a).slots t 2)) fullShare)
      (before_idle a V hg c d2 t.val t rfl hi))) $$ H2
    iapply (triple_idle c Set.univ (grid2.coords t) a.1 hc1 hc2 _ _ _ _ _ _ _)
    isplitl [HT]; · iexact HT
    iintro HT
    isplitl [HΦ HT]
    · isplitl [HΦ]; · iexact HΦ
      iexact HT
    isplitl [Ho]; · iexact Ho
    isplitl [H0]; · iexact H0
    isplitl [H1]; · iexact H1
    iexact H2
  · have hni : ¬ (cnt a.1 ≤ t.val ∧ cnt a.1 ≠ 0) := fun h => hi ((idle_iff a hg t).mpr h)
    by_cases h0 : cnt a.1 = 0
    · have hc1 : ¬ k2_cond1 (grid2.coords t) (count a.1) = 1#1 := by
        rw [cond1_iff a.1 hg.cnt_le, coords_pt]; omega
      have hc2 : k2_cond2 (count a.1) = 1#1 := by rw [cond2_iff]; exact h0
      iapply (triple_copied c Set.univ (grid2.coords t) a.1 hc1 hc2 _ _ _ _ _ _ (tokBlk V c (ids a.1 (pt t))) _)
      isplitl [HT]; · iexact HT
      isplitl [H1]; · iexact H1
      isplitl [H2]; · iexists _; iexact H2
      rw [left_copied a V c t h0]
      iintro ⟨HT, H1, H2⟩
      isplitl [HΦ HT]
      · isplitl [HΦ]; · iexact HΦ
        iexact HT
      isplitl [Ho]; · iexact Ho
      isplitl [H0]; · iexact H0
      isplitl [H1]; · iexact H1
      iexact H2
    · have hc1 : k2_cond1 (grid2.coords t) (count a.1) = 1#1 := by
        rw [cond1_iff a.1 hg.cnt_le, coords_pt]; omega
      have hc2 : ¬ k2_cond2 (count a.1) = 1#1 := by rw [cond2_iff]; exact h0
      iapply (triple_hit c Set.univ (grid2.coords t) a.1 hc1 hc2 _ _ _ _ _ _ (rowBlk V c (ids a.1 (pt t))) _)
      isplitl [HT]; · iexact HT
      isplitl [H0]; · iexact H0
      isplitl [H2]; · iexists _; iexact H2
      rw [left_hit a V hg c t h0]
      iintro ⟨HT, H0, H2⟩
      isplitl [HΦ HT]
      · isplitl [HΦ]; · iexact HΦ
        iexact HT
      isplitl [Ho]; · iexact Ho
      isplitl [H0]; · iexact H0
      isplitl [H1]; · iexact H1
      iexact H2

omit hg in
/-- Contents that are what the body leaves and, at an idle point, what it found are what the obligation asks of a window. -/
theorem leaves {cfg : Cfg sig Λ₀} {c : Dev nD} (d : Dat τ (Elt F) Unit ℕ (UR sig nD τ) ℕ cfg c) (w : Fin cfg.W) (t : Fin cfg.N)
    (h : cfg.idle w (cfg.grid.coords t) = true → ∀ x, d.before w t x = d.after w t)
    (hx : Nonempty ((cfg.win w).block.Idx → Elt F (cfg.win w).elt)) :
    owns (c : Thread nD τ) ((cfg.win w).stage (cfg.slots t w)) fullShare (d.after w t)
      ⊢ (match cfg.idle w (cfg.grid.coords t) with
        | true =>
          match (cfg.win w).flush t with
          | false => iprop(∃ x, owns (c : Thread nD τ) ((cfg.win w).stage (cfg.slots t w)) fullShare (d.before w t x))
          | true => owns (c : Thread nD τ) ((cfg.win w).stage (cfg.slots t w)) fullShare (d.after w t)
        | false => owns (c : Thread nD τ) ((cfg.win w).stage (cfg.slots t w)) fullShare (d.after w t) : sProp 𝕄) := by
  obtain ⟨x⟩ := hx
  cases hi : cfg.idle w (cfg.grid.coords t) with
  | false => exact .rfl
  | true =>
    cases hf : (cfg.win w).flush t with
    | true => exact .rfl
    | false =>
      dsimp only
      iintro H
      iexists x
      rw [h hi x]
      iexact H

/-- The pipeline's obligation of the body. -/
theorem obligation (c : Dev nD) : BodyObligation (dat a V c) (defs₀ (F := F)) Variants.none () Set.univ := fun t => by
  rw [bigSep_W2, bigSep_W2, row]
  refine triple_restated (at_point a V hg c t) rfl .rfl fun _ => ?_
  unfold post
  exact sep_mono .rfl (sep_mono .rfl (sep_mono .rfl (sep_mono .rfl (leaves (dat a V c) 2 t
    (fun hi x => (before_idle a V hg c x t.val t rfl hi).trans (after_out a V c t).symm) ⟨(dat a V c).after 2 t⟩))))

end Cert.KernelIdeal.SampleCall

end
-- ==== Proof.KernelIdeal.Order.lean ====
/-
  The host's integers between the second call and the third: of a vector of 512 words that are 0 or 1 it counts the
  ones, sorts the row numbers with the ones first, and lists the rows of the ones, followed by the last of them again
  and again. Stated here of any such vector.
-/
module

public import proofs.«01_k».proof.Proof.KernelIdeal.SampleTables
public import Idealize.ShloMosaic.Lib.SortFacts
public import Idealize.ShloMosaic.Lib.WordCmp
public import Idealize.ShloMosaic.Lib.IndicatorCount

@[expose] public section

set_option maxRecDepth 16384

noncomputable section

namespace Cert.KernelIdeal.Order

open Cert.KernelIdeal.Gen
open Idealize.ShloMosaic Idealize.ShloMosaic.TcCoe
open SampleCall (at512)

/-- The number of ones. -/
def countOf (p : IVec S512 32) : IVec S_ 32 :=
  Host.reduce IntOp.addi p (constantI S_ 32 0#32) reducesTo_S512_S_d0 h_S_

/-- The key that the rows are sorted by: the ones come first. -/
def keyOf (p : IVec S512 32) : IVec S512 32 := subi (broadcastInDim S512 ![] bcast_S_S512 (constantI S_ 32 1#32)) p

/-- The rows, sorted by their keys. -/
def orderOf (p : IVec S512 32) : IVec S512 32 :=
  (Host.sort2 S512 0 comparator_i32_i32_d0 (keyOf p) (iotaInDim S512 32 0)).2

/-- The position of the last row that is selected, or 0. -/
def lastPos (p : IVec S512 32) : IVec S_ 32 := maxsi (subi (countOf p) (constantI S_ 32 1#32)) (constantI S_ 32 0#32)

/-- The same position as the slice takes it: a negative one would count from the end. -/
def lastStart (p : IVec S512 32) : IVec S_ 32 :=
  select (cmpi .slt (lastPos p) (constantI S_ 32 0#32)) (addi (lastPos p) (constantI S_ 32 512#32)) (lastPos p)

/-- The row at that position. -/
def lastOf (p : IVec S512 32) : IVec S_ 32 :=
  shapeCast S_ (Host.dynamicSlice S1 (orderOf p) (fun _ => (lastStart p (Shape.Idx.first h_S_)).toInt) sliceFits_S512_S1)
    shapeCasts_S1_S_

/-- The list of rows: the selected ones, then the last of them. -/
def slotsOf (p : IVec S512 32) : IVec S512 32 :=
  select (cmpi .slt (iotaInDim S512 32 0) (broadcastInDim S512 ![] bcast_S_S512 (countOf p))) (orderOf p)
    (broadcastInDim S512 ![] bcast_S_S512 (lastOf p))

theorem at512_eq (t : Fin 512) : at512 t = Shape.Idx.ofFin t := by
  funext a; match a with | ⟨0, _⟩ => rfl

/-- The order as a map of row numbers. -/
def σ (p : IVec S512 32) : Fin 512 → Fin 512 :=
  sortedFrom fun k k' => IntOp.cmpi .slt (keyOf p (Shape.Idx.ofFin k)) (keyOf p (Shape.Idx.ofFin k')) == 1#1

theorem σ_inj (p : IVec S512 32) : Function.Injective (σ p) := sortedFrom_injective _

theorem σ_surj (p : IVec S512 32) : Function.Surjective (σ p) := sortedFrom_surjective _

/-- A sort of a vector that carries a second one, read at a place. -/
theorem sort2_snd {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

theorem iota_ofFin {n : Nat} (k : Fin n) :
    iotaInDim (⟨1, ![n]⟩ : Shape) 32 0 (Shape.Idx.ofFin k) = BitVec.ofNat 32 k.val := rfl

theorem comparator_eq (l r : BitVec 32 × BitVec 32) : comparator_i32_i32_d0 l r = IntOp.cmpi .slt l.1 r.1 := rfl

theorem orderOf_ofFin (p : IVec S512 32) (t : Fin 512) : orderOf p (Shape.Idx.ofFin t) = BitVec.ofNat 32 (σ p t).val := by
  have h := sort2_snd (n := 512) comparator_i32_i32_d0 (keyOf p) (iotaInDim S512 32 0) (Shape.Idx.ofFin t)
  rw [iota_ofFin] at h
  simp only [comparator_eq, Shape.Idx.ofFin_zero] at h
  exact h

theorem orderOf_at (p : IVec S512 32) (t : Fin 512) : orderOf p (at512 t) = BitVec.ofNat 32 (σ p t).val :=
  (congrArg (orderOf p) (at512_eq t)).trans (orderOf_ofFin p t)

variable {p : IVec S512 32} {b : Fin 512 → BitVec 1} (hp : ∀ t, p (at512 t) = (b t).setWidth 32)

/-- How many rows are selected. -/
def ones (b : Fin 512 → BitVec 1) : ℕ := (Finset.univ.filter fun t => b t = 1#1).card

theorem ones_le (b : Fin 512 → BitVec 1) : ones b ≤ 512 := by
  refine (Finset.card_filter_le _ _).trans ?_
  simp

include hp in
theorem countOf_eq (j : S_.Idx) : countOf p j = BitVec.ofNat 32 (ones b) := by
  classical
  unfold countOf
  rw [Host.reduce_eq_fold]
  rw [show (Finset.univ.filter fun i : S512.Idx => reducesTo_S512_S_d0.drop i = j)
      = Finset.univ.map ⟨fun t : Fin 512 => at512 t, fun s t h => by
          have := congrFun h 0; exact this⟩ from ?_]
  · rw [Finset.fold_map]
    refine Eq.trans ?_ (IndicatorCount.fold_addi_setWidth_eq_card (w := 32) b Finset.univ)
    exact congrArg (fun f => Finset.fold IntOp.addi (0#32) f Finset.univ) (funext fun t => hp t)
  · ext i
    simp only [Finset.mem_filter, Finset.mem_univ, true_and, Finset.mem_map, Function.Embedding.coeFn_mk]
    constructor
    · intro _
      exact ⟨i 0, by funext a; match a with | ⟨0, _⟩ => rfl⟩
    · intro _
      funext a
      exact a.elim0

theorem bit_cases (x : BitVec 1) : x = 0#1 ∨ x = 1#1 := by
  revert x; decide

include hp in
theorem keyOf_at (t : Fin 512) : keyOf p (Shape.Idx.ofFin t) = if b t = 1#1 then 0#32 else 1#32 := by
  show IntOp.subi 1#32 (p (Shape.Idx.ofFin t)) = _
  rw [← at512_eq, hp t]
  rcases bit_cases (b t) with h | h <;> rw [h] <;> decide

include hp in
/-- In the order, no row that is selected comes after one that is not. -/
theorem selected_of_lt (i j : Fin 512) (hij : i < j) (hj : b (σ p j) = 1#1) : b (σ p i) = 1#1 := by
  have h := sortedFrom_noInversion
    (fun k k' => IntOp.cmpi .slt (keyOf p (Shape.Idx.ofFin k)) (keyOf p (Shape.Idx.ofFin k')) == 1#1)
    (fun k k' => IntOp.cmpi .slt (keyOf p (Shape.Idx.ofFin k)) (keyOf p (Shape.Idx.ofFin k')) == 1#1)
    (fun x y => by
      simp only [keyOf_at hp]
      rcases bit_cases (b x) with hx | hx <;> rcases bit_cases (b y) with hy | hy <;> rw [hx, hy] <;> decide)
    (fun x y => id)
    (fun x y z => by
      simp only [keyOf_at hp]
      rcases bit_cases (b x) with hx | hx <;> rcases bit_cases (b y) with hy | hy <;> rcases bit_cases (b z) with hz | hz <;>
        rw [hx, hy, hz] <;> decide)
    i j hij
  change (IntOp.cmpi .slt (keyOf p (Shape.Idx.ofFin (σ p j))) (keyOf p (Shape.Idx.ofFin (σ p i))) == 1#1) = false at h
  rw [keyOf_at hp, keyOf_at hp, hj] at h
  rcases bit_cases (b (σ p i)) with hx | hx
  · rw [hx] at h; exact absurd h (by decide)
  · exact hx

include hp in
/-- A row is selected exactly when its place in the order is below the count. -/
theorem selected_iff (t : Fin 512) : b (σ p t) = 1#1 ↔ t.val < ones b := by
  classical
  have hcard : ones b = (Finset.univ.filter fun t => b (σ p t) = 1#1).card := by
    unfold ones
    symm
    refine Finset.card_bij (fun t _ => σ p t) ?_ ?_ ?_
    · intro t ht; simpa using ht
    · intro s _ t _ h; exact σ_inj p h
    · intro t ht
      obtain ⟨s, rfl⟩ := σ_surj p t
      exact ⟨s, by simpa using ht, rfl⟩
  constructor
  · intro h
    have hsub : Finset.Iic t ⊆ Finset.univ.filter fun t => b (σ p t) = 1#1 := by
      intro s hs
      rw [Finset.mem_filter]
      refine ⟨Finset.mem_univ _, ?_⟩
      rcases (Finset.mem_Iic.mp hs).lt_or_eq with hl | he
      · exact selected_of_lt hp s t hl h
      · rw [he]; exact h
    have := Finset.card_le_card hsub
    rw [Fin.card_Iic, ← hcard] at this
    omega
  · intro h
    by_contra hn
    have hsub : (Finset.univ.filter fun t => b (σ p t) = 1#1) ⊆ Finset.Iio t := by
      intro s hs
      rw [Finset.mem_filter] at hs
      rw [Finset.mem_Iio]
      rcases lt_trichotomy s t with hl | he | hg
      · exact hl
      · rw [he] at hs; exact absurd hs.2 hn
      · exact absurd (selected_of_lt hp t s hg hs.2) hn
    have := Finset.card_le_card hsub
    rw [Fin.card_Iio, ← hcard] at this
    omega

/-- The last position read is the count less one, at least 0. -/
theorem last_word : ∀ n : Fin 513,
    (Scalar.select (IntOp.cmpi .slt (IntOp.maxsi (IntOp.subi (BitVec.ofNat 32 n.val) 1#32) 0#32) 0#32)
      (IntOp.addi (IntOp.maxsi (IntOp.subi (BitVec.ofNat 32 n.val) 1#32) 0#32) 512#32)
      (IntOp.maxsi (IntOp.subi (BitVec.ofNat 32 n.val) 1#32) 0#32)).toInt = ((n.val - 1 : ℕ) : Int) := by
  decide +kernel

include hp in
theorem lastStart_eq (j : S_.Idx) : (lastStart p j).toInt = ((ones b - 1 : ℕ) : Int) := by
  refine Eq.trans ?_ (last_word ⟨ones b, by have := ones_le b; omega⟩)
  show (Scalar.select (IntOp.cmpi .slt (IntOp.maxsi (IntOp.subi (countOf p j) 1#32) 0#32) 0#32)
      (IntOp.addi (IntOp.maxsi (IntOp.subi (countOf p j) 1#32) 0#32) 512#32)
      (IntOp.maxsi (IntOp.subi (countOf p j) 1#32) 0#32)).toInt = _
  rw [countOf_eq hp j]

/-- The place in the order that entry `t` of the list is taken from. -/
def place (b : Fin 512 → BitVec 1) (t : Fin 512) : Fin 512 :=
  ⟨min t.val (ones b - 1), lt_of_le_of_lt (Nat.min_le_left _ _) t.isLt⟩

include hp in
theorem lastOf_eq (j : S_.Idx) :
    lastOf p j = orderOf p (at512 ⟨ones b - 1, by have := ones_le b; omega⟩) := by
  have hle := ones_le b
  unfold lastOf shapeCast Host.dynamicSlice extractStridedSlice
  refine congrArg (orderOf p) ?_
  funext a
  match a with
  | ⟨0, _⟩ =>
    refine Fin.ext ?_
    show (min (max ((lastStart p (Shape.Idx.first h_S_)).toInt) 0) (((512 : ℕ) - (1 : ℕ) : ℕ) : Int)).toNat + _ = ones b - 1
    rw [lastStart_eq hp]
    have h0 : ∀ i : S1.Idx, (i 0).val = 0 := fun i => by have : (i 0).val < 1 := (i 0).isLt; omega
    have e : ∀ i : S1.Idx, (min (max (((ones b - 1 : ℕ) : Int)) 0) (((512 : ℕ) - (1 : ℕ) : ℕ) : Int)).toNat + (i 0).val = ones b - 1 := by
      intro i; rw [h0 i]; omega
    exact e _

theorem lt_word (t : Fin 512) (n : ℕ) (hn : n ≤ 512) :
    IntOp.cmpi .slt (BitVec.ofNat 32 t.val) (BitVec.ofNat 32 n) = 1#1 ↔ t.val < n := by
  have := t.isLt
  exact Idealize.ShloMosaic.WordCmp.cmpi_slt_ofNat_eq_one_iff (w := 32) (a := t.val) (b := n) (by simp only [Nat.reducePow, Nat.reduceSub]; omega) (by simp only [Nat.reducePow, Nat.reduceSub]; omega)

include hp in
/-- Entry `t` of the list is the row at place `min t (count − 1)` of the order. -/
theorem slotsOf_at (t : Fin 512) : slotsOf p (at512 t) = BitVec.ofNat 32 (σ p (place b t)).val := by
  have hle := ones_le b
  show Scalar.select (IntOp.cmpi .slt (BitVec.ofNat 32 t.val)
    (broadcastInDim S512 ![] bcast_S_S512 (countOf p) (at512 t))) (orderOf p (at512 t))
    (broadcastInDim S512 ![] bcast_S_S512 (lastOf p) (at512 t)) = _
  have e1 : broadcastInDim S512 ![] bcast_S_S512 (countOf p) (at512 t) = BitVec.ofNat 32 (ones b) := countOf_eq hp _
  have e2 : broadcastInDim S512 ![] bcast_S_S512 (lastOf p) (at512 t)
      = orderOf p (at512 ⟨ones b - 1, by omega⟩) := lastOf_eq hp _
  rw [e1, e2, orderOf_at, orderOf_at]
  unfold Scalar.select
  by_cases h : t.val < ones b
  · rw [show (1 : BitVec 1) = 1#1 from rfl, if_pos ((lt_word t _ hle).mpr h)]
    have : place b t = t := Fin.ext (by unfold place; simp only; omega)
    rw [this]
  · rw [show (1 : BitVec 1) = 1#1 from rfl, if_neg (fun hc => h ((lt_word t _ hle).mp hc))]
    have : place b t = ⟨ones b - 1, by omega⟩ := Fin.ext (by unfold place; simp only; omega)
    rw [this]

section Tables

variable {F : FTy → Type} [FloatOps F] {T : pre2.Contents (Elt F)}
  (h0 : T 0 = slotsOf p) (h1 : T 1 = broadcastInDim S1 ![] bcast_S_S1 (countOf p))

include hp h0 in
theorem ids_eq (t : Fin 512) : SampleCall.ids T t = (σ p (place b t)).val := by
  unfold SampleCall.ids
  rw [h0, slotsOf_at hp t, BitVec.toNat_ofNat]
  have := (σ p (place b t)).isLt
  omega

include hp h1 in
theorem cnt_eq : SampleCall.cnt T = ones b := by
  have e : SampleCall.count T = BitVec.ofNat 32 (ones b) := by
    have e' : ∀ i : S1.Idx, T 1 i = BitVec.ofNat 32 (ones b) := fun i => (congrFun h1 i).trans (countOf_eq hp _)
    exact e' _
  unfold SampleCall.cnt
  rw [e, BitVec.toNat_ofNat]
  have := ones_le b
  omega

include hp h0 h1 in
/-- Tables made so satisfy what the third call asks of them. -/
theorem good : SampleCall.Good T where
  lt t := by rw [ids_eq hp h0 t]; exact (σ p (place b t)).isLt
  cnt_le := by rw [cnt_eq hp h1]; exact ones_le b
  inj s t hs ht h := by
    rw [cnt_eq hp h1] at hs ht
    rw [ids_eq hp h0, ids_eq hp h0] at h
    have h' := congrArg Fin.val (σ_inj p (Fin.ext h))
    unfold place at h'
    simp only at h'
    exact Fin.ext (by omega)
  tail s t hs ht := by
    rw [cnt_eq hp h1] at hs ht
    rw [ids_eq hp h0, ids_eq hp h0]
    have : place b s = place b t := Fin.ext (by unfold place; simp only; omega)
    rw [this]

end Tables

end Cert.KernelIdeal.Order
-- ==== Proof.KernelIdeal.Reads.lean ====
/-
  What the host operations between the calls leave in the buffers that matter, as functions of what the buffers hold
  when they begin.
-/
module

public import proofs.«01_k».proof.Proof.KernelIdeal.Order
public import proofs.«01_k».proof.Proof.Gen.KernelIdeal.Regions

@[expose] public section

set_option maxRecDepth 16384

noncomputable section

namespace Cert.KernelIdeal.Reads

open Cert.KernelIdeal.Gen
open Idealize.ShloMosaic Idealize.ShloMosaic.TcCoe
open StableHlo (after)

variable {F : FTy → Type} [FloatOps F] (W : Valuation τ sig (Elt F))

/-- The operations between the second call and the third. -/
def mid : Valuation τ sig (Elt F) :=
  after hostOps2_4 (after hostOps2_3 (after hostOps2_2 (after hostOps2_1 (after hostOps2 W))))

/-- The positions selected, in one row. -/
def posOf : IVec S512 32 := shapeCast S512 (W main_v3 : Vec F S16x32 .i32) shapeCasts_S16x32_S512

theorem ops2_v4 : after hostOps2 W main_v4 = posOf W := by
  unfold posOf
  simp only [hostOps2]
  after_results_simp <;> rfl
theorem ops2_v5 : after hostOps2 W main_v5 = Order.countOf (posOf W) := by
  unfold posOf Order.countOf
  simp only [hostOps2]
  after_results_simp <;> rfl
theorem ops2_v7 : after hostOps2 W main_v7 = Order.keyOf (posOf W) := by
  unfold posOf Order.keyOf
  simp only [hostOps2]
  after_results_simp <;> rfl

theorem ops2_1_v8 : after hostOps2_1 W main_v8
    = (Host.sort2 S512 0 comparator_i32_i32_d0 (W main_v7 : IVec S512 32) (iotaInDim S512 32 0)).2 := by
  simp only [hostOps2_1, StableHlo.TRef.nullary, StableHlo.TRef.binary, StableHlo.TRef.toBuf, StableHlo.TRef.ofBuf, cast_eq]
  after_results_simp <;> rfl

/-- The position that the row after the last is taken from. -/
def startOf (n : IVec S_ 32) : IVec S_ 32 :=
  select (cmpi .slt (maxsi (subi n (constantI S_ 32 1#32)) (constantI S_ 32 0#32)) (constantI S_ 32 0#32))
    (addi (maxsi (subi n (constantI S_ 32 1#32)) (constantI S_ 32 0#32)) (constantI S_ 32 512#32))
    (maxsi (subi n (constantI S_ 32 1#32)) (constantI S_ 32 0#32))

/-- The operations up to the position, -/
abbrev opsA : List (HloOp τ sig (Elt F)) :=
  [ StableHlo.nullary main_c_1 (constantI S_ 32 1#32),
    StableHlo.binary main_v5 main_c_1 main_v9 (subi : (⟨S_, .i32⟩ : BufTy).Contents (Elt F) → (⟨S_, .i32⟩ : BufTy).Contents (Elt F) → (⟨S_, .i32⟩ : BufTy).Contents (Elt F)),
    StableHlo.nullary main_c_2 (constantI S_ 32 0#32),
    StableHlo.binary main_v9 main_c_2 main_v10 (maxsi : (⟨S_, .i32⟩ : BufTy).Contents (Elt F) → (⟨S_, .i32⟩ : BufTy).Contents (Elt F) → (⟨S_, .i32⟩ : BufTy).Contents (Elt F)) ]
/-- up to the start of the slice, -/
abbrev opsB : List (HloOp τ sig (Elt F)) :=
  [ StableHlo.nullary main_c_3 (constantI S_ 32 0#32),
    StableHlo.binary main_v10 main_c_3 main_v11 (cmpi .slt : (⟨S_, .i32⟩ : BufTy).Contents (Elt F) → (⟨S_, .i32⟩ : BufTy).Contents (Elt F) → (⟨S_, .i1⟩ : BufTy).Contents (Elt F)),
    StableHlo.nullary main_c_4 (constantI S_ 32 512#32),
    StableHlo.binary main_v10 main_c_4 main_v12 (addi : (⟨S_, .i32⟩ : BufTy).Contents (Elt F) → (⟨S_, .i32⟩ : BufTy).Contents (Elt F) → (⟨S_, .i32⟩ : BufTy).Contents (Elt F)),
    StableHlo.ternary main_v11 main_v12 main_v10 main_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- and the rest. -/
abbrev opsC : List (HloOp τ sig (Elt F)) :=
  [ StableHlo.unaryIndexed main_v8 ![main_v13] ⟨S_, .i32⟩ main_v14 ((fun x i => Host.dynamicSlice S1 x (fun k => (i k (Shape.Idx.first h_S_)).toInt) sliceFits_S512_S1) : (⟨S512, .i32⟩ : BufTy).Contents (Elt F) → (Fin 1 → (⟨S_, .i32⟩ : BufTy).Contents (Elt F)) → (⟨S1, .i32⟩ : BufTy).Contents (Elt F)),
    StableHlo.reshape main_v14 main_v15 (rfl : (.i32 : EltTy) = .i32) shapeCasts_S1_S_,
    StableHlo.nullary main_v16 (iotaInDim S512 32 0),
    StableHlo.unary main_v5 main_v17 (broadcastInDim S512 ![] bcast_S_S512 : (⟨S_, .i32⟩ : BufTy).Contents (Elt F) → (⟨S512, .i32⟩ : BufTy).Contents (Elt F)),
    StableHlo.binary main_v16 main_v17 main_v18 (cmpi .slt : (⟨S512, .i32⟩ : BufTy).Contents (Elt F) → (⟨S512, .i32⟩ : BufTy).Contents (Elt F) → (⟨S512, .i1⟩ : BufTy).Contents (Elt F)) ]

theorem ops2_2_split : (hostOps2_2 : List (HloOp τ sig (Elt F))) = opsA ++ (opsB ++ opsC) := rfl

theorem opsA_v10 : after opsA W main_v10
    = maxsi (subi (W main_v5 : IVec S_ 32) (constantI S_ 32 1#32)) (constantI S_ 32 0#32) := by
  simp only [opsA]
  after_results_simp <;> rfl
theorem opsA_v8 : after opsA W main_v8 = W main_v8 := by
  simp only [opsA]
  after_results_simp <;> rfl
theorem opsB_v13 : after opsB W main_v13
    = select (cmpi .slt (W main_v10 : IVec S_ 32) (constantI S_ 32 0#32))
        (addi (W main_v10 : IVec S_ 32) (constantI S_ 32 512#32)) (W main_v10 : IVec S_ 32) := by
  simp only [opsB]
  after_results_simp <;> rfl
theorem opsB_v8 : after opsB W main_v8 = W main_v8 := by
  simp only [opsB]
  after_results_simp <;> rfl
theorem opsC_v15 : after opsC W main_v15
    = shapeCast S_ (Host.dynamicSlice S1 (W main_v8 : IVec S512 32)
        (fun _ => ((W main_v13 : IVec S_ 32) (Shape.Idx.first h_S_)).toInt) sliceFits_S512_S1) shapeCasts_S1_S_ := by
  simp only [opsC]
  after_results_simp
  refine congrArg (fun g : Fin 1 → Int => shapeCast S_ (Host.dynamicSlice S1 (W main_v8 : IVec S512 32) g
    sliceFits_S512_S1) shapeCasts_S1_S_) (?_ : (_ : Fin 1 → Int) = _)
  funext k
  match k with
  | ⟨0, _⟩ => rfl

theorem ops2_2_v15 : after hostOps2_2 W main_v15
    = shapeCast S_ (Host.dynamicSlice S1 (W main_v8 : IVec S512 32)
        (fun _ => (startOf (W main_v5 : IVec S_ 32) (Shape.Idx.first h_S_)).toInt) sliceFits_S512_S1) shapeCasts_S1_S_ := by
  rw [ops2_2_split, StableHlo.after_append, StableHlo.after_append, opsC_v15, opsB_v13, opsB_v8, opsA_v10, opsA_v8]
  rfl
theorem ops2_2_v18 : after hostOps2_2 W main_v18
    = cmpi .slt (iotaInDim S512 32 0) (broadcastInDim S512 ![] bcast_S_S512 (W main_v5 : IVec S_ 32)) := by
  simp only [hostOps2_2]
  after_results_simp <;> rfl

theorem ops2_3_v19 : after hostOps2_3 W main_v19
    = select (W main_v18 : IVec S512 1) (W main_v8 : IVec S512 32)
        (broadcastInDim S512 ![] bcast_S_S512 (W main_v15 : IVec S_ 32)) := by
  simp only [hostOps2_3, StableHlo.TRef.unary, StableHlo.TRef.ternary, StableHlo.TRef.toBuf, StableHlo.TRef.ofBuf, cast_eq]
  after_results_simp <;> rfl

theorem ops2_4_v20 : after hostOps2_4 W main_v20
    = shapeCast S512x8x12500 (W main_v0 : Vec F S512x100000 .f32) shapeCasts_S512x100000_S512x8x12500 := by
  simp only [hostOps2_4]
  after_results_simp <;> rfl
theorem ops2_4_v22 : after hostOps2_4 W main_v22
    = broadcastInDim S512x1x8 ![0, 1, 2] bcast_S512x1x1_S512x1x8_0_1_2
        (shapeCast S512x1x1 (W main_arg1 : IVec S16x32 32) shapeCasts_S16x32_S512x1x1) := by
  simp only [hostOps2_4]
  after_results_simp <;> rfl
theorem ops2_4_v24 : after hostOps2_4 W main_v24
    = broadcastInDim S512x1x8 ![0, 1, 2] bcast_S512x1x1_S512x1x8_0_1_2
        (shapeCast S512x1x1 (W main_arg1 : IVec S16x32 32) shapeCasts_S16x32_S512x1x1) := by
  simp only [hostOps2_4]
  after_results_simp <;> rfl
theorem ops2_4_v23 : after hostOps2_4 W main_v23
    = broadcastInDim S1 ![] bcast_S_S1 (W main_v5 : IVec S_ 32) := by
  simp only [hostOps2_4]
  after_results_simp <;> rfl

theorem keep2 (r : Ref sig .tc) (h : r ∉ hostOps2_W) :
    after hostOps2 W r = W r := StableHlo.after_of_writes_sub _ _ hostOps2_writes h
theorem keep2_1 (r : Ref sig .tc) (h : r ∉ hostOps2_1_W) :
    after hostOps2_1 W r = W r := StableHlo.after_of_writes_sub _ _ hostOps2_1_writes h
theorem keep2_2 (r : Ref sig .tc) (h : r ∉ hostOps2_2_W) :
    after hostOps2_2 W r = W r := StableHlo.after_of_writes_sub _ _ hostOps2_2_writes h
theorem keep2_3 (r : Ref sig .tc) (h : r ∉ hostOps2_3_W) :
    after hostOps2_3 W r = W r := StableHlo.after_of_writes_sub _ _ hostOps2_3_writes h
theorem keep2_4 (r : Ref sig .tc) (h : r ∉ hostOps2_4_W) :
    after hostOps2_4 W r = W r := StableHlo.after_of_writes_sub _ _ hostOps2_4_writes h

/-- The table of rows. -/
theorem mid_v19 : mid W main_v19 = Order.slotsOf (posOf W) := by
  unfold mid
  rw [keep2_4 _ _ (by decide), ops2_3_v19, ops2_2_v18, ops2_2_v15, keep2_2 _ main_v8 (by decide), ops2_1_v8, ops2_v7,
    keep2_1 _ main_v5 (by decide), ops2_v5]
  rfl

/-- The table of the count. -/
theorem mid_v23 : mid W main_v23 = broadcastInDim S1 ![] bcast_S_S1 (Order.countOf (posOf W)) := by
  unfold mid
  rw [ops2_4_v23, keep2_3 _ main_v5 (by decide), keep2_2 _ main_v5 (by decide), keep2_1 _ main_v5 (by decide), ops2_v5]

/-- The logits, a row of 8 × 12500 for each position. -/
theorem mid_v20 : mid W main_v20
    = shapeCast S512x8x12500 (W main_v0 : Vec F S512x100000 .f32) shapeCasts_S512x100000_S512x8x12500 := by
  unfold mid
  rw [ops2_4_v20, keep2_3 _ main_v0 (by decide), keep2_2 _ main_v0 (by decide), keep2_1 _ main_v0 (by decide), keep2 _ main_v0 (by decide)]

/-- The tokens, each in eight lanes; -/
theorem mid_v22 : mid W main_v22
    = broadcastInDim S512x1x8 ![0, 1, 2] bcast_S512x1x1_S512x1x8_0_1_2
        (shapeCast S512x1x1 (W main_arg1 : IVec S16x32 32) shapeCasts_S16x32_S512x1x1) := by
  unfold mid
  rw [ops2_4_v22, keep2_3 _ main_arg1 (by decide), keep2_2 _ main_arg1 (by decide), keep2_1 _ main_arg1 (by decide),
    keep2 _ main_arg1 (by decide)]

/-- and the same in the buffer that the third call writes. -/
theorem mid_v24 : mid W main_v24
    = broadcastInDim S512x1x8 ![0, 1, 2] bcast_S512x1x1_S512x1x8_0_1_2
        (shapeCast S512x1x1 (W main_arg1 : IVec S16x32 32) shapeCasts_S16x32_S512x1x1) := by
  unfold mid
  rw [ops2_4_v24, keep2_3 _ main_arg1 (by decide), keep2_2 _ main_arg1 (by decide), keep2_1 _ main_arg1 (by decide),
    keep2 _ main_arg1 (by decide)]

theorem mid_v2 : mid W main_v2 = W main_v2 := by
  unfold mid
  rw [keep2_4 _ main_v2 (by decide), keep2_3 _ main_v2 (by decide), keep2_2 _ main_v2 (by decide), keep2_1 _ main_v2 (by decide),
    keep2 _ main_v2 (by decide)]

theorem ops0_v0 : after hostOps0 W main_v0
    = shapeCast S512x100000 (W main_arg0 : Vec F S16x32x100000 .f32) shapeCasts_S16x32x100000_S512x100000 := by
  simp only [hostOps0]
  after_results_simp <;> rfl
theorem ops0_keep (r : Ref sig .tc) (h : r ∉ hostOps0_W) :
    after hostOps0 W r = W r := StableHlo.after_of_writes_sub _ _ hostOps0_writes h
theorem ops1_v2 : after hostOps1 W main_v2
    = shapeCast S16x32 (W main_v1 : Vec F S64x1x8 .f32) shapeCasts_S64x1x8_S16x32 := by
  simp only [hostOps1]
  after_results_simp <;> rfl
theorem ops1_keep (r : Ref sig .tc) (h : r ∉ hostOps1_W) :
    after hostOps1 W r = W r := StableHlo.after_of_writes_sub _ _ hostOps1_writes h
theorem ops3_v27 : after hostOps3 W main_v27
    = shapeCast S16x32 (shapeCast S512 (extractStridedSlice S512x1x1 ![0, 0, 0] (W main_v24 : IVec S512x1x8 32)
        slices_S512x1x8_S512x1x1_0_0_0) shapeCasts_S512x1x1_S512) shapeCasts_S512_S16x32 := by
  simp only [hostOps3]
  after_results_simp <;> rfl
theorem ops3_keep (r : Ref sig .tc) (h : r ∉ hostOps3_W) :
    after hostOps3 W r = W r := StableHlo.after_of_writes_sub _ _ hostOps3_writes h

end Cert.KernelIdeal.Reads
-- ==== Proof.KernelIdeal.Chain.lean ====
/-
  The three calls and the host operations between them, one after another: what the buffers hold at each stage, the
  proof data of each call at what it is entered with, and the whole program's run, whose final state holds the
  arguments as launched, both results at what the stages compute, and every counter at zero.
-/
module

public import proofs.«01_k».proof.Proof.KernelIdeal.RegionConf
public import proofs.«01_k».proof.Proof.KernelIdeal.FinalSelect
public import proofs.«01_k».proof.Proof.KernelIdeal.RegionSample
public import proofs.«01_k».proof.Proof.KernelIdeal.Reads
public import Idealize.ShloMosaic.Lib.Pipeline.RegionArraysS
public import Idealize.ShloMosaic.Lib.Pipeline.RegionArraysTS

@[expose] public section

set_option maxRecDepth 16384

noncomputable section

namespace Cert.KernelIdeal.Chain

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open SampleCall (at512)

variable {F : FTy → Type} [FloatOps F]

local notation "𝕄" => MT nD τ sig Unit (Elt F) ℕ (UR sig nD τ) ℕ

variable (m : (ℓ : Loc nD τ sig) → Buf (Elt F) ℓ)

/-! ## The stages -/

/-- At the first call. -/
def A1 (c : Dev nD) : Valuation τ sig (Elt F) := StableHlo.after hostOps0 (V0 m c)
/-- What the first call leaves in its output. -/
def X1 (c : Dev nD) : Buf (Elt F) ((c : Thread nD τ).loc main_v1) := (ConfCall.dat (A1 m) c).arrAt 1 cfg0.N
/-- At the second call. -/
def A3 (c : Dev nD) : Valuation τ sig (Elt F) := StableHlo.after hostOps1 (Function.update (A1 m c) main_v1 (X1 m c))
/-- What the second call leaves in its output. -/
def X3 (c : Dev nD) : Buf (Elt F) ((c : Thread nD τ).loc main_v3) := (SelectCall.dat (A3 m) c).arrAt 2 cfg1.N
/-- After the second call. -/
def A4 (c : Dev nD) : Valuation τ sig (Elt F) := Function.update (A3 m c) main_v3 (X3 m c)
/-- At the third call. -/
def A9 (c : Dev nD) : Valuation τ sig (Elt F) := Reads.mid (A4 m c)

/-- The tables that the third call prefetches. -/
def T : pre2.Contents (Elt F) := fun k => A9 m 0 (Proc.devRef .tc (pre2.ref k))

theorem A4_v3 (c : Dev nD) : A4 m c main_v3 = X3 m c := by
  unfold A4; exact Function.update_self ..

/-- Position `t` as a bit: whether it is selected. -/
def bits (c : Dev nD) (t : Fin 512) : BitVec 1 :=
  shapeCast S512 (SelectCall.bit (A3 m c main_v2) (A3 m c main_arg1)) shapeCasts_S16x32_S512 (at512 t)

theorem posOf_at (c : Dev nD) (t : Fin 512) : Reads.posOf (A4 m c) (at512 t) = (bits m c t).setWidth 32 := by
  unfold Reads.posOf
  rw [A4_v3]
  unfold X3
  rw [SelectCall.final]
  rfl

theorem T_rows : T m 0 = Order.slotsOf (Reads.posOf (A4 m 0)) := Reads.mid_v19 (A4 m 0)
theorem T_count : T m 1 = broadcastInDim S1 ![] bcast_S_S1 (Order.countOf (Reads.posOf (A4 m 0))) := Reads.mid_v23 (A4 m 0)

theorem good : SampleCall.Good (T m) := Order.good (posOf_at m 0) (T_rows m) (T_count m)

/-- The tables, admissible. -/
def aT : (pcfg2 (F := F)).Adm := ⟨T m, SampleCall.ok_of_good (T m) (good m)⟩

/-- What the third call leaves in its output. -/
def X10 (c : Dev nD) : Buf (Elt F) ((c : Thread nD τ).loc main_v24) := (SampleCall.dat (aT m) (A9 m) c).arrAt 2 (cfg2 (aT m)).N

/-- What the calls leave, as the generated chain of stages takes it. -/
def outs : Outs (F := F) := fun _ r c =>
  if h : r = main_v1 then h ▸ X1 m c else if h : r = main_v3 then h ▸ X3 m c
    else if h : r = main_v24 then h ▸ X10 m c else m ((c : Thread nD τ).loc r)

theorem outs_v1 (c : Dev nD) : outs m 2 main_v1 c = X1 m c := by
  unfold outs; rw [dif_pos rfl]
theorem outs_v3 (c : Dev nD) : outs m 4 main_v3 c = X3 m c := by
  unfold outs; rw [dif_neg (by decide), dif_pos rfl]
theorem outs_v24 (c : Dev nD) : outs m 10 main_v24 c = X10 m c := by
  unfold outs; rw [dif_neg (by decide), dif_neg (by decide), dif_pos rfl]

theorem V3_eq (c : Dev nD) : V3 m (outs m) c = A3 m c := by
  unfold V3 V2 A3; rw [outs_v1]; rfl
theorem V4_eq (c : Dev nD) : V4 m (outs m) c = A4 m c := by
  unfold V4 A4; rw [outs_v3, V3_eq]
theorem V9_eq (c : Dev nD) : V9 m (outs m) c = A9 m c := by
  unfold V9 V8 V7 V6 V5 A9 Reads.mid; rw [V4_eq]

/-! ## The calls' records -/

/-- The prefetched tables of each call: the first two have none. -/
def adm : (p : Fin 3) → (pcfgs (F := F) p).Adm
  | ⟨0, _⟩ => cfg0.toPCfg_adm
  | ⟨1, _⟩ => cfg1.toPCfg_adm
  | ⟨2, _⟩ => aT m

/-- The proof data of each call. -/
def pdats : (p : Fin 3) → (c : Dev nD) → Dat τ (Elt F) Unit ℕ (UR sig nD τ) ℕ (Pipeline.pin (pcfgs (F := F)) (adm m) p) c
  | ⟨0, _⟩ => ConfCall.dat (A1 m)
  | ⟨1, _⟩ => SelectCall.dat (A3 m)
  | ⟨2, _⟩ => SampleCall.dat (aT m) (A9 m)

abbrev L : GSem nD τ sig → Finset Unit := fun g => if g.1.2 = .tc then {()} else ∅
abbrev lv : GSem nD τ sig → Unit → ℕ := fun _ _ => 0
/-- What rides beside the buffers: the core owes nothing. -/
abbrev E (c : Dev nD) : sProp 𝕄 := iprop(∃ W, owes (c : Thread nD τ) (0 : CellTallies nD τ sig Unit) W)

theorem cut (p : Fin 3) : Pipeline.LevelCut (pcfgs (F := F)) (adm m) () L lv p (fun _ : Dev nD => (0 : CellTallies nD τ sig Unit)) (fun _ => 0) where
  hι c w s := by
    show () ∈ (if (Proc.tc : Proc τ) = .tc then ({()} : Finset Unit) else ∅)
    rw [if_pos rfl]; exact Finset.mem_singleton_self _
  hιb c w s := le_refl _
  hD c g i h := absurd h (Nat.lt_irrefl 0)

theorem share0 (c : Dev nD) (w) : (pdats m 0 c).share w = fullShare := (ConfCall.dat (A1 m) c).share_full (fun _ => rfl) w
theorem share1 (c : Dev nD) (w) : (pdats m 1 c).share w = fullShare := (SelectCall.dat (A3 m) c).share_full (fun _ => rfl) w
theorem share2 (c : Dev nD) (w) : (pdats m 2 c).share w = fullShare := (SampleCall.dat (aT m) (A9 m) c).share_full (fun _ => rfl) w

/-- The two tables held whole are the two buffers at them. -/
theorem tables_pair (c : Dev nD) (V : pre2.Contents (Elt F)) :
    (Pipeline.prefHeld pre2 c (fun _ => fullShare) V : sProp 𝕄)
      = iprop((((c : Thread nD τ).loc main_v19) ↦{fullShare} (show Buf (Elt F) ((c : Thread nD τ).loc main_v19) from V 0))
          ∗ (((c : Thread nD τ).loc main_v23) ↦{fullShare} (show Buf (Elt F) ((c : Thread nD τ).loc main_v23) from V 1))) := by
  unfold Pipeline.prefHeld
  rw [show (Finset.univ : Finset (Fin 2)) = insert 0 {1} from by decide, bigSep_insert (by decide), bigSep_singleton]
  rfl

theorem tables_in (c : Dev nD) (V : pre2.Contents (Elt F)) :
    (Pipeline.prefHeld pre2 c (fun _ => fullShare) V : sProp 𝕄) ⊢ SampleCall.tables c V := by
  rw [tables_pair]
  unfold SampleCall.tables
  iintro ⟨H0, H1⟩
  isplitl [H0]
  · iexists _; isplitr; swap; · iexact H0
    ipureintro; rfl
  · iexists _; isplitr; swap; · iexact H1
    ipureintro; rfl

theorem tables_out (c : Dev nD) (V : pre2.Contents (Elt F)) :
    SampleCall.tables c V ⊢ (Pipeline.prefHeld pre2 c (fun _ => fullShare) V : sProp 𝕄) := by
  rw [tables_pair]
  unfold SampleCall.tables
  iintro ⟨⟨%f0, %h0, H0⟩, ⟨%f1, %h1, H1⟩⟩
  subst h0 h1
  isplitl [H0]
  · iexact H0
  · iexact H1

theorem rest_in (c : Dev nD) :
    iprop(iprop(Pipeline.scopedRest spec2 c ∗ emp) ∗ (Pipeline.prefHeld pre2 c (fun _ => fullShare) (T m) : sProp 𝕄))
      ⊢ iprop(Pipeline.scopedRest spec2 c ∗ SampleCall.tables c (T m)) := by
  iintro ⟨⟨H, -⟩, Ht⟩
  isplitl [H]; · iexact H
  iapply (tables_in c (T m)) $$ Ht

theorem rest_out (c : Dev nD) :
    iprop(Pipeline.scopedRest spec2 c ∗ SampleCall.tables c (T m))
      ⊢ iprop(iprop(Pipeline.scopedRest spec2 c ∗ emp) ∗ (Pipeline.prefHeld pre2 c (fun _ => fullShare) (T m) : sProp 𝕄)) := by
  iintro ⟨H, Ht⟩
  isplitl [H]
  · isplitl [H]; · iexact H
    iempintro
  iapply (tables_out c (T m)) $$ Ht

set_option backward.isDefEq.respectTransparency.types false in
/-- The first call's. -/
def R0 : RegionSeg (pcfgs (F := F)) (adm m) (pdats m) () defs₀ Variants.none L lv 0 :=
  RegionSeg.ofHeldIn (pcfgs (F := F)) (adm m) (pdats m) () defs₀ Variants.none L lv 0 (fun _ => 0) (Pipeline.ucRefs τ sig)
    (fun _ => iprop(emp)) (fun _ => iprop(emp)) launch0 rfl (fun c => (ConfCall.obligation (A1 m) c).loose) (fun _ _ => rfl)
    (fun _ => rfl) (share0 m)
    (fun c => by rw [show (pdats m 0 c).Φ 0 = Pipeline.scopedRest spec0 c from rfl]; iintro ⟨H, -⟩; iexact H)
    (fun c => by
      rw [show (pdats m 0 c).Φ (Fin.last _) = Pipeline.scopedRest spec0 c from rfl]
      iintro H; isplitl [H]; · iexact H
      iempintro)
    (fun _ => 0) (cut m 0) (fun _ => iprop(emp)) (A1 m) (fun c w => rfl)

set_option backward.isDefEq.respectTransparency.types false in
/-- The second call's. -/
def R1 : RegionSeg (pcfgs (F := F)) (adm m) (pdats m) () defs₀ Variants.none L lv 1 :=
  RegionSeg.ofHeldIn (pcfgs (F := F)) (adm m) (pdats m) () defs₀ Variants.none L lv 1 (fun _ => 0) (Pipeline.ucRefs τ sig)
    (fun _ => iprop(emp)) (fun _ => iprop(emp)) launch1 rfl (fun c => (SelectCall.obligation (A3 m) c).loose) (fun _ _ => rfl)
    (fun _ => rfl) (share1 m)
    (fun c => by rw [show (pdats m 1 c).Φ 0 = Pipeline.scopedRest spec1 c from rfl]; iintro ⟨H, -⟩; iexact H)
    (fun c => by
      rw [show (pdats m 1 c).Φ (Fin.last _) = Pipeline.scopedRest spec1 c from rfl]
      iintro H; isplitl [H]; · iexact H
      iempintro)
    (fun _ => 0) (cut m 1) (fun _ => iprop(emp)) (A3 m) (fun c w => rfl)

set_option backward.isDefEq.respectTransparency.types false in
/-- The third call's, with its two tables. -/
def R2 : RegionSeg (pcfgs (F := F)) (adm m) (pdats m) () defs₀ Variants.none L lv 2 :=
  RegionSeg.ofHeldInT (pcfgs (F := F)) (adm m) (pdats m) () defs₀ Variants.none L lv 2 (fun _ => 0) (Pipeline.ucRefs τ sig)
    (fun _ => iprop(emp)) (fun _ => iprop(emp)) launch2 (fun c => (SampleCall.obligation (aT m) (A9 m) (good m) c).loose) (fun _ _ => rfl)
    (fun _ => rfl) (share2 m)
    (fun c => rest_in m c)
    (fun c => rest_out m c)
    (fun _ => 0) (cut m 2) (fun _ => iprop(emp)) (A9 m) (fun c w => rfl)
    (fun c k => by rw [Subsingleton.elim c 0]; rfl)

end Cert.KernelIdeal.Chain
-- ==== Proof.KernelIdeal.Run.lean ====
/-
  The whole program's run: from any memory with zero counters it ends, and its final state holds the arguments as
  launched, both results at what the last stage computes, and every counter at zero.
-/
module

public import proofs.«01_k».proof.Proof.KernelIdeal.Chain

@[expose] public section

set_option maxRecDepth 16384

noncomputable section

namespace Cert.KernelIdeal.Chain

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- After a call with one output the unscoped buffers hold what they held, but for the output's array. -/
theorem afterRegion_one {cfg : Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (o : Fin cfg.W)
    (hout : ∀ w, (cfg.win w).isOut = true → w = o) (b : DevRef τ sig) (hb : b ∈ Pipeline.ucRefs τ sig) :
    Pipeline.afterRegion dat V b
      = Function.update V (Proc.devRef .tc (Pipeline.arrRef cfg.spec o)) (dat.arrAt o cfg.N) b := by
  obtain ⟨r, -, rfl⟩ := Finset.mem_map.mp (Finset.mem_filter.mp hb).1
  show Pipeline.afterRegion dat V (Proc.devRef .tc r) = Function.update V (Proc.devRef .tc (Pipeline.arrRef cfg.spec o)) (dat.arrAt o cfg.N) (Proc.devRef .tc r)
  by_cases h : r = Pipeline.arrRef cfg.spec o
  · subst h
    rw [Function.update_self]
    exact Pipeline.afterRegion_arr dat V hinj o
  · rw [Function.update_of_ne (fun e => h (Proc.devRef_injective _ e))]
    refine Pipeline.afterRegion_keeps dat V hinj hA r fun w e => ?_
    by_contra hw
    exact h ((hout w (by simpa using hw)) ▸ e.symm)

variable (m : (ℓ : Loc nD τ sig) → Buf (Elt F) ℓ)

/-- What rides along, as a call's record takes it and gives it back. -/
theorem ride_in (c : Dev nD) (H : sProp 𝕄) : iprop(H ∗ E c) ⊢ iprop(H ∗ (∃ Wd, owes (c : Thread nD τ) (0 : CellTallies nD τ sig Unit) Wd) ∗ emp ∗ emp) := by
  iintro ⟨H, HE⟩
  isplitl [H]; · iexact H
  isplitl [HE]; · iexact HE
  isplitl []; · iempintro
  iempintro

theorem ride_out (c : Dev nD) (H : sProp 𝕄) : iprop(H ∗ (∃ Wd, owes (c : Thread nD τ) (0 : CellTallies nD τ sig Unit) Wd) ∗ emp ∗ emp) ⊢ iprop(H ∗ E c) := by
  iintro ⟨H, HE, -⟩
  isplitl [H]; · iexact H
  iexact HE

/-- The unscoped buffers, held at a valuation. -/
abbrev H (c : Dev nD) (V : Valuation τ sig (Elt F)) : sProp 𝕄 := StableHlo.held (c : Thread nD τ) (Pipeline.ucRefs τ sig) V

theorem H_congr (c : Dev nD) {V V' : Valuation τ sig (Elt F)} (h : ∀ b ∈ Pipeline.ucRefs τ sig, V b = V' b) :
    (H c V : sProp 𝕄) = H c V' := StableHlo.held_congr (c.tc : Thread nD τ) h

theorem arrs0 : Pipeline.arrRefs (τ := τ) spec0 ⊆ Pipeline.ucRefs τ sig := Pipeline.arrRefs_sub_ucRefs _ (by decide)
theorem arrs1 : Pipeline.arrRefs (τ := τ) spec1 ⊆ Pipeline.ucRefs τ sig := Pipeline.arrRefs_sub_ucRefs _ (by decide)
theorem arrs2 : Pipeline.arrRefs (τ := τ) spec2 ⊆ Pipeline.ucRefs τ sig := Pipeline.arrRefs_sub_ucRefs _ (by decide)
theorem tbls2 : Pipeline.tblRefs (τ := τ) pre2 ⊆ Pipeline.ucRefs τ sig := Pipeline.tblRefs_sub_ucRefs _ (by decide)

theorem pre0 (c : Dev nD) : iprop(H c (V1 m c) ∗ E c) ⊢ (R0 m).pre c :=
  by
  refine BI.Entails.trans ?_ (RegionSeg.ofHeldIn_pre (by exact arrs0) c)
  exact ride_in c _

theorem post0 (c : Dev nD) : (R0 m).post c ⊢ iprop(H c (V2 m (outs m) c) ∗ E c) := by
  refine (RegionSeg.ofHeldIn_post (by exact arrs0) c).trans ((ride_out c _).trans ?_)
  rw [show (StableHlo.held (c.tc : Thread nD τ) (Pipeline.ucRefs τ sig) (Pipeline.afterRegion (pdats m 0 c) (A1 m c)) : sProp 𝕄)
      = H c (V2 m (outs m) c) from H_congr c fun b hb => by
    rw [show V2 m (outs m) c = Function.update (A1 m c) main_v1 (X1 m c) from by unfold V2; rw [outs_v1]; rfl]
    exact afterRegion_one (ConfCall.dat (A1 m) c) (A1 m c) (by decide) (fun w => rfl) 1 (by decide) b hb]

theorem pre1 (c : Dev nD) : iprop(H c (V3 m (outs m) c) ∗ E c) ⊢ (R1 m).pre c := by
  rw [V3_eq]
  refine BI.Entails.trans ?_ (RegionSeg.ofHeldIn_pre (by exact arrs1) c)
  exact ride_in c _

theorem post1 (c : Dev nD) : (R1 m).post c ⊢ iprop(H c (V4 m (outs m) c) ∗ E c) := by
  refine (RegionSeg.ofHeldIn_post (by exact arrs1) c).trans ((ride_out c _).trans ?_)
  rw [show (StableHlo.held (c.tc : Thread nD τ) (Pipeline.ucRefs τ sig) (Pipeline.afterRegion (pdats m 1 c) (A3 m c)) : sProp 𝕄)
      = H c (V4 m (outs m) c) from H_congr c fun b hb => by
    rw [V4_eq]
    exact afterRegion_one (SelectCall.dat (A3 m) c) (A3 m c) (by decide) (fun w => rfl) 2 (by decide) b hb]

/-- Of the third call's windows the last alone is an output. -/
theorem outs_two (a : (pcfg2 (F := F)).Adm) (w : Fin 3) (h : ((cfg2 a).win w).isOut = true) : w = 2 := by
  match w with
  | ⟨0, _⟩ => exact absurd (show false = true from h) (by decide)
  | ⟨1, _⟩ => exact absurd (show false = true from h) (by decide)
  | ⟨2, _⟩ => rfl

theorem pre2' (c : Dev nD) : iprop(H c (V9 m (outs m) c) ∗ E c) ⊢ (R2 m).pre c := by
  rw [V9_eq]
  refine BI.Entails.trans ?_ (RegionSeg.ofHeldInT_pre (by exact arrs2) (by exact tbls2) c)
  exact ride_in c _

theorem post2 (c : Dev nD) : (R2 m).post c ⊢ iprop(H c (V10 m (outs m) c) ∗ E c) := by
  refine (RegionSeg.ofHeldInT_post (pcs := pcfgs (F := F)) (p := 2) (W := A9 m) (by exact arrs2) (by exact tbls2) c).trans ((ride_out c _).trans ?_)
  rw [show (StableHlo.held (c.tc : Thread nD τ) (Pipeline.ucRefs τ sig) (Pipeline.afterRegion (pdats m 2 c) (A9 m c)) : sProp 𝕄)
      = H c (V10 m (outs m) c) from H_congr c fun b hb => by
    rw [show V10 m (outs m) c = Function.update (A9 m c) main_v24 (X10 m c) from by unfold V10; rw [outs_v24, V9_eq]]
    exact afterRegion_one (SampleCall.dat (aT m) (A9 m) c) (A9 m c) (show Function.Injective (Pipeline.arrRef spec2) by decide) (fun w => rfl) 2 (outs_two _) b hb]

/-- No core has a resource of its own at the launch. -/
theorem no_ghost (u : UR sig nD τ) :
    (ownU u : sProp 𝕄) ⊢ |={Set.univ}=> iprop(BI.own (emb₁ u) ∗ bigSep Finset.univ fun _ : Dev nD => (BI.emp : sProp 𝕄)) := by
  rw [BI.bigSep_emp_const, ownU_emb₁]
  iintro H
  imodintro
  isplitl [H]; · iexact H
  iempintro

/-- What a core is launched with is the unscoped buffers held and owing nothing. -/
theorem launched (ρ : Dev nD → PrngReg) (c : Dev nD) :
    iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ (BI.emp : sProp 𝕄))
      ⊢ iprop(H c (V0 m c) ∗ E c) := by
  rw [show (unscopedBufs c (fun b => m ((c.tc : Thread nD τ).loc b)) : sProp 𝕄) = H c (V0 m c) from Pipeline.unscopedBufs_held c (V0 m c)]
  iintro ⟨Hh, -, HO, -⟩
  isplitl [Hh]; · iexact Hh
  iexists ∅; iexact HO

/-- The same on every core. -/
theorem launched_all (ρ : Dev nD → PrngReg) :
    (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ (BI.emp : sProp 𝕄)))
      ⊢ (bigSep Finset.univ fun c : Dev nD => iprop(H c (V0 m c) ∗ E c) : sProp 𝕄) :=
  bigSep_mono fun c _ => launched m ρ c

/-- The state at the end on a core: the arguments as launched and the two results at the last stage. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v27) = V11 m (outs m) c main_v27
    ∧ s.mem ((c.tc : Thread nD τ).loc main_v2) = V11 m (outs m) c main_v2

theorem mem_uc (b : Ref sig .tc) (h : ¬ (Proc.devRef (τ := τ) .tc b).isScoped) : Proc.devRef (τ := τ) .tc b ∈ Pipeline.ucRefs τ sig :=
  Finset.mem_filter.mpr ⟨StableHlo.devRef_mem_tcRefs b, h⟩

set_option backward.isDefEq.respectTransparency.types false in
/-- The run, from any memory with zero counters. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) (adm m) (pdats m) () (cellOf_inj (adm m)) emb₁ defs₀ Variants.none L lv m ρ main
    (segs m (outs m) Variants.none L lv (fun _ => E) () (adm m) (pdats m) (R0 m) (R1 m) (R2 m))
    (fun c Q => by
      rewrite [main_chain c, Seg.run_eq_chain,
        show (segs m (outs m) Variants.none L lv (fun _ => E) () (adm m) (pdats m) (R0 m) (R1 m) (R2 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g h => if_neg h) (fun _ => BI.emp) _ (no_ghost _)
    (T₀ := fun c => iprop(H c (V0 m c) ∗ E c))
    (Tₙ := fun c => H c (V11 m (outs m) c))
    (hch := fun c => ⟨.rfl, pre0 m c, post0 m c, pre1 m c, post1 m c, .rfl, .rfl, .rfl, .rfl, pre2' m c, post2 m c, .rfl⟩)
    (hinit := ?_) (QY := Ends m)
    (hfin := fun c s' => ?_) (hQ := fun _ h hz => ⟨h, funext fun g => hz g (.inr (regions_no_unscoped g.2))⟩)
  · iintro ⟨Hc, -⟩
    imodintro
    iapply (launched_all m ρ) $$ Hc
  · unfold H StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨(h _ (mem_uc main_arg0 (by decide))).trans (V11_main_arg0 m (outs m) c),
        (h _ (mem_uc main_arg1 (by decide))).trans (V11_main_arg1 m (outs m) c),
        h _ (mem_uc main_v27 (by decide)), h _ (mem_uc main_v2 (by decide))⟩
    · iexact HSI

end Cert.KernelIdeal.Chain
-- ==== Proof.Reference.Ops.lean ====
/-
  The reference's host operations as lists, called functions' in their call's place, and the run of the whole: every
  execution ends with the arguments as launched and the buffers at what the operations, one after another, leave.
-/
module

public import proofs.«01_k».proof.Proof.Gen.ReferenceIdeal
public import Idealize.ShloMosaic.Lib.StableHlo.Run
public import Idealize.ShloMosaic.Lib.StableHlo.RunRead

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A typed reference to a word for every entry, and to one word. -/
abbrev 𝕎 : Type := TRef sig ⟨S16x32x100000, .i32⟩
abbrev 𝕂 : Type := TRef sig ⟨S_, .i32⟩

/-- Of the reference's operations: the logits with the mask token at minus infinity, and over the temperature. -/
abbrev opsScaled : List (HloOp τ sig (Elt F)) :=
  [ nullary main_c (constantI S_ 32 99999#32),
    unary main_c main_v0 (broadcastInDim S1 ![] bcast_S_S1 : (⟨S_, .i32⟩ : BufTy).Contents (Elt F) → (⟨S1, .i32⟩ : BufTy).Contents (Elt F)),
    nullary main_cst (constant S_ .f32 0xFF800000#32),
    unary main_cst main_v1 (broadcastInDim S16x32 ![] bcast_S_S16x32 : (⟨S_, .f32⟩ : BufTy).Contents (Elt F) → (⟨S16x32, .f32⟩ : BufTy).Contents (Elt F)),
    ternary main_arg0 main_v0 main_v1 main_v2 ((fun x i u => Host.scatter scatter_S16x32x100000_S1_S16x32_01_2_2_0 (fun _ b => b) x i u) : (⟨S16x32x100000, .f32⟩ : BufTy).Contents (Elt F) → (⟨S1, .i32⟩ : BufTy).Contents (Elt F) → (⟨S16x32, .f32⟩ : BufTy).Contents (Elt F) → (⟨S16x32x100000, .f32⟩ : BufTy).Contents (Elt F)),
    nullary main_cst_0 (constant S_ .f32 0x3F800000#32),
    unary main_cst_0 main_v3 (broadcastInDim S16x32x100000 ![] bcast_S_S16x32x100000 : (⟨S_, .f32⟩ : BufTy).Contents (Elt F) → (⟨S16x32x100000, .f32⟩ : BufTy).Contents (Elt F)),
    binary main_v2 main_v3 main_v4 (Host.divf : (⟨S16x32x100000, .f32⟩ : BufTy).Contents (Elt F) → (⟨S16x32x100000, .f32⟩ : BufTy).Contents (Elt F) → (⟨S16x32x100000, .f32⟩ : BufTy).Contents (Elt F)) ]

/-- Of the reference's operations: the softmax and its largest entry. -/
abbrev opsConf : List (HloOp τ sig (Elt F)) :=
  [ nullary main_cst_1 (constant S_ .f32 0xFF800000#32),
    binary main_v4 main_cst_1 main_v5 ((fun x v => Host.reduce FloatOps.maximumf x v reducesTo_S16x32x100000_S16x32_d2 h_S_) : (⟨S16x32x100000, .f32⟩ : BufTy).Contents (Elt F) → (⟨S_, .f32⟩ : BufTy).Contents (Elt F) → (⟨S16x32, .f32⟩ : BufTy).Contents (Elt F)),
    nullary main_cst_2 (constant S_ .f32 0xFF800000#32),
    unary main_cst_2 main_v6 (broadcastInDim S16x32 ![] bcast_S_S16x32 : (⟨S_, .f32⟩ : BufTy).Contents (Elt F) → (⟨S16x32, .f32⟩ : BufTy).Contents (Elt F)),
    binary main_v6 main_v5 main_v7 (maximumf : (⟨S16x32, .f32⟩ : BufTy).Contents (Elt F) → (⟨S16x32, .f32⟩ : BufTy).Contents (Elt F) → (⟨S16x32, .f32⟩ : BufTy).Contents (Elt F)),
    unary main_v7 main_v8 (broadcastInDim S16x32x1 ![0, 1] bcast_S16x32_S16x32x1_0_1 : (⟨S16x32, .f32⟩ : BufTy).Contents (Elt F) → (⟨S16x32x1, .f32⟩ : BufTy).Contents (Elt F)),
    unary main_v8 main_v9 (broadcastInDim S16x32x100000 ![0, 1, 2] bcast_S16x32x1_S16x32x100000_0_1_2 : (⟨S16x32x1, .f32⟩ : BufTy).Contents (Elt F) → (⟨S16x32x100000, .f32⟩ : BufTy).Contents (Elt F)),
    binary main_v4 main_v9 main_v10 (subf : (⟨S16x32x100000, .f32⟩ : BufTy).Contents (Elt F) → (⟨S16x32x100000, .f32⟩ : BufTy).Contents (Elt F) → (⟨S16x32x100000, .f32⟩ : BufTy).Contents (Elt F)),
    unary main_v10 main_v11 (Host.exp : (⟨S16x32x100000, .f32⟩ : BufTy).Contents (Elt F) → (⟨S16x32x100000, .f32⟩ : BufTy).Contents (Elt F)),
    nullary main_cst_3 (constant S_ .f32 0x00000000#32),
    binary main_v11 main_cst_3 main_v12 ((fun x v => Host.reduceAdd x v reducesTo_S16x32x100000_S16x32_d2 h_S_) : (⟨S16x32x100000, .f32⟩ : BufTy).Contents (Elt F) → (⟨S_, .f32⟩ : BufTy).Contents (Elt F) → (⟨S16x32, .f32⟩ : BufTy).Contents (Elt F)),
    unary main_v12 main_v13 (broadcastInDim S16x32x1 ![0, 1] bcast_S16x32_S16x32x1_0_1 : (⟨S16x32, .f32⟩ : BufTy).Contents (Elt F) → (⟨S16x32x1, .f32⟩ : BufTy).Contents (Elt F)),
    unary main_v13 main_v14 (broadcastInDim S16x32x100000 ![0, 1, 2] bcast_S16x32x1_S16x32x100000_0_1_2 : (⟨S16x32x1, .f32⟩ : BufTy).Contents (Elt F) → (⟨S16x32x100000, .f32⟩ : BufTy).Contents (Elt F)),
    binary main_v11 main_v14 main_v15 (Host.divf : (⟨S16x32x100000, .f32⟩ : BufTy).Contents (Elt F) → (⟨S16x32x100000, .f32⟩ : BufTy).Contents (Elt F) → (⟨S16x32x100000, .f32⟩ : BufTy).Contents (Elt F)),
    nullary main_cst_4 (constant S_ .f32 0xFF800000#32),
    binary main_v15 main_cst_4 main_v16 ((fun x v => Host.reduce FloatOps.maximumf x v reducesTo_S16x32x100000_S16x32_d2 h_S_) : (⟨S16x32x100000, .f32⟩ : BufTy).Contents (Elt F) → (⟨S_, .f32⟩ : BufTy).Contents (Elt F) → (⟨S16x32, .f32⟩ : BufTy).Contents (Elt F)) ]

/-- Of the reference's operations: the positions that are kept. -/
abbrev opsPick : List (HloOp τ sig (Elt F)) :=
  [ nullary main_c_5 (constantI S_ 32 99999#32),
    unary main_c_5 main_v17 (broadcastInDim S16x32 ![] bcast_S_S16x32 : (⟨S_, .i32⟩ : BufTy).Contents (Elt F) → (⟨S16x32, .i32⟩ : BufTy).Contents (Elt F)),
    binary main_arg1 main_v17 main_v18 (cmpi .eq : (⟨S16x32, .i32⟩ : BufTy).Contents (Elt F) → (⟨S16x32, .i32⟩ : BufTy).Contents (Elt F) → (⟨S16x32, .i1⟩ : BufTy).Contents (Elt F)),
    nullary main_cst_6 (constant S_ .f32 0xFF800000#32),
    TRef.unary (.of main_cst_6) (.of main_call0_v0) id,
    TRef.unary (.of main_call0_v0) (.of main_call0_v1) (broadcastInDim S16x32 ![] bcast_S_S16x32),
    TRef.ternary (.of main_v18) (.of main_v16) (.of main_call0_v1) (.of main_v19) select,
    unary main_v19 main_values ((fun x => (Host.topK S16x4 1 (FloatOps.cmpfTotal .gt) x sliceFits_S16x32_S16x4).1) : (⟨S16x32, .f32⟩ : BufTy).Contents (Elt F) → (⟨S16x4, .f32⟩ : BufTy).Contents (Elt F)),
    unary main_v19 main_indices ((fun x => (Host.topK S16x4 1 (FloatOps.cmpfTotal .gt) x sliceFits_S16x32_S16x4).2) : (⟨S16x32, .f32⟩ : BufTy).Contents (Elt F) → (⟨S16x4, .i32⟩ : BufTy).Contents (Elt F)),
    unary main_values main_v20 ((extractStridedSlice S16x1 ![0, 3] · slices_S16x4_S16x1_0_3) : (⟨S16x4, .f32⟩ : BufTy).Contents (Elt F) → (⟨S16x1, .f32⟩ : BufTy).Contents (Elt F)),
    unary main_v20 main_v21 (broadcastInDim S16x32 ![0, 1] bcast_S16x1_S16x32_0_1 : (⟨S16x1, .f32⟩ : BufTy).Contents (Elt F) → (⟨S16x32, .f32⟩ : BufTy).Contents (Elt F)),
    binary main_v19 main_v21 main_v22 (cmpf .oge : (⟨S16x32, .f32⟩ : BufTy).Contents (Elt F) → (⟨S16x32, .f32⟩ : BufTy).Contents (Elt F) → (⟨S16x32, .i1⟩ : BufTy).Contents (Elt F)),
    binary main_v18 main_v22 main_v23 (andi : (⟨S16x32, .i1⟩ : BufTy).Contents (Elt F) → (⟨S16x32, .i1⟩ : BufTy).Contents (Elt F) → (⟨S16x32, .i1⟩ : BufTy).Contents (Elt F)) ]

/-- Of the reference's operations: the two words of the key. -/
abbrev opsKey : List (HloOp τ sig (Elt F)) :=
  [ nullary main_c_7 (constantI S_ 32 42#32),
    nullary main_c_8 (constantI S_ 32 32#32),
    binary main_c_7 main_c_8 main_v24 (Host.shrui : (⟨S_, .i32⟩ : BufTy).Contents (Elt F) → (⟨S_, .i32⟩ : BufTy).Contents (Elt F) → (⟨S_, .i32⟩ : BufTy).Contents (Elt F)),
    unary main_v24 main_v25 (id : (⟨S_, .i32⟩ : BufTy).Contents (Elt F) → (⟨S_, .i32⟩ : BufTy).Contents (Elt F)),
    unary main_v25 main_v26 (broadcastInDim S1 ![] bcast_S_S1 : (⟨S_, .i32⟩ : BufTy).Contents (Elt F) → (⟨S1, .i32⟩ : BufTy).Contents (Elt F)),
    nullary main_c_9 (constantI S_ 32 4294967295#32),
    binary main_c_7 main_c_9 main_v27 (andi : (⟨S_, .i32⟩ : BufTy).Contents (Elt F) → (⟨S_, .i32⟩ : BufTy).Contents (Elt F) → (⟨S_, .i32⟩ : BufTy).Contents (Elt F)),
    unary main_v27 main_v28 (id : (⟨S_, .i32⟩ : BufTy).Contents (Elt F) → (⟨S_, .i32⟩ : BufTy).Contents (Elt F)),
    unary main_v28 main_v29 (broadcastInDim S1 ![] bcast_S_S1 : (⟨S_, .i32⟩ : BufTy).Contents (Elt F) → (⟨S1, .i32⟩ : BufTy).Contents (Elt F)),
    binary main_v26 main_v29 main_v30 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    unary main_v30 main_v31 ((extractStridedSlice S1 ![0] · slices_S2_S1_0) : (⟨S2, .i32⟩ : BufTy).Contents (Elt F) → (⟨S1, .i32⟩ : BufTy).Contents (Elt F)),
    reshape main_v31 main_v32 (rfl : (.i32 : EltTy) = .i32) shapeCasts_S1_S_,
    unary main_v30 main_v33 ((extractStridedSlice S1 ![1] · slices_S2_S1_1) : (⟨S2, .i32⟩ : BufTy).Contents (Elt F) → (⟨S1, .i32⟩ : BufTy).Contents (Elt F)),
    reshape main_v33 main_v34 (rfl : (.i32 : EltTy) = .i32) shapeCasts_S1_S_ ]

/-- Of the reference's operations: the counter of every entry, begun. -/
abbrev opsCountA : List (HloOp τ sig (Elt F)) :=
  [ nullary main_v35 (iotaInDim S16x32x100000 64 0),
    nullary main_v36 (iotaInDim S16x32x100000 64 1),
    nullary main_v37 (iotaInDim S16x32x100000 64 2),
    nullary main_c_10 (constantI S_ 64 3200000#64),
    unary main_c_10 main_v38 (broadcastInDim S16x32x100000 ![] bcast_S_S16x32x100000 : (⟨S_, .i64⟩ : BufTy).Contents (Elt F) → (⟨S16x32x100000, .i64⟩ : BufTy).Contents (Elt F)),
    binary main_v38 main_v35 main_v39 (muli : (⟨S16x32x100000, .i64⟩ : BufTy).Contents (Elt F) → (⟨S16x32x100000, .i64⟩ : BufTy).Contents (Elt F) → (⟨S16x32x100000, .i64⟩ : BufTy).Contents (Elt F)),
    nullary main_c_11 (constantI S_ 64 100000#64),
    unary main_c_11 main_v40 (broadcastInDim S16x32x100000 ![] bcast_S_S16x32x100000 : (⟨S_, .i64⟩ : BufTy).Contents (Elt F) → (⟨S16x32x100000, .i64⟩ : BufTy).Contents (Elt F)),
    binary main_v40 main_v36 main_v41 (muli : (⟨S16x32x100000, .i64⟩ : BufTy).Contents (Elt F) → (⟨S16x32x100000, .i64⟩ : BufTy).Contents (Elt F) → (⟨S16x32x100000, .i64⟩ : BufTy).Contents (Elt F)),
    nullary main_c_12 (constantI S_ 64 1#64),
    unary main_c_12 main_v42 (broadcastInDim S16x32x100000 ![] bcast_S_S16x32x100000 : (⟨S_, .i64⟩ : BufTy).Contents (Elt F) → (⟨S16x32x100000, .i64⟩ : BufTy).Contents (Elt F)) ]

/-- Of the reference's operations: the counter of every entry, in two words. -/
abbrev opsCount : List (HloOp τ sig (Elt F)) :=
  [ binary main_v42 main_v37 main_v43 (muli : (⟨S16x32x100000, .i64⟩ : BufTy).Contents (Elt F) → (⟨S16x32x100000, .i64⟩ : BufTy).Contents (Elt F) → (⟨S16x32x100000, .i64⟩ : BufTy).Contents (Elt F)),
    binary main_v39 main_v41 main_v44 (addi : (⟨S16x32x100000, .i64⟩ : BufTy).Contents (Elt F) → (⟨S16x32x100000, .i64⟩ : BufTy).Contents (Elt F) → (⟨S16x32x100000, .i64⟩ : BufTy).Contents (Elt F)),
    binary main_v44 main_v43 main_v45 (addi : (⟨S16x32x100000, .i64⟩ : BufTy).Contents (Elt F) → (⟨S16x32x100000, .i64⟩ : BufTy).Contents (Elt F) → (⟨S16x32x100000, .i64⟩ : BufTy).Contents (Elt F)),
    nullary main_c_13 (constantI S_ 64 32#64),
    unary main_c_13 main_v46 (broadcastInDim S16x32x100000 ![] bcast_S_S16x32x100000 : (⟨S_, .i64⟩ : BufTy).Contents (Elt F) → (⟨S16x32x100000, .i64⟩ : BufTy).Contents (Elt F)),
    binary main_v45 main_v46 main_v47 (Host.shrui : (⟨S16x32x100000, .i64⟩ : BufTy).Contents (Elt F) → (⟨S16x32x100000, .i64⟩ : BufTy).Contents (Elt F) → (⟨S16x32x100000, .i64⟩ : BufTy).Contents (Elt F)),
    unary main_v45 main_v48 ((trunci 32 · natLt_32_64) : (⟨S16x32x100000, .i64⟩ : BufTy).Contents (Elt F) → (⟨S16x32x100000, .i32⟩ : BufTy).Contents (Elt F)),
    unary main_v47 main_v49 ((trunci 32 · natLt_32_64) : (⟨S16x32x100000, .i64⟩ : BufTy).Contents (Elt F) → (⟨S16x32x100000, .i32⟩ : BufTy).Contents (Elt F)) ]

/-- Of the reference's operations: the random words as numbers of the unit interval. -/
abbrev opsUnit : List (HloOp τ sig (Elt F)) :=
  [ binary main_v50_0 main_v50_1 main_v51 (xori : (⟨S16x32x100000, .i32⟩ : BufTy).Contents (Elt F) → (⟨S16x32x100000, .i32⟩ : BufTy).Contents (Elt F) → (⟨S16x32x100000, .i32⟩ : BufTy).Contents (Elt F)),
    nullary main_c_14 (constantI S_ 32 9#32),
    unary main_c_14 main_v52 (broadcastInDim S16x32x100000 ![] bcast_S_S16x32x100000 : (⟨S_, .i32⟩ : BufTy).Contents (Elt F) → (⟨S16x32x100000, .i32⟩ : BufTy).Contents (Elt F)),
    binary main_v51 main_v52 main_v53 (Host.shrui : (⟨S16x32x100000, .i32⟩ : BufTy).Contents (Elt F) → (⟨S16x32x100000, .i32⟩ : BufTy).Contents (Elt F) → (⟨S16x32x100000, .i32⟩ : BufTy).Contents (Elt F)),
    nullary main_c_15 (constantI S_ 32 1065353216#32),
    unary main_c_15 main_v54 (broadcastInDim S16x32x100000 ![] bcast_S_S16x32x100000 : (⟨S_, .i32⟩ : BufTy).Contents (Elt F) → (⟨S16x32x100000, .i32⟩ : BufTy).Contents (Elt F)),
    binary main_v53 main_v54 main_v55 (ori : (⟨S16x32x100000, .i32⟩ : BufTy).Contents (Elt F) → (⟨S16x32x100000, .i32⟩ : BufTy).Contents (Elt F) → (⟨S16x32x100000, .i32⟩ : BufTy).Contents (Elt F)),
    unary main_v55 main_v56 (bitcastToFloat .f32 : (⟨S16x32x100000, .i32⟩ : BufTy).Contents (Elt F) → (⟨S16x32x100000, .f32⟩ : BufTy).Contents (Elt F)),
    nullary main_cst_16 (constant S_ .f32 0x3F800000#32),
    unary main_cst_16 main_v57 (broadcastInDim S16x32x100000 ![] bcast_S_S16x32x100000 : (⟨S_, .f32⟩ : BufTy).Contents (Elt F) → (⟨S16x32x100000, .f32⟩ : BufTy).Contents (Elt F)),
    binary main_v56 main_v57 main_v58 (subf : (⟨S16x32x100000, .f32⟩ : BufTy).Contents (Elt F) → (⟨S16x32x100000, .f32⟩ : BufTy).Contents (Elt F) → (⟨S16x32x100000, .f32⟩ : BufTy).Contents (Elt F)),
    nullary main_cst_17 (constant S_ .f32 0x3F800000#32),
    unary main_cst_17 main_v59 (broadcastInDim S16x32x100000 ![] bcast_S_S16x32x100000 : (⟨S_, .f32⟩ : BufTy).Contents (Elt F) → (⟨S16x32x100000, .f32⟩ : BufTy).Contents (Elt F)),
    binary main_v58 main_v59 main_v60 (mulf : (⟨S16x32x100000, .f32⟩ : BufTy).Contents (Elt F) → (⟨S16x32x100000, .f32⟩ : BufTy).Contents (Elt F) → (⟨S16x32x100000, .f32⟩ : BufTy).Contents (Elt F)),
    nullary main_cst_18 (constant S_ .f32 0x00800000#32),
    unary main_cst_18 main_v61 (broadcastInDim S16x32x100000 ![] bcast_S_S16x32x100000 : (⟨S_, .f32⟩ : BufTy).Contents (Elt F) → (⟨S16x32x100000, .f32⟩ : BufTy).Contents (Elt F)),
    binary main_v60 main_v61 main_v62 (addf : (⟨S16x32x100000, .f32⟩ : BufTy).Contents (Elt F) → (⟨S16x32x100000, .f32⟩ : BufTy).Contents (Elt F) → (⟨S16x32x100000, .f32⟩ : BufTy).Contents (Elt F)),
    nullary main_cst_19 (constant S_ .f32 0x00800000#32),
    unary main_cst_19 main_v63 (broadcastInDim S16x32x100000 ![] bcast_S_S16x32x100000 : (⟨S_, .f32⟩ : BufTy).Contents (Elt F) → (⟨S16x32x100000, .f32⟩ : BufTy).Contents (Elt F)),
    binary main_v63 main_v62 main_v64 (maximumf : (⟨S16x32x100000, .f32⟩ : BufTy).Contents (Elt F) → (⟨S16x32x100000, .f32⟩ : BufTy).Contents (Elt F) → (⟨S16x32x100000, .f32⟩ : BufTy).Contents (Elt F)) ]

/-- Of the reference's operations: the noise and the noisy logits. -/
abbrev opsNoise : List (HloOp τ sig (Elt F)) :=
  [ unary main_v64 main_v65 (Host.log : (⟨S16x32x100000, .f32⟩ : BufTy).Contents (Elt F) → (⟨S16x32x100000, .f32⟩ : BufTy).Contents (Elt F)),
    unary main_v65 main_v66 (Host.negf : (⟨S16x32x100000, .f32⟩ : BufTy).Contents (Elt F) → (⟨S16x32x100000, .f32⟩ : BufTy).Contents (Elt F)),
    unary main_v66 main_v67 (Host.log : (⟨S16x32x100000, .f32⟩ : BufTy).Contents (Elt F) → (⟨S16x32x100000, .f32⟩ : BufTy).Contents (Elt F)),
    unary main_v67 main_v68 (Host.negf : (⟨S16x32x100000, .f32⟩ : BufTy).Contents (Elt F) → (⟨S16x32x100000, .f32⟩ : BufTy).Contents (Elt F)),
    nullary main_cst_20 (constant S_ .f32 0x3F800000#32),
    unary main_cst_20 main_v69 (broadcastInDim S16x32x100000 ![] bcast_S_S16x32x100000 : (⟨S_, .f32⟩ : BufTy).Contents (Elt F) → (⟨S16x32x100000, .f32⟩ : BufTy).Contents (Elt F)),
    binary main_v2 main_v69 main_v70 (Host.divf : (⟨S16x32x100000, .f32⟩ : BufTy).Contents (Elt F) → (⟨S16x32x100000, .f32⟩ : BufTy).Contents (Elt F) → (⟨S16x32x100000, .f32⟩ : BufTy).Contents (Elt F)),
    binary main_v68 main_v70 main_v71 (addf : (⟨S16x32x100000, .f32⟩ : BufTy).Contents (Elt F) → (⟨S16x32x100000, .f32⟩ : BufTy).Contents (Elt F) → (⟨S16x32x100000, .f32⟩ : BufTy).Contents (Elt F)) ]

/-- Of the reference's operations: the sampled tokens, at the kept positions. -/
abbrev opsLast : List (HloOp τ sig (Elt F)) :=
  [ TRef.nullary (.of main_call2_v0) (iotaInDim S16x32x100000 32 2),
    TRef.nullary (.of main_call2_cst) (constant S_ .f32 0xFF800000#32),
    TRef.nullary (.of main_call2_c) (constantI S_ 32 0#32),
    TRef.quaternary (.of main_v71) (.of main_call2_v0) (.of main_call2_cst) (.of main_call2_c) (.of main_call2_v1_0) (fun x y u v j => (Host.argReduce reducer_argmax_f32_i32 x y u v reducesTo_S16x32x100000_S16x32_d2 h_S_ j).1),
    TRef.quaternary (.of main_v71) (.of main_call2_v0) (.of main_call2_cst) (.of main_call2_c) (.of main_v72) (fun x y u v j => (Host.argReduce reducer_argmax_f32_i32 x y u v reducesTo_S16x32x100000_S16x32_d2 h_S_ j).2),
    TRef.ternary (.of main_v23) (.of main_v72) (.of main_arg1) (.of main_v73) select ]

/-- One turn of the generator on a pair of words: the sum, and the second word rotated and folded into it. -/
abbrev turnOps (x y s : 𝕎) (c : 𝕂) (b l : 𝕎) (c' : 𝕂) (b' r o z : 𝕎) (m n : BitVec 32) : List (HloOp τ sig (Elt F)) :=
  [ TRef.binary x y s addi, TRef.nullary c (constantI S_ 32 m), TRef.unary c b (broadcastInDim S16x32x100000 ![] bcast_S_S16x32x100000),
    TRef.binary y b l Host.shli, TRef.nullary c' (constantI S_ 32 n), TRef.unary c' b' (broadcastInDim S16x32x100000 ![] bcast_S_S16x32x100000),
    TRef.binary y b' r Host.shrui, TRef.binary l r o ori, TRef.binary s o z xori ]

/-- Two of the key's words and the number of the group added to the pair. -/
abbrev mixOps (p q : 𝕂) (x y b x' b' y' : 𝕎) (c : 𝕂) (b'' z : 𝕎) (n : BitVec 32) : List (HloOp τ sig (Elt F)) :=
  [ TRef.unary p b (broadcastInDim S16x32x100000 ![] bcast_S_S16x32x100000), TRef.binary x b x' addi,
    TRef.unary q b' (broadcastInDim S16x32x100000 ![] bcast_S_S16x32x100000), TRef.binary y b' y' addi,
    TRef.nullary c (constantI S_ 32 n), TRef.unary c b'' (broadcastInDim S16x32x100000 ![] bcast_S_S16x32x100000), TRef.binary y' b'' z addi ]

/-- Of the reference's operations: the key's third word, and the counter with the key added. -/
abbrev opsFirst : List (HloOp τ sig (Elt F)) :=
  [ TRef.binary (.of main_v32) (.of main_v34) (.of main_call1_v0) xori,
    TRef.nullary (.of main_call1_c) (constantI S_ 32 466688986#32),
    TRef.binary (.of main_call1_v0) (.of main_call1_c) (.of main_call1_v1) xori,
    TRef.unary (.of main_v32) (.of main_call1_v2) (broadcastInDim S16x32x100000 ![] bcast_S_S16x32x100000),
    TRef.binary (.of main_v49) (.of main_call1_v2) (.of main_call1_v3) addi,
    TRef.unary (.of main_v34) (.of main_call1_v4) (broadcastInDim S16x32x100000 ![] bcast_S_S16x32x100000),
    TRef.binary (.of main_v48) (.of main_call1_v4) (.of main_call1_v5) addi ]

abbrev opsT0 : List (HloOp τ sig (Elt F)) := turnOps (.of main_call1_v3) (.of main_call1_v5) (.of main_call1_v6) (.of main_call1_c_0) (.of main_call1_v7) (.of main_call1_v8) (.of main_call1_c_1) (.of main_call1_v9) (.of main_call1_v10) (.of main_call1_v11) (.of main_call1_v12) 13#32 19#32
abbrev opsT1 : List (HloOp τ sig (Elt F)) := turnOps (.of main_call1_v6) (.of main_call1_v12) (.of main_call1_v13) (.of main_call1_c_2) (.of main_call1_v14) (.of main_call1_v15) (.of main_call1_c_3) (.of main_call1_v16) (.of main_call1_v17) (.of main_call1_v18) (.of main_call1_v19) 15#32 17#32
abbrev opsT2 : List (HloOp τ sig (Elt F)) := turnOps (.of main_call1_v13) (.of main_call1_v19) (.of main_call1_v20) (.of main_call1_c_4) (.of main_call1_v21) (.of main_call1_v22) (.of main_call1_c_5) (.of main_call1_v23) (.of main_call1_v24) (.of main_call1_v25) (.of main_call1_v26) 26#32 6#32
abbrev opsT3 : List (HloOp τ sig (Elt F)) := turnOps (.of main_call1_v20) (.of main_call1_v26) (.of main_call1_v27) (.of main_call1_c_6) (.of main_call1_v28) (.of main_call1_v29) (.of main_call1_c_7) (.of main_call1_v30) (.of main_call1_v31) (.of main_call1_v32) (.of main_call1_v33) 6#32 26#32
abbrev opsT4 : List (HloOp τ sig (Elt F)) := mixOps (.of main_v34) (.of main_call1_v1) (.of main_call1_v27) (.of main_call1_v33) (.of main_call1_v34) (.of main_call1_v35) (.of main_call1_v36) (.of main_call1_v37) (.of main_call1_c_8) (.of main_call1_v38) (.of main_call1_v39) 1#32
abbrev opsT5 : List (HloOp τ sig (Elt F)) := turnOps (.of main_call1_v35) (.of main_call1_v39) (.of main_call1_v40) (.of main_call1_c_9) (.of main_call1_v41) (.of main_call1_v42) (.of main_call1_c_10) (.of main_call1_v43) (.of main_call1_v44) (.of main_call1_v45) (.of main_call1_v46) 17#32 15#32
abbrev opsT6 : List (HloOp τ sig (Elt F)) := turnOps (.of main_call1_v40) (.of main_call1_v46) (.of main_call1_v47) (.of main_call1_c_11) (.of main_call1_v48) (.of main_call1_v49) (.of main_call1_c_12) (.of main_call1_v50) (.of main_call1_v51) (.of main_call1_v52) (.of main_call1_v53) 29#32 3#32
abbrev opsT7 : List (HloOp τ sig (Elt F)) := turnOps (.of main_call1_v47) (.of main_call1_v53) (.of main_call1_v54) (.of main_call1_c_13) (.of main_call1_v55) (.of main_call1_v56) (.of main_call1_c_14) (.of main_call1_v57) (.of main_call1_v58) (.of main_call1_v59) (.of main_call1_v60) 16#32 16#32
abbrev opsT8 : List (HloOp τ sig (Elt F)) := turnOps (.of main_call1_v54) (.of main_call1_v60) (.of main_call1_v61) (.of main_call1_c_15) (.of main_call1_v62) (.of main_call1_v63) (.of main_call1_c_16) (.of main_call1_v64) (.of main_call1_v65) (.of main_call1_v66) (.of main_call1_v67) 24#32 8#32
abbrev opsT9 : List (HloOp τ sig (Elt F)) := mixOps (.of main_call1_v1) (.of main_v32) (.of main_call1_v61) (.of main_call1_v67) (.of main_call1_v68) (.of main_call1_v69) (.of main_call1_v70) (.of main_call1_v71) (.of main_call1_c_17) (.of main_call1_v72) (.of main_call1_v73) 2#32
abbrev opsT10 : List (HloOp τ sig (Elt F)) := turnOps (.of main_call1_v69) (.of main_call1_v73) (.of main_call1_v74) (.of main_call1_c_18) (.of main_call1_v75) (.of main_call1_v76) (.of main_call1_c_19) (.of main_call1_v77) (.of main_call1_v78) (.of main_call1_v79) (.of main_call1_v80) 13#32 19#32
abbrev opsT11 : List (HloOp τ sig (Elt F)) := turnOps (.of main_call1_v74) (.of main_call1_v80) (.of main_call1_v81) (.of main_call1_c_20) (.of main_call1_v82) (.of main_call1_v83) (.of main_call1_c_21) (.of main_call1_v84) (.of main_call1_v85) (.of main_call1_v86) (.of main_call1_v87) 15#32 17#32
abbrev opsT12 : List (HloOp τ sig (Elt F)) := turnOps (.of main_call1_v81) (.of main_call1_v87) (.of main_call1_v88) (.of main_call1_c_22) (.of main_call1_v89) (.of main_call1_v90) (.of main_call1_c_23) (.of main_call1_v91) (.of main_call1_v92) (.of main_call1_v93) (.of main_call1_v94) 26#32 6#32
abbrev opsT13 : List (HloOp τ sig (Elt F)) := turnOps (.of main_call1_v88) (.of main_call1_v94) (.of main_call1_v95) (.of main_call1_c_24) (.of main_call1_v96) (.of main_call1_v97) (.of main_call1_c_25) (.of main_call1_v98) (.of main_call1_v99) (.of main_call1_v100) (.of main_call1_v101) 6#32 26#32
abbrev opsT14 : List (HloOp τ sig (Elt F)) := mixOps (.of main_v32) (.of main_v34) (.of main_call1_v95) (.of main_call1_v101) (.of main_call1_v102) (.of main_call1_v103) (.of main_call1_v104) (.of main_call1_v105) (.of main_call1_c_26) (.of main_call1_v106) (.of main_call1_v107) 3#32
abbrev opsT15 : List (HloOp τ sig (Elt F)) := turnOps (.of main_call1_v103) (.of main_call1_v107) (.of main_call1_v108) (.of main_call1_c_27) (.of main_call1_v109) (.of main_call1_v110) (.of main_call1_c_28) (.of main_call1_v111) (.of main_call1_v112) (.of main_call1_v113) (.of main_call1_v114) 17#32 15#32
abbrev opsT16 : List (HloOp τ sig (Elt F)) := turnOps (.of main_call1_v108) (.of main_call1_v114) (.of main_call1_v115) (.of main_call1_c_29) (.of main_call1_v116) (.of main_call1_v117) (.of main_call1_c_30) (.of main_call1_v118) (.of main_call1_v119) (.of main_call1_v120) (.of main_call1_v121) 29#32 3#32
abbrev opsT17 : List (HloOp τ sig (Elt F)) := turnOps (.of main_call1_v115) (.of main_call1_v121) (.of main_call1_v122) (.of main_call1_c_31) (.of main_call1_v123) (.of main_call1_v124) (.of main_call1_c_32) (.of main_call1_v125) (.of main_call1_v126) (.of main_call1_v127) (.of main_call1_v128) 16#32 16#32
abbrev opsT18 : List (HloOp τ sig (Elt F)) := turnOps (.of main_call1_v122) (.of main_call1_v128) (.of main_call1_v129) (.of main_call1_c_33) (.of main_call1_v130) (.of main_call1_v131) (.of main_call1_c_34) (.of main_call1_v132) (.of main_call1_v133) (.of main_call1_v134) (.of main_call1_v135) 24#32 8#32
abbrev opsT19 : List (HloOp τ sig (Elt F)) := mixOps (.of main_v34) (.of main_call1_v1) (.of main_call1_v129) (.of main_call1_v135) (.of main_call1_v136) (.of main_call1_v137) (.of main_call1_v138) (.of main_call1_v139) (.of main_call1_c_35) (.of main_call1_v140) (.of main_call1_v141) 4#32
abbrev opsT20 : List (HloOp τ sig (Elt F)) := turnOps (.of main_call1_v137) (.of main_call1_v141) (.of main_call1_v142) (.of main_call1_c_36) (.of main_call1_v143) (.of main_call1_v144) (.of main_call1_c_37) (.of main_call1_v145) (.of main_call1_v146) (.of main_call1_v147) (.of main_call1_v148) 13#32 19#32
abbrev opsT21 : List (HloOp τ sig (Elt F)) := turnOps (.of main_call1_v142) (.of main_call1_v148) (.of main_call1_v149) (.of main_call1_c_38) (.of main_call1_v150) (.of main_call1_v151) (.of main_call1_c_39) (.of main_call1_v152) (.of main_call1_v153) (.of main_call1_v154) (.of main_call1_v155) 15#32 17#32
abbrev opsT22 : List (HloOp τ sig (Elt F)) := turnOps (.of main_call1_v149) (.of main_call1_v155) (.of main_call1_v156) (.of main_call1_c_40) (.of main_call1_v157) (.of main_call1_v158) (.of main_call1_c_41) (.of main_call1_v159) (.of main_call1_v160) (.of main_call1_v161) (.of main_call1_v162) 26#32 6#32
abbrev opsT23 : List (HloOp τ sig (Elt F)) := turnOps (.of main_call1_v156) (.of main_call1_v162) (.of main_call1_v163) (.of main_call1_c_42) (.of main_call1_v164) (.of main_call1_v165) (.of main_call1_c_43) (.of main_call1_v166) (.of main_call1_v167) (.of main_call1_v168) (.of main_call1_v169) 6#32 26#32
abbrev opsT24 : List (HloOp τ sig (Elt F)) := mixOps (.of main_call1_v1) (.of main_v32) (.of main_call1_v163) (.of main_call1_v169) (.of main_call1_v170) (.of main_v50_0) (.of main_call1_v172) (.of main_call1_v173) (.of main_call1_c_44) (.of main_call1_v174) (.of main_v50_1) 5#32

/-- The generator's operations. -/
abbrev opsRandom : List (HloOp τ sig (Elt F)) :=
  opsFirst ++ (opsT0 ++ (opsT1 ++ (opsT2 ++ (opsT3 ++ (opsT4 ++ (opsT5 ++ (opsT6 ++ (opsT7 ++ (opsT8 ++ (opsT9 ++ (opsT10 ++ (opsT11 ++ (opsT12 ++ (opsT13 ++ (opsT14 ++ (opsT15 ++ (opsT16 ++ (opsT17 ++ (opsT18 ++ (opsT19 ++ (opsT20 ++ (opsT21 ++ (opsT22 ++ (opsT23 ++ (opsT24)))))))))))))))))))))))))

/-- All of the reference's operations. -/
abbrev ops : List (HloOp τ sig (Elt F)) :=
  opsScaled ++ (opsConf ++ (opsPick ++ (opsKey ++ (opsCountA ++ (opsCount ++ (opsRandom ++ (opsUnit ++ (opsNoise ++ opsLast))))))))

theorem random_eq : fn_threefry2x32.body (F := F) (.of main_v32) (.of main_v34) (.of main_v49) (.of main_v48) main_call1 = seq opsRandom := rfl

theorem part0_eq (c : Dev nD) : main_part0 (F := F) c = seq (opsScaled ++ (opsConf ++ (opsPick ++ (opsKey ++ opsCountA)))) := rfl
theorem part1_eq (c : Dev nD) : main_part1 (F := F) c = seq (opsCount ++ (opsRandom ++ (opsUnit ++ (opsNoise ++ opsLast)))) := rfl
theorem main_eq (c : Dev nD) : main (F := F) c = seq ops := by
  rw [show (ops : List (HloOp τ sig (Elt F))) = (opsScaled ++ (opsConf ++ (opsPick ++ (opsKey ++ opsCountA)))) ++ (opsCount ++ (opsRandom ++ (opsUnit ++ (opsNoise ++ opsLast)))) from by
    simp only [ops, List.append_assoc], seq_append, ← part0_eq c, ← part1_eq c]
  rfl

theorem opsScaled_sub : (opsScaled : List (HloOp τ sig (Elt F))).Forall fun op => op.bufs ⊆ tcRefs τ sig :=
  ⟨nullary_bufs_sub .., unary_bufs_sub .., nullary_bufs_sub .., unary_bufs_sub .., ternary_bufs_sub .., nullary_bufs_sub .., unary_bufs_sub .., binary_bufs_sub ..⟩
theorem opsScaled_fresh : (opsScaled : List (HloOp τ sig (Elt F))).Forall fun op => op.fresh = ∅ :=
  ⟨rfl, rfl, rfl, rfl, rfl, rfl, rfl, rfl⟩
theorem opsConf_sub : (opsConf : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub ..⟩
theorem opsConf_fresh : (opsConf : List (HloOp τ sig (Elt F))).Forall fun op => op.fresh = ∅ :=
  ⟨rfl, rfl, rfl, rfl, rfl, rfl, rfl, rfl, rfl, rfl, rfl, rfl, rfl, rfl, rfl, rfl⟩
theorem opsPick_sub : (opsPick : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., unary_bufs_sub .., unary_bufs_sub .., unary_bufs_sub .., unary_bufs_sub .., binary_bufs_sub .., binary_bufs_sub ..⟩
theorem opsPick_fresh : (opsPick : List (HloOp τ sig (Elt F))).Forall fun op => op.fresh = ∅ :=
  ⟨rfl, rfl, rfl, rfl, rfl, rfl, rfl, rfl, rfl, rfl, rfl, rfl, rfl⟩
theorem opsKey_sub : (opsKey : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., unary_bufs_sub .., reshape_bufs_sub .., unary_bufs_sub .., reshape_bufs_sub ..⟩
theorem opsKey_fresh : (opsKey : List (HloOp τ sig (Elt F))).Forall fun op => op.fresh = ∅ :=
  ⟨rfl, rfl, rfl, rfl, rfl, rfl, rfl, rfl, rfl, rfl, rfl, rfl, rfl, rfl⟩
theorem opsCountA_sub : (opsCountA : List (HloOp τ sig (Elt F))).Forall fun op => op.bufs ⊆ tcRefs τ sig :=
  ⟨nullary_bufs_sub .., nullary_bufs_sub .., nullary_bufs_sub .., nullary_bufs_sub .., unary_bufs_sub .., binary_bufs_sub .., nullary_bufs_sub .., unary_bufs_sub .., binary_bufs_sub .., nullary_bufs_sub .., unary_bufs_sub ..⟩
theorem opsCountA_fresh : (opsCountA : List (HloOp τ sig (Elt F))).Forall fun op => op.fresh = ∅ :=
  ⟨rfl, rfl, rfl, rfl, rfl, rfl, rfl, rfl, rfl, rfl, rfl⟩
theorem opsCount_sub : (opsCount : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., unary_bufs_sub ..⟩
theorem opsCount_fresh : (opsCount : List (HloOp τ sig (Elt F))).Forall fun op => op.fresh = ∅ :=
  ⟨rfl, rfl, rfl, rfl, rfl, rfl, rfl, rfl⟩
theorem opsUnit_sub : (opsUnit : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem opsUnit_fresh : (opsUnit : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem opsNoise_sub : (opsNoise : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., binary_bufs_sub ..⟩
theorem opsNoise_fresh : (opsNoise : List (HloOp τ sig (Elt F))).Forall fun op => op.fresh = ∅ :=
  ⟨rfl, rfl, rfl, rfl, rfl, rfl, rfl, rfl⟩
theorem opsLast_sub : (opsLast : List (HloOp τ sig (Elt F))).Forall fun op => op.bufs ⊆ tcRefs τ sig :=
  ⟨nullary_bufs_sub .., nullary_bufs_sub .., nullary_bufs_sub .., quaternary_bufs_sub .., quaternary_bufs_sub .., ternary_bufs_sub ..⟩
theorem opsLast_fresh : (opsLast : List (HloOp τ sig (Elt F))).Forall fun op => op.fresh = ∅ :=
  ⟨rfl, rfl, rfl, rfl, rfl, rfl⟩
theorem opsFirst_sub : (opsFirst : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub ..⟩
theorem opsFirst_fresh : (opsFirst : List (HloOp τ sig (Elt F))).Forall fun op => op.fresh = ∅ :=
  ⟨rfl, rfl, rfl, rfl, rfl, rfl, rfl⟩
theorem turnOps_sub (x y s : 𝕎) (c : 𝕂) (b l : 𝕎) (c' : 𝕂) (b' r o z : 𝕎) (m n : BitVec 32) : (turnOps x y s c b l c' b' r o z m n : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub ..⟩
theorem turnOps_fresh (x y s : 𝕎) (c : 𝕂) (b l : 𝕎) (c' : 𝕂) (b' r o z : 𝕎) (m n : BitVec 32) : (turnOps x y s c b l c' b' r o z m n : List (HloOp τ sig (Elt F))).Forall fun op => op.fresh = ∅ :=
  ⟨rfl, rfl, rfl, rfl, rfl, rfl, rfl, rfl, rfl⟩
theorem mixOps_sub (p q : 𝕂) (x y b x' b' y' : 𝕎) (c : 𝕂) (b'' z : 𝕎) (n : BitVec 32) : (mixOps p q x y b x' b' y' c b'' z n : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub ..⟩
theorem mixOps_fresh (p q : 𝕂) (x y b x' b' y' : 𝕎) (c : 𝕂) (b'' z : 𝕎) (n : BitVec 32) : (mixOps p q x y b x' b' y' c b'' z n : List (HloOp τ sig (Elt F))).Forall fun op => op.fresh = ∅ :=
  ⟨rfl, rfl, rfl, rfl, rfl, rfl, rfl⟩

theorem both {P : HloOp τ sig (Elt F) → Prop} {a b : List (HloOp τ sig (Elt F))} (ha : a.Forall P) (hb : b.Forall P) : (a ++ b).Forall P :=
  List.forall_iff_forall_mem.mpr fun op h => (List.mem_append.mp h).elim (List.forall_iff_forall_mem.mp ha op) (List.forall_iff_forall_mem.mp hb op)

theorem opsRandom_sub : (opsRandom : List (HloOp τ sig (Elt F))).Forall fun op => op.bufs ⊆ tcRefs τ sig :=
  both opsFirst_sub (both (turnOps_sub _ _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (mixOps_sub _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (mixOps_sub _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (mixOps_sub _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (mixOps_sub _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (both (turnOps_sub _ _ _ _ _ _ _ _ _ _ _ _ _) (mixOps_sub _ _ _ _ _ _ _ _ _ _ _ _)))))))))))))))))))))))))
theorem ops_sub : (ops : List (HloOp τ sig (Elt F))).Forall fun op => op.bufs ⊆ tcRefs τ sig :=
  both opsScaled_sub (both opsConf_sub (both opsPick_sub (both opsKey_sub (both opsCountA_sub (both opsCount_sub (both opsRandom_sub (both opsUnit_sub (both opsNoise_sub opsLast_sub))))))))
theorem opsRandom_fresh : (opsRandom : List (HloOp τ sig (Elt F))).Forall (fun op => op.fresh = ∅) :=
  both opsFirst_fresh (both (turnOps_fresh _ _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (mixOps_fresh _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (mixOps_fresh _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (mixOps_fresh _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (mixOps_fresh _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (both (turnOps_fresh _ _ _ _ _ _ _ _ _ _ _ _ _) (mixOps_fresh _ _ _ _ _ _ _ _ _ _ _ _)))))))))))))))))))))))))
theorem ops_fresh : (ops : List (HloOp τ sig (Elt F))).Forall (fun op => op.fresh = ∅) :=
  both opsScaled_fresh (both opsConf_fresh (both opsPick_fresh (both opsKey_fresh (both opsCountA_fresh (both opsCount_fresh (both opsRandom_fresh (both opsUnit_fresh (both opsNoise_fresh opsLast_fresh))))))))

theorem scopedRefs_eq : (Finset.univ.filter fun b : Ref sig .tc => b.isScoped) = ∅ := by decide
theorem scopedSems_eq : (Finset.univ.filter fun sm : SemLoc sig => sm.isScoped .tc) = ∅ := by decide

/-- The run: every buffer ends at what the operations leave in it. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    fun _ => List.forall_iff_forall_mem.mp ops_fresh

end Cert.ReferenceIdeal.Run
-- ==== Proof.Reference.Keep.lean ====
/-
  Which buffers each list of the reference's operations writes, that it keeps every other, and with it the reference's
  frame.
-/
module

public import proofs.«01_k».proof.Proof.Reference.Ops
public import Idealize.ShloMosaic.Lib.Pipeline.Frame

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F)) (r : Ref sig .tc)

abbrev opsScaled_W : List (Ref sig .tc) := [main_c, main_v0, main_cst, main_v1, main_v2, main_cst_0, main_v3, main_v4]
theorem opsScaled_keep (h : r ∉ opsScaled_W) : after opsScaled V (Proc.devRef .tc r) = V (Proc.devRef .tc r) :=
  after_of_writes_sub opsScaled V (forall_writes_sub_of_map rfl) h
abbrev opsConf_W : List (Ref sig .tc) := [main_cst_1, main_v5, main_cst_2, main_v6, main_v7, main_v8, main_v9, main_v10, main_v11, main_cst_3, main_v12, main_v13, main_v14, main_v15, main_cst_4, main_v16]
theorem opsConf_keep (h : r ∉ opsConf_W) : after opsConf V (Proc.devRef .tc r) = V (Proc.devRef .tc r) :=
  after_of_writes_sub opsConf V (forall_writes_sub_of_map rfl) h
abbrev opsPick_W : List (Ref sig .tc) := [main_c_5, main_v17, main_v18, main_cst_6, main_call0_v0, main_call0_v1, main_v19, main_values, main_indices, main_v20, main_v21, main_v22, main_v23]
theorem opsPick_keep (h : r ∉ opsPick_W) : after opsPick V (Proc.devRef .tc r) = V (Proc.devRef .tc r) :=
  after_of_writes_sub opsPick V (forall_writes_sub_of_map rfl) h
abbrev opsKey_W : List (Ref sig .tc) := [main_c_7, main_c_8, main_v24, main_v25, main_v26, main_c_9, main_v27, main_v28, main_v29, main_v30, main_v31, main_v32, main_v33, main_v34]
theorem opsKey_keep (h : r ∉ opsKey_W) : after opsKey V (Proc.devRef .tc r) = V (Proc.devRef .tc r) :=
  after_of_writes_sub opsKey V (forall_writes_sub_of_map rfl) h
abbrev opsCountA_W : List (Ref sig .tc) := [main_v35, main_v36, main_v37, main_c_10, main_v38, main_v39, main_c_11, main_v40, main_v41, main_c_12, main_v42]
theorem opsCountA_keep (h : r ∉ opsCountA_W) : after opsCountA V (Proc.devRef .tc r) = V (Proc.devRef .tc r) :=
  after_of_writes_sub opsCountA V (forall_writes_sub_of_map rfl) h
abbrev opsCount_W : List (Ref sig .tc) := [main_v43, main_v44, main_v45, main_c_13, main_v46, main_v47, main_v48, main_v49]
theorem opsCount_keep (h : r ∉ opsCount_W) : after opsCount V (Proc.devRef .tc r) = V (Proc.devRef .tc r) :=
  after_of_writes_sub opsCount V (forall_writes_sub_of_map rfl) h
abbrev opsUnit_W : List (Ref sig .tc) := [main_v51, main_c_14, main_v52, main_v53, main_c_15, main_v54, main_v55, main_v56, main_cst_16, main_v57, main_v58, main_cst_17, main_v59, main_v60, main_cst_18, main_v61, main_v62, main_cst_19, main_v63, main_v64]
theorem opsUnit_keep (h : r ∉ opsUnit_W) : after opsUnit V (Proc.devRef .tc r) = V (Proc.devRef .tc r) :=
  after_of_writes_sub opsUnit V (forall_writes_sub_of_map rfl) h
abbrev opsNoise_W : List (Ref sig .tc) := [main_v65, main_v66, main_v67, main_v68, main_cst_20, main_v69, main_v70, main_v71]
theorem opsNoise_keep (h : r ∉ opsNoise_W) : after opsNoise V (Proc.devRef .tc r) = V (Proc.devRef .tc r) :=
  after_of_writes_sub opsNoise V (forall_writes_sub_of_map rfl) h
abbrev opsLast_W : List (Ref sig .tc) := [main_call2_v0, main_call2_cst, main_call2_c, main_call2_v1_0, main_v72, main_v73]
theorem opsLast_keep (h : r ∉ opsLast_W) : after opsLast V (Proc.devRef .tc r) = V (Proc.devRef .tc r) :=
  after_of_writes_sub opsLast V (forall_writes_sub_of_map rfl) h
abbrev opsRandom_W : List (Ref sig .tc) := [main_call1_v0, main_call1_c, main_call1_v1, main_call1_v2, main_call1_v3, main_call1_v4, main_call1_v5, main_call1_v6, main_call1_c_0, main_call1_v7, main_call1_v8, main_call1_c_1, main_call1_v9, main_call1_v10, main_call1_v11, main_call1_v12, main_call1_v13, main_call1_c_2, main_call1_v14, main_call1_v15, main_call1_c_3, main_call1_v16, main_call1_v17, main_call1_v18, main_call1_v19, main_call1_v20, main_call1_c_4, main_call1_v21, main_call1_v22, main_call1_c_5, main_call1_v23, main_call1_v24, main_call1_v25, main_call1_v26, main_call1_v27, main_call1_c_6, main_call1_v28, main_call1_v29, main_call1_c_7, main_call1_v30, main_call1_v31, main_call1_v32, main_call1_v33, main_call1_v34, main_call1_v35, main_call1_v36, main_call1_v37, main_call1_c_8, main_call1_v38, main_call1_v39, main_call1_v40, main_call1_c_9, main_call1_v41, main_call1_v42, main_call1_c_10, main_call1_v43, main_call1_v44, main_call1_v45, main_call1_v46, main_call1_v47, main_call1_c_11, main_call1_v48, main_call1_v49, main_call1_c_12, main_call1_v50, main_call1_v51, main_call1_v52, main_call1_v53, main_call1_v54, main_call1_c_13, main_call1_v55, main_call1_v56, main_call1_c_14, main_call1_v57, main_call1_v58, main_call1_v59, main_call1_v60, main_call1_v61, main_call1_c_15, main_call1_v62, main_call1_v63, main_call1_c_16, main_call1_v64, main_call1_v65, main_call1_v66, main_call1_v67, main_call1_v68, main_call1_v69, main_call1_v70, main_call1_v71, main_call1_c_17, main_call1_v72, main_call1_v73, main_call1_v74, main_call1_c_18, main_call1_v75, main_call1_v76, main_call1_c_19, main_call1_v77, main_call1_v78, main_call1_v79, main_call1_v80, main_call1_v81, main_call1_c_20, main_call1_v82, main_call1_v83, main_call1_c_21, main_call1_v84, main_call1_v85, main_call1_v86, main_call1_v87, main_call1_v88, main_call1_c_22, main_call1_v89, main_call1_v90, main_call1_c_23, main_call1_v91, main_call1_v92, main_call1_v93, main_call1_v94, main_call1_v95, main_call1_c_24, main_call1_v96, main_call1_v97, main_call1_c_25, main_call1_v98, main_call1_v99, main_call1_v100, main_call1_v101, main_call1_v102, main_call1_v103, main_call1_v104, main_call1_v105, main_call1_c_26, main_call1_v106, main_call1_v107, main_call1_v108, main_call1_c_27, main_call1_v109, main_call1_v110, main_call1_c_28, main_call1_v111, main_call1_v112, main_call1_v113, main_call1_v114, main_call1_v115, main_call1_c_29, main_call1_v116, main_call1_v117, main_call1_c_30, main_call1_v118, main_call1_v119, main_call1_v120, main_call1_v121, main_call1_v122, main_call1_c_31, main_call1_v123, main_call1_v124, main_call1_c_32, main_call1_v125, main_call1_v126, main_call1_v127, main_call1_v128, main_call1_v129, main_call1_c_33, main_call1_v130, main_call1_v131, main_call1_c_34, main_call1_v132, main_call1_v133, main_call1_v134, main_call1_v135, main_call1_v136, main_call1_v137, main_call1_v138, main_call1_v139, main_call1_c_35, main_call1_v140, main_call1_v141, main_call1_v142, main_call1_c_36, main_call1_v143, main_call1_v144, main_call1_c_37, main_call1_v145, main_call1_v146, main_call1_v147, main_call1_v148, main_call1_v149, main_call1_c_38, main_call1_v150, main_call1_v151, main_call1_c_39, main_call1_v152, main_call1_v153, main_call1_v154, main_call1_v155, main_call1_v156, main_call1_c_40, main_call1_v157, main_call1_v158, main_call1_c_41, main_call1_v159, main_call1_v160, main_call1_v161, main_call1_v162, main_call1_v163, main_call1_c_42, main_call1_v164, main_call1_v165, main_call1_c_43, main_call1_v166, main_call1_v167, main_call1_v168, main_call1_v169, main_call1_v170, main_v50_0, main_call1_v172, main_call1_v173, main_call1_c_44, main_call1_v174, main_v50_1]
theorem opsRandom_keep (h : r ∉ opsRandom_W) : after opsRandom V (Proc.devRef .tc r) = V (Proc.devRef .tc r) :=
  after_of_writes_sub opsRandom V (forall_writes_sub_of_map rfl) h

/-- A buffer that no operation writes ends as it began. -/
theorem ops_keep (h : r ∉ opsScaled_W ∧ r ∉ opsConf_W ∧ r ∉ opsPick_W ∧ r ∉ opsKey_W ∧ r ∉ opsCountA_W ∧ r ∉ opsCount_W ∧ r ∉ opsRandom_W ∧ r ∉ opsUnit_W ∧ r ∉ opsNoise_W ∧ r ∉ opsLast_W) : after ops V (Proc.devRef .tc r) = V (Proc.devRef .tc r) := by
  unfold ops
  rw [after_append, after_append, after_append, after_append, after_append, after_append, after_append, after_append, after_append]
  obtain ⟨h0, h1, h2, h3, h4, h5, h6, h7, h8, h9⟩ := h
  rw [opsLast_keep _ _ h9, opsNoise_keep _ _ h8, opsUnit_keep _ _ h7, opsRandom_keep _ _ h6, opsCount_keep _ _ h5, opsCountA_keep _ _ h4, opsKey_keep _ _ h3, opsPick_keep _ _ h2, opsConf_keep _ _ h1, opsScaled_keep _ _ h0]

theorem no_sem (g : GSem nD τ sig) : False := by
  obtain ⟨t, s⟩ := g
  match s with
  | .reg s => exact s.elim0
  | .dma s => exact s.elim0

/-- The reference ends, leaves its arguments unchanged, and has no counter. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0).trans (ops_keep _ _ (by decide)),
    (h c main_arg1).trans (ops_keep _ _ (by decide))⟩, funext fun g => (no_sem g).elim⟩) (run m ρ)

end Cert.ReferenceIdeal.Run
-- ==== Proof.Value.Cipher.lean ====
/-
  The counter-based generator on one pair of words: turns, each a sum and a rotation, and after every four of them two
  of the key's words and the group's number added.
-/
module

public import Mathlib.Data.BitVec

@[expose] public section

namespace Cert.Value

/-- A pair of words. -/
abbrev Pair : Type := BitVec 32 × BitVec 32

/-- The third word of the key whose other words are 0 and 42. -/
abbrev third : BitVec 32 := 466689008#32

/-- One turn: the sum, and the second word, rotated by `m` (`n` is 32 less `m`), folded into it. -/
def turn (m n : BitVec 32) (p : Pair) : Pair := (p.1 + p.2, ((p.2 <<< m) ||| (p.2 >>> n)) ^^^ (p.1 + p.2))

/-- Two of the key's words and the group's number added. -/
def mix (a b c : BitVec 32) (p : Pair) : Pair := (p.1 + a, (p.2 + b) + c)

/-- The turns of the groups of odd number, and of those of even number. -/
def odd (p : Pair) : Pair := turn 6#32 26#32 (turn 26#32 6#32 (turn 15#32 17#32 (turn 13#32 19#32 p)))
def even (p : Pair) : Pair := turn 24#32 8#32 (turn 16#32 16#32 (turn 29#32 3#32 (turn 17#32 15#32 p)))

/-- The five groups. -/
def cipher (p : Pair) : Pair :=
  mix third 0#32 5#32 (odd (mix 42#32 third 4#32 (even (mix 0#32 42#32 3#32 (odd (mix third 0#32 2#32
    (even (mix 42#32 third 1#32 (odd p)))))))))

end Cert.Value
-- ==== Proof.Reference.Random.lean ====
/-
  What the reference's generator leaves in its two results: at every place the generator's pair, of the counter of the
  place. A turn and a mixing are read once, for any buffers that differ.
-/
module

public import proofs.«01_k».proof.Proof.Reference.Keep
public import proofs.«01_k».proof.Proof.Value.Cipher

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.Value (Pair turn mix odd even cipher third)

variable {F : FTy → Type} [FloatOps F]

/-- A buffer's contents, as a value of its reference's type. -/
def val {T : BufTy} (x : TRef sig T) (V : Valuation τ sig (Elt F)) : T.Contents (Elt F) := x.ofBuf (V (Proc.devRef .tc x.ref))

section
variable {T Ta Tb : BufTy} (V : Valuation τ sig (Elt F))

theorem val_nullary (y : TRef sig T) (v : T.Contents (Elt F)) : val y ((TRef.nullary y v).result V) = v := by
  unfold val TRef.nullary
  rw [nullary_result', TRef.ofBuf_toBuf]
theorem val_unary (x : TRef sig Ta) (y : TRef sig T) (f : Ta.Contents (Elt F) → T.Contents (Elt F)) :
    val y ((TRef.unary x y f).result V) = f (val x V) := by
  unfold val TRef.unary
  rw [unary_result', TRef.ofBuf_toBuf]
theorem val_binary (a : TRef sig Ta) (b : TRef sig Tb) (y : TRef sig T) (f : Ta.Contents (Elt F) → Tb.Contents (Elt F) → T.Contents (Elt F)) :
    val y ((TRef.binary a b y f).result V) = f (val a V) (val b V) := by
  unfold val TRef.binary
  rw [binary_result', TRef.ofBuf_toBuf]

variable {U : BufTy} (r : TRef sig U)

theorem val_nullary_ne (y : TRef sig T) (v : T.Contents (Elt F)) (h : ¬ r.ref = y.ref) : val r ((TRef.nullary y v).result V) = val r V := by
  unfold val TRef.nullary
  rw [nullary_result_ne' _ _ _ h]
theorem val_unary_ne (x : TRef sig Ta) (y : TRef sig T) (f : Ta.Contents (Elt F) → T.Contents (Elt F)) (h : ¬ r.ref = y.ref) :
    val r ((TRef.unary x y f).result V) = val r V := by
  unfold val TRef.unary
  rw [unary_result_ne' _ _ _ _ h]
theorem val_binary_ne (a : TRef sig Ta) (b : TRef sig Tb) (y : TRef sig T) (f : Ta.Contents (Elt F) → Tb.Contents (Elt F) → T.Contents (Elt F))
    (h : ¬ r.ref = y.ref) : val r ((TRef.binary a b y f).result V) = val r V := by
  unfold val TRef.binary
  rw [binary_result_ne' (h := h)]
end

/-- The buffers of the key's three words. -/
abbrev k0 : 𝕂 := .of main_v32
abbrev k1 : 𝕂 := .of main_v34
abbrev k2 : 𝕂 := .of main_call1_v1

/-- What the generator has reached: the key's words in their buffers, and at every place a pair. -/
def At (V : Valuation τ sig (Elt F)) (x y : 𝕎) (p : S16x32x100000.Idx → Pair) : Prop :=
  (val k0 V = (fun _ => 0#32 : IVec S_ 32) ∧ val k1 V = (fun _ => 42#32 : IVec S_ 32) ∧ val k2 V = (fun _ => third : IVec S_ 32))
    ∧ val x V = (fun i => (p i).1 : IVec S16x32x100000 32) ∧ val y V = (fun i => (p i).2 : IVec S16x32x100000 32)

/-- The buffers differ. -/
abbrev Apart (l : List (Ref sig .tc)) : Prop := l.Nodup

theorem at_turn (V : Valuation τ sig (Elt F)) (x y s : 𝕎) (c : 𝕂) (b l : 𝕎) (c' : 𝕂) (b' r o z : 𝕎) (m n : BitVec 32)
    (hm : m.toNat < 32) (hn : n.toNat < 32)
    (hd : Apart [k0.ref, k1.ref, k2.ref, x.ref, y.ref, s.ref, c.ref, b.ref, l.ref, c'.ref, b'.ref, r.ref, o.ref, z.ref])
    (p : S16x32x100000.Idx → Pair) (h : At V x y p) :
    At (after (turnOps x y s c b l c' b' r o z m n) V) s z (fun i => turn m n (p i)) := by
  obtain ⟨⟨h0, h1, h2⟩, hx, hy⟩ := h
  simp only [Apart, List.nodup_cons, List.mem_cons, not_or, List.not_mem_nil, not_false_eq_true, and_true, List.nodup_nil] at hd
  have e : val s (after (turnOps x y s c b l c' b' r o z m n) V) = (fun i => (turn m n (p i)).1 : IVec S16x32x100000 32) := by
    simp only [turnOps, after_cons, after_nil, val_nullary_ne, val_unary_ne, val_binary_ne, val_binary, hd, not_false_eq_true, hx, hy]
    rfl
  refine ⟨⟨?_, ?_, ?_⟩, e, ?_⟩
  · simp only [turnOps, after_cons, after_nil, val_nullary_ne, val_unary_ne, val_binary_ne, hd, not_false_eq_true, h0]
  · simp only [turnOps, after_cons, after_nil, val_nullary_ne, val_unary_ne, val_binary_ne, hd, not_false_eq_true, h1]
  · simp only [turnOps, after_cons, after_nil, val_nullary_ne, val_unary_ne, val_binary_ne, hd, not_false_eq_true, h2]
  · simp only [turnOps, after_cons, after_nil, val_nullary_ne, val_unary_ne, val_binary_ne, val_nullary, val_unary, val_binary, hd, not_false_eq_true, hx, hy]
    funext i
    show ((p i).1 + (p i).2) ^^^ (IntOp.shli .host (p i).2 m ||| IntOp.shrui .host (p i).2 n)
      = (((p i).2 <<< m) ||| ((p i).2 >>> n)) ^^^ ((p i).1 + (p i).2)
    unfold IntOp.shli IntOp.shrui
    rw [if_pos hm, if_pos hn, BitVec.xor_comm]

theorem at_mix (V : Valuation τ sig (Elt F)) (q q' : 𝕂) (x y b x' b' y' : 𝕎) (c : 𝕂) (b'' z : 𝕎) (n u u' : BitVec 32)
    (hd : Apart [k0.ref, k1.ref, k2.ref, x.ref, y.ref, b.ref, x'.ref, b'.ref, y'.ref, c.ref, b''.ref, z.ref])
    (hd' : Apart [q.ref, q'.ref, b.ref, x'.ref])
    (p : S16x32x100000.Idx → Pair) (h : At V x y p) (hq : val q V = (fun _ => u : IVec S_ 32)) (hq' : val q' V = (fun _ => u' : IVec S_ 32)) :
    At (after (mixOps q q' x y b x' b' y' c b'' z n) V) x' z (fun i => mix u u' n (p i)) := by
  obtain ⟨⟨h0, h1, h2⟩, hx, hy⟩ := h
  simp only [Apart, List.nodup_cons, List.mem_cons, not_or, List.not_mem_nil, not_false_eq_true, and_true, List.nodup_nil] at hd hd'
  refine ⟨⟨?_, ?_, ?_⟩, ?_, ?_⟩
  · simp only [mixOps, after_cons, after_nil, val_nullary_ne, val_unary_ne, val_binary_ne, hd, not_false_eq_true, h0]
  · simp only [mixOps, after_cons, after_nil, val_nullary_ne, val_unary_ne, val_binary_ne, hd, not_false_eq_true, h1]
  · simp only [mixOps, after_cons, after_nil, val_nullary_ne, val_unary_ne, val_binary_ne, hd, not_false_eq_true, h2]
  · simp only [mixOps, after_cons, after_nil, val_nullary_ne, val_unary_ne, val_binary_ne, val_nullary, val_unary, val_binary, hd, hd', not_false_eq_true, hx, hy, hq, hq']
    rfl
  · simp only [mixOps, after_cons, after_nil, val_nullary_ne, val_unary_ne, val_binary_ne, val_nullary, val_unary, val_binary, hd, hd', not_false_eq_true, hx, hy, hq, hq']
    rfl

theorem at_append (V : Valuation τ sig (Elt F)) (A B : List (HloOp τ sig (Elt F))) (x y : 𝕎) (p : S16x32x100000.Idx → Pair)
    (h : At (after B (after A V)) x y p) : At (after (A ++ B) V) x y p := by
  rw [after_append]; exact h

/-- The counters as the generator begins, -/
theorem at_first (V : Valuation τ sig (Elt F)) (h0 : val k0 V = (fun _ => 0#32 : IVec S_ 32)) (h1 : val k1 V = (fun _ => 42#32 : IVec S_ 32))
    (p : S16x32x100000.Idx → Pair) (hx : val (.of main_v49 : 𝕎) V = (fun i => (p i).1 : IVec S16x32x100000 32))
    (hy : val (.of main_v48 : 𝕎) V = (fun i => (p i).2 : IVec S16x32x100000 32)) :
    At (after opsFirst V) (.of main_call1_v3) (.of main_call1_v5) (fun i => ((p i).1 + 0#32, (p i).2 + 42#32)) := by
  refine ⟨⟨?_, ?_, ?_⟩, ?_, ?_⟩
  · simp (disch := decide) only [opsFirst, after_cons, after_nil, val_nullary_ne, val_unary_ne, val_binary_ne, h0]
  · simp (disch := decide) only [opsFirst, after_cons, after_nil, val_nullary_ne, val_unary_ne, val_binary_ne, h1]
  · simp (disch := decide) only [opsFirst, after_cons, after_nil, val_nullary_ne, val_unary_ne, val_binary_ne, val_nullary, val_unary, val_binary, h0, h1]
    exact funext fun _ => (by decide : (0#32 ^^^ 42#32) ^^^ 466688986#32 = third)
  · simp (disch := decide) only [opsFirst, after_cons, after_nil, val_nullary_ne, val_unary_ne, val_binary_ne, val_nullary, val_unary, val_binary, h0, h1, hx, hy]
    rfl
  · simp (disch := decide) only [opsFirst, after_cons, after_nil, val_nullary_ne, val_unary_ne, val_binary_ne, val_nullary, val_unary, val_binary, h0, h1, hx, hy]
    rfl

/-- and the generator's results. -/
theorem at_random (V : Valuation τ sig (Elt F)) (h0 : val k0 V = (fun _ => 0#32 : IVec S_ 32)) (h1 : val k1 V = (fun _ => 42#32 : IVec S_ 32))
    (p : S16x32x100000.Idx → Pair) (hx : val (.of main_v49 : 𝕎) V = (fun i => (p i).1 : IVec S16x32x100000 32))
    (hy : val (.of main_v48 : 𝕎) V = (fun i => (p i).2 : IVec S16x32x100000 32)) :
    At (after opsRandom V) (.of main_v50_0) (.of main_v50_1) (fun i => cipher ((p i).1 + 0#32, (p i).2 + 42#32)) := by
  have t := at_first V h0 h1 p hx hy
  have t0 : At (after opsT0 _) _ _ _ := at_turn _ _ _ _ _ _ _ _ _ _ _ _ _ _ (by decide) (by decide) (by decide) _ t
  have t1 : At (after opsT1 _) _ _ _ := at_turn _ _ _ _ _ _ _ _ _ _ _ _ _ _ (by decide) (by decide) (by decide) _ t0
  have t2 : At (after opsT2 _) _ _ _ := at_turn _ _ _ _ _ _ _ _ _ _ _ _ _ _ (by decide) (by decide) (by decide) _ t1
  have t3 : At (after opsT3 _) _ _ _ := at_turn _ _ _ _ _ _ _ _ _ _ _ _ _ _ (by decide) (by decide) (by decide) _ t2
  have t4 : At (after opsT4 _) _ _ _ := at_mix _ _ _ _ _ _ _ _ _ _ _ _ _ _ _ (by decide) (by decide) _ t3 t3.1.2.1 t3.1.2.2
  have t5 : At (after opsT5 _) _ _ _ := at_turn _ _ _ _ _ _ _ _ _ _ _ _ _ _ (by decide) (by decide) (by decide) _ t4
  have t6 : At (after opsT6 _) _ _ _ := at_turn _ _ _ _ _ _ _ _ _ _ _ _ _ _ (by decide) (by decide) (by decide) _ t5
  have t7 : At (after opsT7 _) _ _ _ := at_turn _ _ _ _ _ _ _ _ _ _ _ _ _ _ (by decide) (by decide) (by decide) _ t6
  have t8 : At (after opsT8 _) _ _ _ := at_turn _ _ _ _ _ _ _ _ _ _ _ _ _ _ (by decide) (by decide) (by decide) _ t7
  have t9 : At (after opsT9 _) _ _ _ := at_mix _ _ _ _ _ _ _ _ _ _ _ _ _ _ _ (by decide) (by decide) _ t8 t8.1.2.2 t8.1.1
  have t10 : At (after opsT10 _) _ _ _ := at_turn _ _ _ _ _ _ _ _ _ _ _ _ _ _ (by decide) (by decide) (by decide) _ t9
  have t11 : At (after opsT11 _) _ _ _ := at_turn _ _ _ _ _ _ _ _ _ _ _ _ _ _ (by decide) (by decide) (by decide) _ t10
  have t12 : At (after opsT12 _) _ _ _ := at_turn _ _ _ _ _ _ _ _ _ _ _ _ _ _ (by decide) (by decide) (by decide) _ t11
  have t13 : At (after opsT13 _) _ _ _ := at_turn _ _ _ _ _ _ _ _ _ _ _ _ _ _ (by decide) (by decide) (by decide) _ t12
  have t14 : At (after opsT14 _) _ _ _ := at_mix _ _ _ _ _ _ _ _ _ _ _ _ _ _ _ (by decide) (by decide) _ t13 t13.1.1 t13.1.2.1
  have t15 : At (after opsT15 _) _ _ _ := at_turn _ _ _ _ _ _ _ _ _ _ _ _ _ _ (by decide) (by decide) (by decide) _ t14
  have t16 : At (after opsT16 _) _ _ _ := at_turn _ _ _ _ _ _ _ _ _ _ _ _ _ _ (by decide) (by decide) (by decide) _ t15
  have t17 : At (after opsT17 _) _ _ _ := at_turn _ _ _ _ _ _ _ _ _ _ _ _ _ _ (by decide) (by decide) (by decide) _ t16
  have t18 : At (after opsT18 _) _ _ _ := at_turn _ _ _ _ _ _ _ _ _ _ _ _ _ _ (by decide) (by decide) (by decide) _ t17
  have t19 : At (after opsT19 _) _ _ _ := at_mix _ _ _ _ _ _ _ _ _ _ _ _ _ _ _ (by decide) (by decide) _ t18 t18.1.2.1 t18.1.2.2
  have t20 : At (after opsT20 _) _ _ _ := at_turn _ _ _ _ _ _ _ _ _ _ _ _ _ _ (by decide) (by decide) (by decide) _ t19
  have t21 : At (after opsT21 _) _ _ _ := at_turn _ _ _ _ _ _ _ _ _ _ _ _ _ _ (by decide) (by decide) (by decide) _ t20
  have t22 : At (after opsT22 _) _ _ _ := at_turn _ _ _ _ _ _ _ _ _ _ _ _ _ _ (by decide) (by decide) (by decide) _ t21
  have t23 : At (after opsT23 _) _ _ _ := at_turn _ _ _ _ _ _ _ _ _ _ _ _ _ _ (by decide) (by decide) (by decide) _ t22
  have t24 : At (after opsT24 _) _ _ _ := at_mix _ _ _ _ _ _ _ _ _ _ _ _ _ _ _ (by decide) (by decide) _ t23 t23.1.2.2 t23.1.1
  iterate 25 refine at_append _ _ _ _ _ _ ?_
  exact t24

end Cert.ReferenceIdeal.Run

end
-- ==== Proof.Reference.Values.lean ====
/-
  What the reference's operations leave in the buffers that matter, each as a function of what the buffers hold before.
-/
module

public import proofs.«01_k».proof.Proof.Reference.Random

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The logits with the mask token at minus infinity, -/
def maskedOf (x : FVec F S16x32x100000 .f32) : FVec F S16x32x100000 .f32 :=
  Host.scatter scatter_S16x32x100000_S1_S16x32_01_2_2_0 (fun _ b => b) x
    (broadcastInDim S1 ![] bcast_S_S1 (constantI S_ 32 99999#32)) (broadcastInDim S16x32 ![] bcast_S_S16x32 (constant S_ .f32 0xFF800000#32 : FVec F S_ .f32))

/-- a number over the temperature, -/
def cooledOf (x : FVec F S16x32x100000 .f32) : FVec F S16x32x100000 .f32 :=
  Host.divf x (broadcastInDim S16x32x100000 ![] bcast_S_S16x32x100000 (constant S_ .f32 0x3F800000#32 : FVec F S_ .f32))

/-- the exponentials of the differences from the row's largest, -/
def expsOf (y : FVec F S16x32x100000 .f32) : FVec F S16x32x100000 .f32 :=
  Host.exp (subf y (broadcastInDim S16x32x100000 ![0, 1, 2] bcast_S16x32x1_S16x32x100000_0_1_2
    (broadcastInDim S16x32x1 ![0, 1] bcast_S16x32_S16x32x1_0_1
      (maximumf (broadcastInDim S16x32 ![] bcast_S_S16x32 (constant S_ .f32 0xFF800000#32 : FVec F S_ .f32))
        (Host.reduce FloatOps.maximumf y (constant S_ .f32 0xFF800000#32) reducesTo_S16x32x100000_S16x32_d2 h_S_)))))

/-- the softmax's largest entry, -/
def confOf (y : FVec F S16x32x100000 .f32) : FVec F S16x32 .f32 :=
  Host.reduce FloatOps.maximumf (Host.divf (expsOf y) (broadcastInDim S16x32x100000 ![0, 1, 2] bcast_S16x32x1_S16x32x100000_0_1_2
      (broadcastInDim S16x32x1 ![0, 1] bcast_S16x32_S16x32x1_0_1
        (Host.reduceAdd (expsOf y) (constant S_ .f32 0x00000000#32) reducesTo_S16x32x100000_S16x32_d2 h_S_))))
    (constant S_ .f32 0xFF800000#32) reducesTo_S16x32x100000_S16x32_d2 h_S_

/-- the positions that hold the mask token, -/
def heldOf (t : IVec S16x32 32) : IVec S16x32 1 := cmpi .eq t (broadcastInDim S16x32 ![] bcast_S_S16x32 (constantI S_ 32 99999#32))
/-- their confidences, -/
def heldConfOf (t : IVec S16x32 32) (q : FVec F S16x32 .f32) : FVec F S16x32 .f32 :=
  select (heldOf t) q (broadcastInDim S16x32 ![] bcast_S_S16x32 (constant S_ .f32 0xFF800000#32 : FVec F S_ .f32))
/-- and the positions kept. -/
def pickOf (t : IVec S16x32 32) (q : FVec F S16x32 .f32) : IVec S16x32 1 :=
  andi (heldOf t) (cmpf .oge (heldConfOf t q) (broadcastInDim S16x32 ![0, 1] bcast_S16x1_S16x32_0_1
    (extractStridedSlice S16x1 ![0, 3] (Host.topK S16x4 1 (FloatOps.cmpfTotal .gt) (heldConfOf t q) sliceFits_S16x32_S16x4).1 slices_S16x4_S16x1_0_3)))

/-- The counter of every entry. -/
def countOf : IVec S16x32x100000 64 :=
  addi (addi (muli (broadcastInDim S16x32x100000 ![] bcast_S_S16x32x100000 (constantI S_ 64 3200000#64)) (iotaInDim S16x32x100000 64 0))
      (muli (broadcastInDim S16x32x100000 ![] bcast_S_S16x32x100000 (constantI S_ 64 100000#64)) (iotaInDim S16x32x100000 64 1)))
    (muli (broadcastInDim S16x32x100000 ![] bcast_S_S16x32x100000 (constantI S_ 64 1#64)) (iotaInDim S16x32x100000 64 2))

/-- A number of the unit interval from a pair's words. -/
def unitOf (a b : IVec S16x32x100000 32) : FVec F S16x32x100000 .f32 :=
  maximumf (broadcastInDim S16x32x100000 ![] bcast_S_S16x32x100000 (constant S_ .f32 0x00800000#32 : FVec F S_ .f32))
    (addf (mulf (subf (bitcastToFloat .f32 (ori (Host.shrui (xori a b)
            (broadcastInDim S16x32x100000 ![] bcast_S_S16x32x100000 (constantI S_ 32 9#32)))
          (broadcastInDim S16x32x100000 ![] bcast_S_S16x32x100000 (constantI S_ 32 1065353216#32))))
        (broadcastInDim S16x32x100000 ![] bcast_S_S16x32x100000 (constant S_ .f32 0x3F800000#32 : FVec F S_ .f32)))
      (broadcastInDim S16x32x100000 ![] bcast_S_S16x32x100000 (constant S_ .f32 0x3F800000#32 : FVec F S_ .f32)))
    (broadcastInDim S16x32x100000 ![] bcast_S_S16x32x100000 (constant S_ .f32 0x00800000#32 : FVec F S_ .f32)))

/-- The noisy logits, -/
def noisyOf (u x : FVec F S16x32x100000 .f32) : FVec F S16x32x100000 .f32 :=
  addf (Host.negf (Host.log (Host.negf (Host.log u)))) (cooledOf x)
/-- and the place of the row's largest. -/
def argmaxOf (x : FVec F S16x32x100000 .f32) : IVec S16x32 32 := fun j =>
  (Host.argReduce reducer_argmax_f32_i32 x (iotaInDim S16x32x100000 32 2) (constant S_ .f32 0xFF800000#32) (constantI S_ 32 0#32)
    reducesTo_S16x32x100000_S16x32_d2 h_S_ j).2

variable (V : Valuation τ sig (Elt F))

theorem scaled_v2 : after opsScaled V main_v2 = maskedOf (V main_arg0) := by
  unfold maskedOf
  simp only [opsScaled]
  after_results_simp <;> rfl
theorem scaled_v4 : after opsScaled V main_v4 = cooledOf (maskedOf (V main_arg0)) := by
  unfold cooledOf maskedOf
  simp only [opsScaled]
  after_results_simp <;> rfl
theorem conf_v16 : after opsConf V main_v16 = confOf (V main_v4) := by
  unfold confOf expsOf
  simp only [opsConf]
  after_reads_simp <;> rfl
theorem pick_v23 : after opsPick V main_v23 = pickOf (V main_arg1) (V main_v16) := by
  unfold pickOf heldConfOf heldOf
  simp only [opsPick, TRef.nullary, TRef.unary, TRef.ternary, TRef.toBuf, TRef.ofBuf, cast_eq]
  after_reads_simp <;> rfl

/-- The operations that make the key's words, in two parts. -/
theorem key_split : after opsKey V = after (opsKey.drop 9) (after (opsKey.take 9) V) := by
  rw [← after_append, List.take_append_drop]

theorem keyA_v26 : after (opsKey.take 9) V main_v26 = (fun _ => 0#32 : IVec S1 32) := by
  simp only [opsKey, List.take_succ_cons, List.take_zero]
  after_reads_simp
  funext j
  rfl
theorem keyA_v29 : after (opsKey.take 9) V main_v29 = (fun _ => 42#32 : IVec S1 32) := by
  simp only [opsKey, List.take_succ_cons, List.take_zero]
  after_reads_simp
  funext j
  exact (by decide : (42#32 &&& 4294967295#32) = 42#32)
/-- The two words in one row. -/
def rowOf (a b : IVec S1 32) : IVec S2 32 := concatenate S2 0 [⟨S1, a⟩, ⟨S1, b⟩] concatenates_S1_S1_S2_d0
theorem keyB_v32 : after (opsKey.drop 9) V main_v32
    = shapeCast S_ (extractStridedSlice S1 ![0] (rowOf (V main_v26) (V main_v29)) slices_S2_S1_0) shapeCasts_S1_S_ := by
  unfold rowOf
  simp only [opsKey, List.drop_succ_cons, List.drop_zero]
  after_results_simp <;> rfl
theorem keyB_v34 : after (opsKey.drop 9) V main_v34
    = shapeCast S_ (extractStridedSlice S1 ![1] (rowOf (V main_v26) (V main_v29)) slices_S2_S1_1) shapeCasts_S1_S_ := by
  unfold rowOf
  simp only [opsKey, List.drop_succ_cons, List.drop_zero]
  after_results_simp <;> rfl
theorem key_v32 : after opsKey V main_v32 = (fun _ => 0#32 : IVec S_ 32) := by
  rw [key_split, keyB_v32, keyA_v26, keyA_v29]
  funext j
  revert j
  decide +kernel
theorem key_v34 : after opsKey V main_v34 = (fun _ => 42#32 : IVec S_ 32) := by
  rw [key_split, keyB_v34, keyA_v26, keyA_v29]
  funext j
  revert j
  decide +kernel
theorem count_v48 : after opsCount (after opsCountA V) main_v48 = trunci 32 countOf natLt_32_64 := by
  unfold countOf
  simp only [opsCount, opsCountA]
  after_reads_simp <;> rfl
theorem count_v49 : after opsCount (after opsCountA V) main_v49
    = trunci 32 (Host.shrui countOf (broadcastInDim S16x32x100000 ![] bcast_S_S16x32x100000 (constantI S_ 64 32#64))) natLt_32_64 := by
  unfold countOf
  simp only [opsCount, opsCountA]
  after_reads_simp <;> rfl
theorem unit_v64 : after opsUnit V main_v64 = unitOf (V main_v50_0) (V main_v50_1) := by
  unfold unitOf
  simp only [opsUnit]
  after_reads_simp <;> rfl
theorem noise_v71 : after opsNoise V main_v71 = noisyOf (V main_v64) (V main_v2) := by
  unfold noisyOf cooledOf
  simp only [opsNoise]
  after_reads_simp <;> rfl
theorem last_v73 : after opsLast V main_v73 = select (V main_v23) (argmaxOf (V main_v71)) (V main_arg1) := by
  unfold argmaxOf
  simp only [opsLast, TRef.nullary, TRef.quaternary, TRef.ternary, TRef.toBuf, TRef.ofBuf, cast_eq]
  after_reads_simp <;> rfl

end Cert.ReferenceIdeal.Run

end
-- ==== Proof.Reference.Results.lean ====
/-
  The reference's two results, as functions of the contents of its arguments.
-/
module

public import proofs.«01_k».proof.Proof.Reference.Values

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo
open Cert.Value (Pair cipher)

variable {F : FTy → Type} [FloatOps F]

/-- The counter of every entry, in two words. -/
def counterOf (i : S16x32x100000.Idx) : Pair :=
  ((trunci 32 (Host.shrui countOf (broadcastInDim S16x32x100000 ![] bcast_S_S16x32x100000 (constantI S_ 64 32#64))) natLt_32_64 : IVec S16x32x100000 32) i,
    (trunci 32 countOf natLt_32_64 : IVec S16x32x100000 32) i)

/-- The generator's pair for every entry. -/
def randomOf (i : S16x32x100000.Idx) : Pair := cipher ((counterOf i).1 + 0#32, (counterOf i).2 + 42#32)

/-- The tokens that the reference samples. -/
def sampledOf (x : FVec F S16x32x100000 .f32) : IVec S16x32 32 :=
  argmaxOf (noisyOf (unitOf (fun i => (randomOf i).1) (fun i => (randomOf i).2)) (maskedOf x))

/-- The results. -/
def confidences (x : FVec F S16x32x100000 .f32) : FVec F S16x32 .f32 := confOf (cooledOf (maskedOf x))
def tokens (x : FVec F S16x32x100000 .f32) (t : IVec S16x32 32) : IVec S16x32 32 := select (pickOf t (confidences x)) (sampledOf x) t

variable (V : Valuation τ sig (Elt F))

/-- The contents after the first operations, and after more of them. -/
abbrev V1 := after opsScaled V
abbrev V2 := after opsConf (V1 V)
abbrev V3 := after opsPick (V2 V)
abbrev V4 := after opsKey (V3 V)
abbrev V5 := after opsCountA (V4 V)
abbrev V6 := after opsCount (V5 V)
abbrev V7 := after opsRandom (V6 V)
abbrev V8 := after opsUnit (V7 V)
abbrev V9 := after opsNoise (V8 V)

section
variable (r : Ref sig .tc)
theorem keep1 (h : r ∉ opsScaled_W) : V1 V (Proc.devRef .tc r) = V (Proc.devRef .tc r) := opsScaled_keep _ r h
theorem keep2 (h : r ∉ opsConf_W) : V2 V (Proc.devRef .tc r) = V1 V (Proc.devRef .tc r) := opsConf_keep _ r h
theorem keep3 (h : r ∉ opsPick_W) : V3 V (Proc.devRef .tc r) = V2 V (Proc.devRef .tc r) := opsPick_keep _ r h
theorem keep4 (h : r ∉ opsKey_W) : V4 V (Proc.devRef .tc r) = V3 V (Proc.devRef .tc r) := opsKey_keep _ r h
theorem keep5 (h : r ∉ opsCountA_W) : V5 V (Proc.devRef .tc r) = V4 V (Proc.devRef .tc r) := opsCountA_keep _ r h
theorem keep6 (h : r ∉ opsCount_W) : V6 V (Proc.devRef .tc r) = V5 V (Proc.devRef .tc r) := opsCount_keep _ r h
theorem keep7 (h : r ∉ opsRandom_W) : V7 V (Proc.devRef .tc r) = V6 V (Proc.devRef .tc r) := opsRandom_keep _ r h
theorem keep8 (h : r ∉ opsUnit_W) : V8 V (Proc.devRef .tc r) = V7 V (Proc.devRef .tc r) := opsUnit_keep _ r h
theorem keep9 (h : r ∉ opsNoise_W) : V9 V (Proc.devRef .tc r) = V8 V (Proc.devRef .tc r) := opsNoise_keep _ r h
end

theorem ops_eq : after ops V = after opsLast (V9 V) := by
  unfold ops
  rw [after_append, after_append, after_append, after_append, after_append, after_append, after_append, after_append, after_append]

theorem v2_v16 : V2 V main_v16 = confidences (V main_arg0) := (conf_v16 (V1 V)).trans (congrArg confOf (scaled_v4 V))

theorem result_v16 : after ops V main_v16 = confidences (V main_arg0) := by
  rw [ops_eq, opsLast_keep _ _ (by decide), keep9 V _ (by decide), keep8 V _ (by decide), keep7 V _ (by decide),
    keep6 V _ (by decide), keep5 V _ (by decide), keep4 V _ (by decide), keep3 V _ (by decide)]
  exact v2_v16 V

theorem v9_v23 : V9 V main_v23 = pickOf (V main_arg1) (confidences (V main_arg0)) := by
  rw [keep9 V _ (by decide), keep8 V _ (by decide), keep7 V _ (by decide),
    keep6 V _ (by decide), keep5 V _ (by decide), keep4 V _ (by decide)]
  refine (pick_v23 (V2 V)).trans ?_
  rw [v2_v16, keep2 V _ (by decide), keep1 V _ (by decide)]

theorem v9_arg1 : V9 V main_arg1 = V main_arg1 := by
  rw [keep9 V _ (by decide), keep8 V _ (by decide), keep7 V _ (by decide),
    keep6 V _ (by decide), keep5 V _ (by decide), keep4 V _ (by decide), keep3 V _ (by decide),
    keep2 V _ (by decide), keep1 V _ (by decide)]

theorem v8_v2 : V8 V main_v2 = maskedOf (V main_arg0) := by
  rw [keep8 V _ (by decide), keep7 V _ (by decide),
    keep6 V _ (by decide), keep5 V _ (by decide), keep4 V _ (by decide), keep3 V _ (by decide),
    keep2 V _ (by decide)]
  exact scaled_v2 V

theorem v6_v32 : val k0 (V6 V) = (fun _ => 0#32 : IVec S_ 32) := by
  show V6 V main_v32 = _
  rw [keep6 V _ (by decide), keep5 V _ (by decide)]
  exact key_v32 (V3 V)
theorem v6_v34 : val k1 (V6 V) = (fun _ => 42#32 : IVec S_ 32) := by
  show V6 V main_v34 = _
  rw [keep6 V _ (by decide), keep5 V _ (by decide)]
  exact key_v34 (V3 V)

theorem v7_random : At (V7 V) (.of main_v50_0) (.of main_v50_1) randomOf :=
  at_random (V6 V) (v6_v32 V) (v6_v34 V) counterOf (count_v49 (V4 V)) (count_v48 (V4 V))

theorem v8_v64 : V8 V main_v64 = unitOf (fun i => (randomOf i).1) (fun i => (randomOf i).2) :=
  (unit_v64 (V7 V)).trans (congrArg₂ unitOf (v7_random V).2.1 (v7_random V).2.2)

theorem result_v73 : after ops V main_v73 = tokens (V main_arg0) (V main_arg1) := by
  rw [ops_eq]
  refine (last_v73 (V9 V)).trans ?_
  rw [v9_v23, v9_arg1]
  have e : V9 V main_v71 = noisyOf (unitOf (fun i => (randomOf i).1) (fun i => (randomOf i).2)) (maskedOf (V main_arg0)) := by
    refine (noise_v71 (V8 V)).trans ?_
    rw [v8_v64, v8_v2]
  rw [e]
  rfl

end Cert.ReferenceIdeal.Run

end
-- ==== Proof.Value.FinalConf.lean ====
/-
  The array of confidences after the softmax kernel.
-/
module

public import proofs.«01_k».proof.Proof.KernelIdeal.RegionConf
public import Idealize.ShloMosaic.Lib.Pipeline.Value
public import Idealize.ShloMosaic.Lib.Pointwise

@[expose] public section

set_option maxRecDepth 16384

noncomputable section

namespace Cert.KernelIdeal.ConfCall

open Cert.KernelIdeal.Gen
open Idealize.ShloMosaic Idealize.ShloMosaic.TcCoe
open Idealize.ShloMosaic.Pipeline (Dat Cfg Window)

variable {F : FTy → Type} [FloatOps F]

theorem emb_in (j : S8x100000.Idx) : rIn.emb j = j := by
  refine funext fun a => Fin.ext ?_
  match a with
  | ⟨0, _⟩ => show 0 + 1 * (j 0).val = (j 0).val; omega
  | ⟨1, _⟩ => show 0 + 1 * (j 1).val = (j 1).val; omega
theorem emb_rOut (j : S1x1x8.Idx) : rOut.emb j = j := by
  refine funext fun a => Fin.ext ?_
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

/-- What the body leaves, entry by entry. -/
theorem out_eq (x : Vec F S8x100000 .f32) : out x = k0_pay1 x := by
  funext j
  unfold out
  rw [show View.ld x rIn = x from funext fun j => congrArg x (emb_in j)]
  have h := View.canon_cons_emb (Val := Elt F) (e := .f32) rOut (k0_pay1 x) [] j
  rw [emb_rOut] at h
  exact h

/-- Where a point's block lies. -/
theorem index_in (t : Fin cfg0.N) (b : Fin 2) : (cfg0.win 0).index t b = if b.val = 0 then t.val else 0 := by
  revert t b; decide +kernel
theorem index_out (t : Fin cfg0.N) (b : Fin 3) : (cfg0.win 1).index t b = if b.val = 0 then t.val else 0 := by
  revert t b; decide +kernel

/-- The eight rows of a point. -/
def rowsAt (x : Vec F S512x100000 .f32) (t : Fin 64) : Vec F S8x100000 .f32 := fun j =>
  x (Idealize.ShloMosaic.ix2 ⟨8 * t.val + (j 0).val, by have := t.isLt; have : (j 0).val < 8 := (j 0).isLt; omega⟩ ⟨(j 1).val, (j 1).isLt⟩)

variable (V : (c : Dev nD) → Valuation τ sig (Elt F))

theorem blk_in (c : Dev nD) (t : Fin cfg0.N) : blk V c 0 t = rowsAt (V c (Proc.devRef .tc main_v0)) t := by
  funext j
  show V c (Proc.devRef .tc main_v0) (((cfg0.win 0).rect t).emb j) = V c (Proc.devRef .tc main_v0) _
  refine congrArg (V c (Proc.devRef .tc main_v0)) (funext fun b => Fin.ext ?_)
  refine (Pipeline.Window.rect_emb_val (cfg0.win 0) t j b rfl).trans ?_
  refine (congrArg (fun n => n * (cfg0.win 0).size b + (j b).val) (index_in t b)).trans ?_
  match b with
  | ⟨0, _⟩ => show t.val * 8 + (j ⟨0, _⟩).val = 8 * t.val + (j ⟨0, _⟩).val; omega
  | ⟨1, _⟩ => exact (congrArg (· + (j ⟨1, _⟩).val) (Nat.zero_mul _)).trans (Nat.zero_add _)

/-- The array, from the logits. -/
def arr (x : Vec F S512x100000 .f32) : Vec F S64x1x8 .f32 := fun i =>
  k0_pay1 (rowsAt x ⟨(i 0).val, (i 0).isLt⟩) (ix3 (0 : Fin 1) (0 : Fin 1) ⟨(i 2).val, (i 2).isLt⟩)

theorem arr_at (x : Vec F S512x100000 .f32) (t : Fin 64) (z : Fin 1) (r : Fin 8) :
    arr x (ix3 t z r) = k0_pay1 (rowsAt x t) (ix3 (0 : Fin 1) (0 : Fin 1) r) := rfl

theorem emb_out (t : Fin cfg0.N) (j : S1x1x8.Idx) : (((cfg0.win 1).rect t).emb j : S64x1x8.Idx)
    = ix3 (⟨t.val, t.isLt⟩ : Fin 64) (0 : Fin 1) (⟨(j 2).val, (j 2).isLt⟩ : Fin 8) := by
  refine funext fun b => Fin.ext ?_
  refine (Pipeline.Window.rect_emb_val (cfg0.win 1) t j b rfl).trans ?_
  refine (congrArg (fun n => n * (cfg0.win 1).size b + (j b).val) (index_out t b)).trans ?_
  match b with
  | ⟨0, _⟩ =>
    have h : (j ⟨0, by show 0 < 3; omega⟩).val < 1 := (j ⟨0, _⟩).isLt
    show t.val * 1 + (j ⟨0, _⟩).val = t.val; omega
  | ⟨1, _⟩ =>
    have h : (j ⟨1, by show 1 < 3; omega⟩).val < 1 := (j ⟨1, _⟩).isLt
    show 0 * 1 + (j ⟨1, _⟩).val = 0; omega
  | ⟨2, _⟩ => exact (congrArg (· + (j ⟨2, _⟩).val) (Nat.zero_mul _)).trans (Nat.zero_add _)

theorem flush_all (t : Fin cfg0.N) : (cfg0.win 1).flush t = true := by revert t; decide +kernel

/-- The array after the call. -/
theorem final (c : Dev nD) : (dat V c).arrAt 1 cfg0.N = arr (V c (Proc.devRef .tc main_v0)) := by
  refine Dat.arrAt_eq_of_cover (dat V c) 1 (arr (V c (Proc.devRef .tc main_v0))) (fun t hf => ?_)
    (fun i => ⟨⟨(i 0).val, (i 0).isLt⟩, flush_all _, ?_⟩)
  · show (dat V c).after 1 t = _
    rw [after_out, blk_in, out_eq]
    funext j
    refine Eq.trans ?_ (congrArg (arr (V c (Proc.devRef .tc main_v0))) (emb_out t j)).symm
    refine congrArg (k0_pay1 (rowsAt (V c (Proc.devRef .tc main_v0)) t)) (funext fun b => Fin.ext ?_)
    match b with
    | ⟨0, _⟩ =>
      have h : (j ⟨0, by show 0 < 3; omega⟩).val < 1 := (j ⟨0, _⟩).isLt
      show (j ⟨0, _⟩).val = 0; omega
    | ⟨1, _⟩ =>
      have h : (j ⟨1, by show 1 < 3; omega⟩).val < 1 := (j ⟨1, _⟩).isLt
      show (j ⟨1, _⟩).val = 0; omega
    | ⟨2, _⟩ => rfl
  · have e := emb_out ⟨(i 0).val, (i 0).isLt⟩ (ix3 (0 : Fin 1) (0 : Fin 1) (⟨(i 2).val, (i 2).isLt⟩ : Fin 8))
    have h := View.emb_mem_set ((cfg0.win 1).blk ⟨(i 0).val, (i 0).isLt⟩).view (ix3 (0 : Fin 1) (0 : Fin 1) (⟨(i 2).val, (i 2).isLt⟩ : Fin 8))
    have e' : (((cfg0.win 1).rect ⟨(i 0).val, (i 0).isLt⟩).emb (ix3 (0 : Fin 1) (0 : Fin 1) (⟨(i 2).val, (i 2).isLt⟩ : Fin 8)) : S64x1x8.Idx) = i :=
      e.trans (funext fun b => Fin.ext (by
        match b with
        | ⟨0, _⟩ => rfl
        | ⟨1, _⟩ =>
          have h : (i ⟨1, by show 1 < 3; omega⟩).val < 1 := (i ⟨1, _⟩).isLt
          show 0 = (i ⟨1, _⟩).val; omega
        | ⟨2, _⟩ => rfl))
    exact (congrArg (fun z : S64x1x8.Idx => z ∈ ((cfg0.win 1).blk ⟨(i 0).val, (i 0).isLt⟩).view.set) e').mp h

end Cert.KernelIdeal.ConfCall
end
-- ==== Proof.Value.Softmax.lean ====
/-
  The largest entry of a softmax, over the extended reals: of entries none of which is plus infinity, one at least not
  minus infinity, it is one over the sum of the exponentials of the differences from the largest.
-/
module

public import Idealize.ShloMosaic.PureOps.Ideal

@[expose] public section

noncomputable section

namespace Cert.Value

open Idealize.ShloMosaic

/-- The greatest of a row. -/
def top {n : ℕ} (a : Fin n → EReal) : EReal := Finset.univ.fold max ⊥ a

theorem le_top_iff {n : ℕ} (a : Fin n → EReal) (v : EReal) : v ≤ top a ↔ v = ⊥ ∨ ∃ j, v ≤ a j := by
  unfold top
  rw [Finset.le_fold_max]
  simp

theorem le_top {n : ℕ} (a : Fin n → EReal) (j : Fin n) : a j ≤ top a := (le_top_iff a _).mpr (.inr ⟨j, le_rfl⟩)

theorem top_le {n : ℕ} {a : Fin n → EReal} {v : EReal} (h : ∀ j, a j ≤ v) : top a ≤ v := by
  rcases (le_top_iff a (top a)).mp le_rfl with e | ⟨j, hj⟩
  · rw [e]; exact bot_le
  · exact hj.trans (h j)

theorem top_eq {n : ℕ} {a : Fin n → EReal} (j : Fin n) (h : ∀ k, a k ≤ a j) : top a = a j :=
  le_antisymm (top_le h) (le_top a j)

theorem exists_top {n : ℕ} (a : Fin n → EReal) (j : Fin n) : ∃ k, top a = a k := by
  haveI : Nonempty (Fin n) := ⟨j⟩
  obtain ⟨k, hk⟩ := Finite.exists_max a
  exact ⟨k, top_eq k hk⟩

theorem exp_nonneg (x : EReal) : 0 ≤ Ideal.exp x := by
  induction x with
  | bot => exact le_refl (0 : EReal)
  | top => exact _root_.le_top
  | coe r => exact EReal.coe_nonneg.mpr (Real.exp_pos r).le

theorem exp_le_one {x : EReal} (h : x ≤ 0) : Ideal.exp x ≤ 1 := by
  induction x with
  | bot => exact (zero_le_one : (0 : EReal) ≤ 1)
  | top => exact absurd h (by simp)
  | coe r =>
    have h' : r ≤ 0 := EReal.coe_nonpos.mp h
    show ((Real.exp r : ℝ) : EReal) ≤ 1
    exact_mod_cast Real.exp_le_one_iff.mpr h'

theorem exp_zero : Ideal.exp 0 = 1 := by
  show ((Real.exp 0 : ℝ) : EReal) = 1
  simp

/-- The largest entry of a softmax. -/
theorem top_softmax {n : ℕ} (a : Fin n → EReal) (hlt : ∀ j, a j ≠ ⊤) (j₀ : Fin n) (hj₀ : a j₀ ≠ ⊥) :
    top (fun j => Ideal.div (Ideal.exp (a j - top a)) (∑ k, Ideal.exp (a k - top a)))
      = Ideal.div 1 (∑ k, Ideal.exp (a k - top a)) := by
  obtain ⟨k₀, hk₀⟩ := exists_top a j₀
  have hb : top a ≠ ⊥ := fun h => hj₀ (le_bot_iff.mp (h ▸ le_top a j₀))
  have ht : top a ≠ ⊤ := hk₀ ▸ hlt k₀
  have e0 : Ideal.exp (a k₀ - top a) = 1 := by
    rw [← hk₀, EReal.sub_self ht hb, exp_zero]
  have e1 : ∀ j, Ideal.exp (a j - top a) ≤ 1 := fun j =>
    exp_le_one (EReal.sub_nonpos.mpr (le_top a j))
  have hs : (1 : EReal) ≤ ∑ k, Ideal.exp (a k - top a) := by
    rw [← e0]
    exact Finset.single_le_sum (f := fun k => Ideal.exp (a k - top a)) (fun i _ => exp_nonneg _) (Finset.mem_univ k₀)
  generalize (∑ k, Ideal.exp (a k - top a)) = s at hs
  have hs0 : s ≠ 0 := fun h => absurd (h ▸ hs) (by simp)
  have hi : (0 : EReal) ≤ s⁻¹ := EReal.inv_nonneg_of_nonneg (zero_le_one.trans hs)
  have hd : ∀ x : EReal, Ideal.div x s = x * s⁻¹ := fun x => by unfold Ideal.div; rw [if_neg hs0]
  simp only [hd]
  have h := top_eq (a := fun j => Ideal.exp (a j - top a) * s⁻¹) k₀ (fun j => by
    show Ideal.exp (a j - top a) * s⁻¹ ≤ Ideal.exp (a k₀ - top a) * s⁻¹
    rw [e0]
    exact mul_le_mul_of_nonneg_right (e1 j) hi)
  rw [h, e0]

end Cert.Value

end
-- ==== Proof.Value.Conf.lean ====
/-
  The confidence of a row of numbers, and the word of minus infinity.
-/
module

public import proofs.«01_k».proof.Proof.Value.Softmax
public import Idealize.ShloMosaic.PureOps.Ideal.Laws

@[expose] public section

set_option maxRecDepth 16384

noncomputable section

namespace Cert.Value

open Idealize.ShloMosaic

/-- Minus infinity, as it is printed. -/
theorem ofBits_bot : Ideal.ofBits .f32 0xFF800000#32 = ⊥ := by
  simp [Ideal.ofBits, Ideal.ieee]
/-- One over the sum of a row's exponentials, each taken of the difference from the largest. -/
def conf {n : Nat} (a : Fin n → EReal) : EReal := Ideal.div 1 (∑ k, Ideal.exp (a k - top a))

end Cert.Value
end
-- ==== Proof.Value.PayConf.lean ====
/-
  The softmax kernel's block, read at a row.
-/
module

public import proofs.«01_k».proof.Proof.KernelIdeal.RegionConf
public import proofs.«01_k».proof.Proof.Value.Conf
public import Idealize.ShloMosaic.Lib.Pointwise
public import Idealize.ShloMosaic.PureOps.Ideal.Laws

@[expose] public section

set_option maxRecDepth 16384

noncomputable section

namespace Cert.Value

open Idealize.ShloMosaic Cert.KernelIdeal Cert.KernelIdeal.Gen

/-- The block's result at a row. -/
theorem pay_at (y : FVec Ideal S8x100000 .f32) (r : Fin 8) : k0_pay1 (F := Ideal) y (ix3 (0 : Fin 1) (0 : Fin 1) r)
      = Ideal.div 1 (∑ x : Fin 100000,
        Ideal.exp
          (Scalar.select (IntOp.cmpi CmpIPredicate.eq (BitVec.ofNat 32 x.val) 99999#32)
              (Ideal.ofBits FTy.f32 0xFF800000#32) (y (ix2 r x)) -
            Finset.fold max (Ideal.ofBits FTy.f32 0xFF800000#32)
              (fun x : Fin 100000 =>
                Scalar.select (IntOp.cmpi CmpIPredicate.eq (BitVec.ofNat 32 x.val) 99999#32)
                  (Ideal.ofBits FTy.f32 0xFF800000#32) (y (ix2 r x)))
              Finset.univ)) := by
  pointwise [k0_pay1]

/-- A word below 2 ^ 32 read as a number. -/
theorem select_token {α : Type} (j : Fin 100000) (u v : α) :
    Scalar.select (IntOp.cmpi CmpIPredicate.eq (BitVec.ofNat 32 j.val) 99999#32) u v = if j.val = 99999 then u else v := by
  have hj := j.isLt
  by_cases h : j.val = 99999
  · rw [if_pos h, h]; rfl
  · rw [if_neg h]
    have hne : (BitVec.ofNat 32 j.val == 99999#32) = false := by
      rw [beq_eq_false_iff_ne]
      intro e
      have := congrArg BitVec.toNat e
      rw [BitVec.toNat_ofNat, BitVec.toNat_ofNat] at this
      omega
    have e : IntOp.cmpi CmpIPredicate.eq (BitVec.ofNat 32 j.val) 99999#32 = 0#1 := by
      show BitVec.ofBool (BitVec.ofNat 32 j.val == 99999#32) = 0#1
      rw [hne]; rfl
    rw [e]; rfl

/-- **The block's result at a row**: one over the sum of the masked row's exponentials. -/
theorem pay_conf (y : FVec Ideal S8x100000 .f32) (r : Fin 8) :
    k0_pay1 (F := Ideal) y (ix3 (0 : Fin 1) (0 : Fin 1) r) = conf (fun j : Fin 100000 => if j.val = 99999 then ⊥ else y (ix2 r j)) := by
  rw [pay_at, ofBits_bot]
  simp only [select_token]
  rfl

end Cert.Value
end
-- ==== Proof.Value.RefMask.lean ====
/-
  The reference's masked logits, read at an entry.
-/
module

public import proofs.«01_k».proof.Proof.Reference.Results
public import proofs.«01_k».proof.Proof.Value.Conf
public import Idealize.ShloMosaic.Lib.Pointwise
public import Idealize.ShloMosaic.Lib.Routing.OpsSet
public import Idealize.ShloMosaic.Lib.Routing.OpsPair
public import Idealize.ShloMosaic.PureOps.Ideal.Laws
public import Idealize.ShloMosaic.Lib.IdealHost

@[expose] public section

set_option maxRecDepth 16384

noncomputable section

namespace Cert.Value

open Idealize.ShloMosaic Idealize.ShloMosaic.Routing Cert.ReferenceIdeal Cert.ReferenceIdeal.Gen Cert.ReferenceIdeal.Run

/-- The scatter's dimension numbers: one index word, on the last axis. -/
abbrev dims : ScatterDims S16x32x100000 S1 S16x32 := scatter_S16x32x100000_S1_S16x32_01_2_2_0

theorem kept_dims : dims.sKept = [0, 1] := rfl
/-- An update lands where its own place and the index word say. -/
theorem lands (idx : IVec S1 32) (h : ∀ i, (idx i).toInt = 99999) (k : S16x32.Idx) (b : Fin 16) (s : Fin 32) (j : Fin 100000) :
    dims.resultIdx? k idx = some (ix3 b s j) ↔ (k 0 = b ∧ k 1 = s) ∧ j.val = 99999 := by
  have w0 : dims.window k 0 = (k 0).val := by
    unfold ScatterDims.window
    rw [dif_pos (by rw [kept_dims]; decide)]
    rfl
  have w1 : dims.window k 1 = (k 1).val := by
    unfold ScatterDims.window
    rw [dif_pos (by rw [kept_dims]; decide)]
    rfl
  have w2 : dims.window k 2 = 0 := by
    unfold ScatterDims.window
    rw [dif_neg (by rw [kept_dims]; decide)]
  have s0 : dims.start k idx 0 = 0 := by
    unfold ScatterDims.start
    rw [dif_neg (by decide)]
  have s1 : dims.start k idx 1 = 0 := by
    unfold ScatterDims.start
    rw [dif_neg (by decide)]
  have s2 : dims.start k idx 2 = 99999 := by
    unfold ScatterDims.start
    rw [dif_pos (by decide)]
    exact h _
  rw [resultIdx?_eq_some]
  constructor
  · intro q
    have q0 := q 0
    have q1 := q 1
    have q2 := q 2
    rw [w0, s0] at q0
    rw [w1, s1] at q1
    rw [w2, s2] at q2
    refine ⟨⟨Fin.ext ?_, Fin.ext ?_⟩, ?_⟩
    · have : ((ix3 b s j : S16x32x100000.Idx) 0).val = b.val := rfl
      omega
    · have : ((ix3 b s j : S16x32x100000.Idx) 1).val = s.val := rfl
      omega
    · have : ((ix3 b s j : S16x32x100000.Idx) 2).val = j.val := rfl
      omega
  · rintro ⟨⟨e0, e1⟩, e2⟩ a
    match a with
    | ⟨0, _⟩ => show dims.start k idx 0 + (dims.window k 0 : Int) = (b.val : Int); rw [w0, s0, e0]; omega
    | ⟨1, _⟩ => show dims.start k idx 1 + (dims.window k 1 : Int) = (s.val : Int); rw [w1, s1, e1]; omega
    | ⟨2, _⟩ => show dims.start k idx 2 + (dims.window k 2 : Int) = (j.val : Int); rw [w2, s2, e2]; omega

/-- The mask token's logit is minus infinity, every other one as given. -/
theorem masked_at (x : FVec Ideal S16x32x100000 .f32) (b : Fin 16) (s : Fin 32) (j : Fin 100000) :
    maskedOf x (ix3 b s j) = if j.val = 99999 then ⊥ else x (ix3 b s j) := by
  unfold maskedOf
  have hidx : ∀ i, ((broadcastInDim S1 ![] bcast_S_S1 (constantI S_ 32 99999#32) : IVec S1 32) i).toInt = 99999 := fun i => by
    show (99999#32 : BitVec 32).toInt = 99999
    decide
  by_cases h : j.val = 99999
  · rw [if_pos h]
    exact scatter_set_hit dims x _ _ _ ⊥ (fun k _ => ofBits_bot) (ix2 b s) ((lands _ hidx _ b s j).2 ⟨⟨rfl, rfl⟩, h⟩)
  · rw [if_neg h]
    exact scatter_set_miss dims x _ _ _ fun k hk => h ((lands _ hidx k b s j).1 hk).2

/-- Dividing by a temperature of one changes nothing. -/
theorem cooled_eq (y : FVec Ideal S16x32x100000 .f32) : cooledOf y = y := by
  funext i
  show Ideal.div (y i) (Ideal.ofBits .f32 0x3F800000#32) = y i
  rw [Ideal.ofBits_one_f32]
  unfold Ideal.div
  rw [if_neg one_ne_zero, inv_one, mul_one]

end Cert.Value
end
-- ==== Proof.Value.Rows.lean ====
/-
  Reductions and broadcasts of a stack of rows, read at an entry; any sizes.
-/
module

public import Idealize.ShloMosaic.Lib.Pointwise
public import Idealize.ShloMosaic.PureOps.Ideal.Laws

@[expose] public section

set_option maxRecDepth 16384

noncomputable section

namespace Cert.Value

open Idealize.ShloMosaic

variable {A B N : Nat}

/-- The host's largest of a row. -/
theorem rowTop (y : FVec Ideal ⟨3, ![A, B, N]⟩ .f32) (c : FVec Ideal ⟨0, ![]⟩ .f32) (h : (⟨3, ![A, B, N]⟩ : Shape).ReducesTo [2] ⟨2, ![A, B]⟩)
    (hu : 0 < (⟨0, ![]⟩ : Shape).numel) (b : Fin A) (s : Fin B) :
    Host.reduce FloatOps.maximumf y c h hu (ix2 b s) = Finset.univ.fold max (c ix0) (fun k : Fin N => y (ix3 b s k)) := by
  pointwise
  rw [Subsingleton.elim (Shape.Idx.first hu) ix0]

/-- The host's sum of a row. -/
theorem rowSum (y : FVec Ideal ⟨3, ![A, B, N]⟩ .f32) (c : FVec Ideal ⟨0, ![]⟩ .f32) (h : (⟨3, ![A, B, N]⟩ : Shape).ReducesTo [2] ⟨2, ![A, B]⟩)
    (hu : 0 < (⟨0, ![]⟩ : Shape).numel) (b : Fin A) (s : Fin B) :
    Host.reduceAdd y c h hu (ix2 b s) = c ix0 + ∑ k : Fin N, y (ix3 b s k) := by
  pointwise
  rw [Subsingleton.elim (Shape.Idx.first hu) ix0]

/-- A number per row, spread over the row. -/
theorem spread_at {α : Type} (y : (⟨2, ![A, B]⟩ : Shape).Idx → α) (h : (⟨3, ![A, B, 1]⟩ : Shape).BroadcastsInDim ⟨3, ![A, B, N]⟩ ![0, 1, 2])
    (h' : (⟨2, ![A, B]⟩ : Shape).BroadcastsInDim ⟨3, ![A, B, 1]⟩ ![0, 1]) (b : Fin A) (s : Fin B) (k : Fin N) :
    broadcastInDim ⟨3, ![A, B, N]⟩ ![0, 1, 2] h (broadcastInDim ⟨3, ![A, B, 1]⟩ ![0, 1] h' y) (ix3 b s k) = y (ix2 b s) := by
  refine congrArg y (funext fun a => Fin.ext ?_)
  match a with
  | ⟨0, _⟩ =>
    have hb := b.isLt
    simp only [Shape.Idx.norm]
    by_cases h1 : A = 1
    · simp [h1]
      omega
    · simp [h1]
  | ⟨1, _⟩ =>
    have hb := s.isLt
    simp only [Shape.Idx.norm]
    by_cases h1 : B = 1
    · simp [h1]
      omega
    · simp [h1]

/-- The larger of minus infinity and a number is the number. -/
theorem max_bot_at (c : FVec Ideal ⟨0, ![]⟩ .f32) (hc : c ix0 = ⊥) (m : FVec Ideal ⟨2, ![A, B]⟩ .f32)
    (h : (⟨0, ![]⟩ : Shape).BroadcastsInDim ⟨2, ![A, B]⟩ ![]) (b : Fin A) (s : Fin B) :
    maximumf (broadcastInDim ⟨2, ![A, B]⟩ ![] h c) m (ix2 b s) = m (ix2 b s) := by
  pointwise
  rw [show ∀ i, c i = ⊥ from fun i => (congrArg c (Subsingleton.elim i ix0)).trans hc]
  exact max_eq_right bot_le

/-- The exponential of a row's entry, less a number of the row. -/
theorem exp_sub_at (y : FVec Ideal ⟨3, ![A, B, N]⟩ .f32) (m : FVec Ideal ⟨2, ![A, B]⟩ .f32) (h : (⟨3, ![A, B, 1]⟩ : Shape).BroadcastsInDim ⟨3, ![A, B, N]⟩ ![0, 1, 2])
    (h' : (⟨2, ![A, B]⟩ : Shape).BroadcastsInDim ⟨3, ![A, B, 1]⟩ ![0, 1]) (b : Fin A) (s : Fin B) (k : Fin N) :
    Host.exp (subf y (broadcastInDim ⟨3, ![A, B, N]⟩ ![0, 1, 2] h (broadcastInDim ⟨3, ![A, B, 1]⟩ ![0, 1] h' m))) (ix3 b s k)
      = Ideal.exp (y (ix3 b s k) - m (ix2 b s)) := by
  rw [← spread_at m h h' b s k]
  rfl

/-- A row's entry over a number of the row. -/
theorem div_at (y : FVec Ideal ⟨3, ![A, B, N]⟩ .f32) (m : FVec Ideal ⟨2, ![A, B]⟩ .f32) (h : (⟨3, ![A, B, 1]⟩ : Shape).BroadcastsInDim ⟨3, ![A, B, N]⟩ ![0, 1, 2])
    (h' : (⟨2, ![A, B]⟩ : Shape).BroadcastsInDim ⟨3, ![A, B, 1]⟩ ![0, 1]) (b : Fin A) (s : Fin B) (k : Fin N) :
    Host.divf y (broadcastInDim ⟨3, ![A, B, N]⟩ ![0, 1, 2] h (broadcastInDim ⟨3, ![A, B, 1]⟩ ![0, 1] h' m)) (ix3 b s k)
      = Ideal.div (y (ix3 b s k)) (m (ix2 b s)) := by
  rw [← spread_at m h h' b s k]
  rfl

end Cert.Value
end
-- ==== Proof.Value.RefConf.lean ====
/-
  The reference's confidences, read at an entry: one over the row's sum of exponentials.
-/
module

public import proofs.«01_k».proof.Proof.Value.RefMask
public import proofs.«01_k».proof.Proof.Value.Rows
public import proofs.«01_k».proof.Proof.Value.Softmax

@[expose] public section

set_option maxRecDepth 16384

noncomputable section

namespace Cert.Value

open Idealize.ShloMosaic Cert.ReferenceIdeal Cert.ReferenceIdeal.Gen Cert.ReferenceIdeal.Run

/-- A row of masked logits. -/
def row (x : FVec Ideal S16x32x100000 .f32) (b : Fin 16) (s : Fin 32) (j : Fin 100000) : EReal :=
  if j.val = 99999 then ⊥ else x (ix3 b s j)

/-- The printed minus infinity and zero. -/
theorem negInf_at : (constant (F := Ideal) S_ .f32 0xFF800000#32) ix0 = ⊥ := ofBits_bot
theorem zero_at : (constant (F := Ideal) S_ .f32 0x00000000#32) ix0 = 0 := Ideal.ofBits_zero_f32

/-- The largest of a row. -/
theorem rowMax_at (y : FVec Ideal S16x32x100000 .f32) (b : Fin 16) (s : Fin 32) :
    (maximumf (broadcastInDim S16x32 ![] bcast_S_S16x32 (constant (F := Ideal) S_ .f32 0xFF800000#32))
        (Host.reduce FloatOps.maximumf y (constant (F := Ideal) S_ .f32 0xFF800000#32) reducesTo_S16x32x100000_S16x32_d2 h_S_)) (ix2 b s)
      = top (fun j => y (ix3 b s j)) := by
  rw [max_bot_at _ negInf_at, rowTop, negInf_at, top]

/-- An exponential. -/
theorem exps_at (y : FVec Ideal S16x32x100000 .f32) (b : Fin 16) (s : Fin 32) (j : Fin 100000) :
    expsOf y (ix3 b s j) = Ideal.exp (y (ix3 b s j) - top (fun j => y (ix3 b s j))) := by
  rw [expsOf, exp_sub_at, rowMax_at]

/-- The largest entry of the softmax. -/
theorem conf_at (y : FVec Ideal S16x32x100000 .f32) (b : Fin 16) (s : Fin 32) :
    confOf y (ix2 b s) = top (fun j => Ideal.div (Ideal.exp (y (ix3 b s j) - top (fun j => y (ix3 b s j))))
      (∑ k, Ideal.exp (y (ix3 b s k) - top (fun j => y (ix3 b s j))))) := by
  rw [confOf, rowTop, negInf_at]
  refine congrArg top (funext fun j => ?_)
  rw [div_at, exps_at, rowSum, zero_at, zero_add]
  simp only [exps_at]

/-- **A confidence**, of finite logits. -/
theorem confidences_at (x : FVec Ideal S16x32x100000 .f32) (hx : ∀ i, x i ≠ ⊤) (hx' : ∀ i, x i ≠ ⊥) (b : Fin 16) (s : Fin 32) :
    confidences x (ix2 b s) = conf (row x b s) := by
  have e : (fun j => maskedOf x (ix3 b s j)) = row x b s := funext fun j => masked_at x b s j
  unfold confidences
  rw [cooled_eq, conf_at, e]
  simp only [congrFun e]
  refine top_softmax (row x b s) (fun j => ?_) 0 ?_
  · unfold row
    split
    · exact bot_ne_top
    · exact hx _
  · unfold row
    rw [if_neg (by decide)]
    exact hx' _

end Cert.Value
end
-- ==== Proof.Value.ConfEq.lean ====
/-
  The kernel's confidences are the reference's.
-/
module

public import proofs.«01_k».proof.Proof.Value.FinalConf
public import proofs.«01_k».proof.Proof.Value.PayConf
public import proofs.«01_k».proof.Proof.Value.RefConf
public import proofs.«01_k».proof.Proof.KernelIdeal.Chain

@[expose] public section

set_option maxRecDepth 16384

noncomputable section

namespace Cert.Value

open Idealize.ShloMosaic Idealize.ShloMosaic.TcCoe Cert.KernelIdeal Cert.KernelIdeal.Gen

/-- The kernel's confidences, from the logits. -/
def kconf (x : FVec Ideal S16x32x100000 .f32) : FVec Ideal S16x32 .f32 :=
  shapeCast S16x32 (ConfCall.arr (F := Ideal) (shapeCast S512x100000 x shapeCasts_S16x32x100000_S512x100000)) shapeCasts_S64x1x8_S16x32

/-- A block's row is a row of the logits. -/
theorem rows_at (x : FVec Ideal S16x32x100000 .f32) (t : Fin 64) (r : Fin 8) (b : Fin 16) (s : Fin 32)
    (h : 8 * t.val + r.val = 32 * b.val + s.val) (j : Fin 100000) :
    ConfCall.rowsAt (F := Ideal) (shapeCast S512x100000 x shapeCasts_S16x32x100000_S512x100000) t (Idealize.ShloMosaic.ix2 r j) = x (ix3 b s j) := by
  have hb := b.isLt
  have hs := s.isLt
  unfold ConfCall.rowsAt
  pointwise
  refine congrArg x (funext fun a => Fin.ext ?_)
  match a with
  | ⟨0, _⟩ => show (8 * t.val + r.val) / 32 = b.val; omega
  | ⟨1, _⟩ => show (8 * t.val + r.val) % 32 = s.val; omega
  | ⟨2, _⟩ => rfl

theorem kconf_at (x : FVec Ideal S16x32x100000 .f32) (b : Fin 16) (s : Fin 32) : kconf x (Idealize.ShloMosaic.ix2 b s) = conf (row x b s) := by
  have hb := b.isLt
  have hs := s.isLt
  unfold kconf
  pointwise
  rw [ConfCall.arr_at, pay_conf]
  refine (congrArg conf (funext fun j => ?_))
  unfold row
  split
  · rfl
  · refine rows_at x _ _ b s (by show 8 * (b.val * 4 + s.val / 8) + s.val % 8 = _; omega) j

/-- **The confidences agree.** -/
theorem kconf_eq (x : FVec Ideal S16x32x100000 .f32) (hx : ∀ i, x i ≠ ⊤) (hx' : ∀ i, x i ≠ ⊥) :
    kconf x = Cert.ReferenceIdeal.Run.confidences x := by
  funext i
  rw [show i = Idealize.ShloMosaic.ix2 (⟨(i 0).val, (i 0).isLt⟩ : Fin 16) (⟨(i 1).val, (i 1).isLt⟩ : Fin 32) from
    funext fun a => match a with | ⟨0, _⟩ => rfl | ⟨1, _⟩ => rfl]
  exact (kconf_at x _ _).trans (confidences_at x hx hx' _ _).symm

end Cert.Value
end
-- ==== Proof.Value.Threshold.lean ====
/-
  The fourth largest of a row of extended reals: by taking the largest away three times, and by a sort.
-/
module

public import proofs.«01_k».proof.Proof.Value.Conf

@[expose] public section

set_option maxRecDepth 16384

noncomputable section

namespace Cert.Value

open Idealize.ShloMosaic

variable {n : Nat}

/-- How many entries are at least `v`. -/
def many (w : Fin n → EReal) (v : EReal) : ℕ := (Finset.univ.filter (fun j => v ≤ w j)).card

/-- The largest entry is at least `v` when some entry is. -/
theorem le_top_many (w : Fin n → EReal) (v : EReal) (hv : v ≠ ⊥) : v ≤ top w ↔ 1 ≤ many w v := by
  rw [le_top_iff, many, Nat.one_le_iff_ne_zero, Finset.card_ne_zero, Finset.filter_nonempty_iff]
  constructor
  · rintro (h | ⟨j, hj⟩)
    · exact absurd h hv
    · exact ⟨j, Finset.mem_univ _, hj⟩
  · rintro ⟨j, _, hj⟩
    exact Or.inr ⟨j, hj⟩

/-- With one of the largest entries taken away, one entry fewer is at least `v`. -/
theorem many_erase (w w' : Fin n → EReal) (k : Fin n) (hk : w k = top w) (h : ∀ j, w' j = if j = k then ⊥ else w j) (v : EReal) (hv : v ≠ ⊥) :
    many w' v = many w v - 1 := by
  have e : Finset.univ.filter (fun j => v ≤ w' j) = (Finset.univ.filter (fun j => v ≤ w j)).erase k := by
    ext j
    rw [Finset.mem_filter, Finset.mem_erase, Finset.mem_filter, h j]
    by_cases hj : j = k
    · rw [if_pos hj]
      exact ⟨fun q => absurd (_root_.le_bot_iff.1 q.2) hv, fun q => absurd hj q.1⟩
    · rw [if_neg hj]
      exact ⟨fun q => ⟨hj, q⟩, fun q => q.2⟩
  unfold many
  rw [e]
  by_cases hm : k ∈ Finset.univ.filter (fun j => v ≤ w j)
  · exact Finset.card_erase_of_mem hm
  · have hz : Finset.univ.filter (fun j => v ≤ w j) = ∅ := Finset.filter_eq_empty_iff.2 fun j _ hj =>
      hm (Finset.mem_filter.2 ⟨Finset.mem_univ _, hk ▸ hj.trans (le_top w j)⟩)
    rw [hz]
    rfl

/-- Sorted downwards, the entry at place `k` is at least `v` when more than `k` entries are. -/
theorem sorted_many (w : Fin n → EReal) (p : Fin n → Fin n) (hp : Function.Injective p) (hp' : Function.Surjective p)
    (hs : ∀ i j, i < j → w (p j) ≤ w (p i)) (k : Fin n) (v : EReal) : v ≤ w (p k) ↔ k.val + 1 ≤ many w v := by
  have e : many w v = (Finset.univ.filter (fun i => v ≤ w (p i))).card := by
    unfold many
    rw [← Finset.card_image_of_injective (Finset.univ.filter (fun i => v ≤ w (p i))) hp]
    congr 1
    ext j
    rw [Finset.mem_filter, Finset.mem_image]
    constructor
    · rintro ⟨-, hj⟩
      obtain ⟨i, rfl⟩ := hp' j
      exact ⟨i, Finset.mem_filter.2 ⟨Finset.mem_univ _, hj⟩, rfl⟩
    · rintro ⟨i, hi, rfl⟩
      exact ⟨Finset.mem_univ _, (Finset.mem_filter.1 hi).2⟩
  rw [e]
  constructor
  · intro h
    have hsub : Finset.Iic k ⊆ Finset.univ.filter (fun i => v ≤ w (p i)) := fun i hi =>
      Finset.mem_filter.2 ⟨Finset.mem_univ _, (Finset.mem_Iic.1 hi).eq_or_lt.elim (fun q => q ▸ h) fun q => h.trans (hs i k q)⟩
    have := Finset.card_le_card hsub
    rwa [Fin.card_Iic] at this
  · intro h
    by_contra hn
    have hsub : Finset.univ.filter (fun i => v ≤ w (p i)) ⊆ Finset.Iio k := fun i hi => by
      rw [Finset.mem_Iio]
      by_contra hki
      have hv := (Finset.mem_filter.1 hi).2
      rcases (not_lt.1 hki).eq_or_lt with q | q
      · exact hn (q ▸ hv)
      · exact hn (hv.trans (hs k i q))
    have := Finset.card_le_card hsub
    rw [Fin.card_Iio] at this
    omega

/-- Two numbers that as many numbers are below are equal. -/
theorem eq_of_below (t t' : EReal) (h : ∀ v, v ≠ ⊥ → (v ≤ t ↔ v ≤ t')) : t = t' := by
  apply le_antisymm
  · by_cases ht : t = ⊥
    · rw [ht]; exact bot_le
    · exact (h t ht).1 (le_refl _)
  · by_cases ht : t' = ⊥
    · rw [ht]; exact bot_le
    · exact (h t' ht).2 (le_refl _)

end Cert.Value
end
-- ==== Proof.Value.FirstHit.lean ====
/-
  The least index word among those that meet a condition.
-/
module

public import Idealize.ShloMosaic.PureOps.Ideal
public import Idealize.ShloMosaic.PureOps.Reduce

@[expose] public section

set_option maxRecDepth 16384

noncomputable section

namespace Cert.Value

open Idealize.ShloMosaic

/-- A smaller word of two, read as numbers. -/
theorem toInt_minsi (x y : BitVec 32) : (IntOp.minsi x y).toInt = min x.toInt y.toInt := by
  unfold IntOp.minsi
  by_cases h : x.slt y
  · rw [if_pos h]; have := BitVec.slt_iff_toInt_lt.1 h; omega
  · rw [if_neg h]
    have : ¬ x.toInt < y.toInt := fun q => h (BitVec.slt_iff_toInt_lt.2 q)
    omega

/-- The least of some words is one of them, or the word started from; -/
theorem fold_min_mem {ι : Type} (s : Finset ι) (init : BitVec 32) (g : ι → BitVec 32) :
    s.fold IntOp.minsi init g = init ∨ ∃ k ∈ s, s.fold IntOp.minsi init g = g k := by
  classical
  induction s using Finset.induction_on with
  | empty => exact Or.inl rfl
  | insert a s ha ih =>
    rw [Finset.fold_insert ha]
    have hm : IntOp.minsi (g a) (s.fold IntOp.minsi init g) = g a ∨ IntOp.minsi (g a) (s.fold IntOp.minsi init g) = s.fold IntOp.minsi init g := by
      unfold IntOp.minsi
      split
      · exact Or.inl rfl
      · exact Or.inr rfl
    rcases hm with h | h
    · exact Or.inr ⟨a, Finset.mem_insert_self _ _, h⟩
    · rw [h]
      rcases ih with q | ⟨k, hk, q⟩
      · exact Or.inl q
      · exact Or.inr ⟨k, Finset.mem_insert_of_mem hk, q⟩

/-- and it is at most each of them. -/
theorem fold_min_le {ι : Type} (s : Finset ι) (init : BitVec 32) (g : ι → BitVec 32) (k : ι) (hk : k ∈ s) :
    (s.fold IntOp.minsi init g).toInt ≤ (g k).toInt := by
  classical
  induction s using Finset.induction_on with
  | empty => exact absurd hk (Finset.notMem_empty _)
  | insert a s ha ih =>
    rw [Finset.fold_insert ha, toInt_minsi]
    rcases Finset.mem_insert.1 hk with rfl | h
    · exact min_le_left _ _
    · exact (min_le_right _ _).trans (ih h)

/-- **The least index word** among those that meet a condition is the word of the least such index. -/
theorem first_hit {ι : Type} [Fintype ι] (P : ι → Prop) [DecidablePred P] (idx : ι → ℕ) (M : ℕ) (hM : M < 2 ^ 31 - 1)
    (hidx : ∀ k, idx k < M) (hP : ∃ k, P k) :
    ∃ k, P k ∧ (Finset.univ.fold IntOp.minsi (2147483647#32) fun k => if P k then BitVec.ofNat 32 (idx k) else BitVec.ofNat 32 M) = BitVec.ofNat 32 (idx k)
      ∧ ∀ k', P k' → idx k ≤ idx k' := by
  obtain ⟨k₀, hk₀⟩ := hP
  have hint : ∀ m : ℕ, m < 2 ^ 31 → (BitVec.ofNat 32 m).toInt = m := fun m hm => by
    rw [BitVec.toInt_eq_toNat_cond, BitVec.toNat_ofNat, Nat.mod_eq_of_lt (by omega), if_pos (by omega)]
  have hle := fun k' => fold_min_le Finset.univ (2147483647#32) (fun k => if P k then BitVec.ofNat 32 (idx k) else BitVec.ofNat 32 M) k' (Finset.mem_univ _)
  have h0 := hle k₀
  try dsimp only at h0
  rw [if_pos hk₀, hint _ (by have := hidx k₀; omega)] at h0
  have hk0 := hidx k₀
  rcases fold_min_mem Finset.univ (2147483647#32) (fun k => if P k then BitVec.ofNat 32 (idx k) else BitVec.ofNat 32 M) with q | ⟨k, -, q⟩
  · rw [q, show (2147483647#32 : BitVec 32).toInt = 2147483647 from by decide] at h0
    omega
  · try dsimp only at q
    by_cases hk : P k
    · rw [if_pos hk] at q
      refine ⟨k, hk, q, fun k' hk' => ?_⟩
      have h := hle k'
      try dsimp only at h
      rw [q, if_pos hk', hint _ (by have := hidx k; omega), hint _ (by have := hidx k'; omega)] at h
      omega
    · rw [if_neg hk] at q
      rw [q, hint _ (by omega)] at h0
      omega

end Cert.Value
end
-- ==== Proof.Value.Round.lean ====
/-
  One round of the selection kernel: the first of a row's largest entries put to minus infinity.
-/
module

public import proofs.«01_k».proof.Proof.Value.Threshold
public import proofs.«01_k».proof.Proof.Value.FirstHit
public import proofs.«01_k».proof.Proof.KernelIdeal.FinalSelect
public import Idealize.ShloMosaic.Lib.Pointwise

@[expose] public section

set_option maxRecDepth 16384

noncomputable section

namespace Cert.Value

open Idealize.ShloMosaic Cert.KernelIdeal Cert.KernelIdeal.Gen

/-- The first of each row's largest entries, -/
def firstOf (w : FVec Ideal S16x32 .f32) : IVec S16x32 1 :=
  cmpi .eq (iota .tc S16x32 32 [1] iota_S16x32_d1_w32) (broadcastTo S16x32 (shapeCast S16x1 (multiReductionI .minsi [1] S16
    (select (cmpf .oeq w (broadcastTo S16x32 (shapeCast S16x1 (multiReduction .maximumf [1] S16 w 0xFF800000#32 reduces_S16x32_S16 (.inl rfl) rfl)
      shapeCasts_S16_S16x1) broadcasts_S16x1_S16x32)) (iota .tc S16x32 32 [1] iota_S16x32_d1_w32) (broadcast S16x32 32#32))
    2147483647#32 reduces_S16x32_S16 rfl) shapeCasts_S16_S16x1) broadcasts_S16x1_S16x32)

/-- and the rows without them. -/
def lessOf (w : FVec Ideal S16x32 .f32) : FVec Ideal S16x32 .f32 :=
  select (firstOf w) (broadcast S16x32 (Scalar.ofBits .f32 0xFF800000#32 : Ideal .f32)) w

theorem pay4_eq (x : Vec Ideal S16x32 .f32) (y : Vec Ideal S16x32 .i32) : k1_pay4 (F := Ideal) x y = lessOf (lessOf (k1_pay3 x y)) := rfl
theorem pay5_eq (x : Vec Ideal S16x32 .f32) (y : Vec Ideal S16x32 .i32) : k1_pay5 (F := Ideal) x y = firstOf (k1_pay4 x y) := rfl

/-- A row of the matrix. -/
def line (w : FVec Ideal S16x32 .f32) (b : Fin 16) : Fin 32 → EReal := fun j => w (Idealize.ShloMosaic.ix2 b j)

/-- The place marked in a row is one of the row's largest. -/
theorem first_at (w : FVec Ideal S16x32 .f32) (b : Fin 16) : ∃ k : Fin 32, line w b k = top (line w b)
    ∧ ∀ j : Fin 32, firstOf w (Idealize.ShloMosaic.ix2 b j) = if j = k then 1#1 else 0#1 := by
  obtain ⟨j₀, hj₀⟩ := exists_top (line w b) 0
  obtain ⟨k, hk, hf, -⟩ := first_hit (fun k : Fin 32 => line w b k = top (line w b)) (fun k => k.val) 32 (by norm_num) (fun k => k.isLt) ⟨j₀, hj₀.symm⟩
  refine ⟨k, hk, fun j => ?_⟩
  pointwise [firstOf]
  rw [ofBits_bot]
  refine (congrArg (IntOp.cmpi CmpIPredicate.eq (BitVec.ofNat 32 j.val)) hf).trans ?_
  have hj := j.isLt
  have hk := k.isLt
  by_cases h : j = k
  · rw [if_pos h, h]
    show BitVec.ofBool (BitVec.ofNat 32 k.val == BitVec.ofNat 32 k.val) = 1#1
    rw [beq_self_eq_true]; rfl
  · rw [if_neg h]
    show BitVec.ofBool (BitVec.ofNat 32 j.val == BitVec.ofNat 32 k.val) = 0#1
    rw [beq_eq_false_iff_ne.2 (fun e => h (Fin.ext (by
      have := congrArg BitVec.toNat e
      rw [BitVec.toNat_ofNat, BitVec.toNat_ofNat] at this
      omega)))]
    rfl

/-- One entry fewer is at least `v` after a round. -/
theorem many_less (w : FVec Ideal S16x32 .f32) (b : Fin 16) (v : EReal) (hv : v ≠ ⊥) : many (line (lessOf w) b) v = many (line w b) v - 1 := by
  obtain ⟨k, hk, hf⟩ := first_at w b
  refine many_erase (line w b) (line (lessOf w) b) k hk (fun j => ?_) v hv
  show Scalar.select (firstOf w (Idealize.ShloMosaic.ix2 b j)) (Ideal.ofBits .f32 0xFF800000#32) (line w b j) = _
  rw [hf j, ofBits_bot]
  by_cases h : j = k
  · rw [if_pos h, if_pos h]; rfl
  · rw [if_neg h, if_neg h]; rfl

/-- The kernel's threshold in a row: the largest entry after three rounds. -/
theorem kernel_fourth (w : FVec Ideal S16x32 .f32) (b : Fin 16) (v : EReal) (hv : v ≠ ⊥) :
    v ≤ top (line (lessOf (lessOf (lessOf w))) b) ↔ 4 ≤ many (line w b) v := by
  rw [le_top_many _ _ hv, many_less _ _ _ hv, many_less _ _ _ hv, many_less _ _ _ hv]
  omega

/-- A position as a bit, read at an entry. -/
theorem bit_at (x : Vec Ideal S16x32 .f32) (y : Vec Ideal S16x32 .i32) (b : Fin 16) (j : Fin 32) :
    SelectCall.bit (F := Ideal) x y (Idealize.ShloMosaic.ix2 b j) = IntOp.andi (k1_pay2 (F := Ideal) y (Idealize.ShloMosaic.ix2 b j))
      (FloatOps.cmpf (F := Ideal) (φ := .f32) .oge (line (k1_pay3 x y) b j) (top (line (lessOf (lessOf (lessOf (k1_pay3 x y)))) b))) := by
  unfold SelectCall.bit
  rw [pay5_eq, pay4_eq]
  change IntOp.andi _ (FloatOps.cmpf .oge _ (broadcastTo S16x32 (shapeCast S16x1 (multiReduction .maximumf [1] S16
      (lessOf (lessOf (lessOf (k1_pay3 (F := Ideal) x y)))) 0xFF800000#32 reduces_S16x32_S16 (.inl rfl) rfl) shapeCasts_S16_S16x1) broadcasts_S16x1_S16x32
      (Idealize.ShloMosaic.ix2 b j))) = _
  refine congrArg (fun t => IntOp.andi (k1_pay2 (F := Ideal) y (Idealize.ShloMosaic.ix2 b j)) (FloatOps.cmpf (F := Ideal) (φ := .f32) .oge (line (k1_pay3 x y) b j) t)) ?_
  generalize lessOf (lessOf (lessOf (k1_pay3 (F := Ideal) x y))) = w
  pointwise
  rw [ofBits_bot]
  rfl

end Cert.Value
end
-- ==== Proof.Value.RefFourth.lean ====
/-
  The reference's threshold in a row: the fourth of the four largest.
-/
module

public import proofs.«01_k».proof.Proof.Value.Threshold
public import proofs.«01_k».proof.Proof.Reference.Results
public import Idealize.ShloMosaic.Lib.Pointwise
public import Idealize.ShloMosaic.Lib.SortFacts

@[expose] public section

set_option maxRecDepth 16384

noncomputable section

namespace Cert.Value

open Idealize.ShloMosaic Cert.ReferenceIdeal Cert.ReferenceIdeal.Gen Cert.ReferenceIdeal.Run

/-- Whether an entry of a row is greater than another. -/
def above {n : Nat} (w : Fin n → EReal) (k k' : Fin n) : Bool := FloatOps.cmpfTotal (F := Ideal) (φ := .f32) .gt (w k) (w k') == 1#1

theorem above_iff {n : Nat} (w : Fin n → EReal) (k k' : Fin n) : above w k k' = true ↔ w k' < w k := by
  unfold above
  show (BitVec.ofBool (decide (w k' < w k)) == 1#1) = true ↔ _
  by_cases h : w k' < w k
  · simp [h]
  · simp [h]

/-- A sort of the rows of a matrix that carries a second one, read at an entry. -/
theorem sort2_fst {α β : Type} (cmp : α × β → α × β → BitVec 1) (x : S16x32.Idx → α) (y : S16x32.Idx → β) (j : S16x32.Idx) :
    (Host.sort2 S16x32 1 cmp x y).1 j
      = x (j.along 1 (sortedFrom (fun k k' => cmp (x (j.along 1 k), y (j.along 1 k)) (x (j.along 1 k'), y (j.along 1 k')) == 1#1) (j 1))) := by
  unfold Host.sort2
  rw [dif_pos (show 1 < S16x32.rank by decide)]
  rfl

/-- A leading slice of the rows, read in its last column. -/
theorem slice_at {α : Type} (X : S16x32.Idx → α) (h : S16x32.Slices (fun _ => 0) S16x4) (b : Fin 16) :
    extractStridedSlice S16x4 (fun _ => 0) X h (ix2 b (3 : Fin 4)) = X (ix2 b (3 : Fin 32)) := by
  unfold extractStridedSlice
  refine congrArg X (funext fun a => Fin.ext ?_)
  match a with
  | ⟨0, _⟩ => exact Nat.zero_add _
  | ⟨1, _⟩ => exact Nat.zero_add _

/-- The fourth of the four largest of a row. -/
theorem topK_at (w : FVec Ideal S16x32 .f32) (b : Fin 16) :
    (Host.topK S16x4 1 (FloatOps.cmpfTotal .gt) w sliceFits_S16x32_S16x4).1 (ix2 b (3 : Fin 4))
      = w (ix2 b (sortedFrom (above fun j => w (ix2 b j)) 3)) := by
  have hal : ∀ (x : S16x32.Idx) (hx : x 0 = b) (k : Fin 32), x.along 1 k = ix2 b k := fun x hx k => funext fun a => by
    match a with
    | ⟨0, _⟩ => exact hx
    | ⟨1, _⟩ => rfl
  refine (slice_at (Host.sort2 S16x32 1 (fun l r => FloatOps.cmpfTotal (F := Ideal) (φ := .f32) .gt l.1 r.1) w
    (fun i => if hd : 1 < S16x32.rank then iotaInDim S16x32 32 ⟨1, hd⟩ i else 0#32)).1 sliceFits_S16x32_S16x4 b).trans ?_
  rw [sort2_fst]
  refine (congrArg w (hal (ix2 b (3 : Fin 32)) rfl _)).trans ?_
  refine congrArg (fun z => w (ix2 b z)) (congrFun (congrArg (sortedFrom (n := 32)) (funext fun k => funext fun k' => ?_)) 3)
  exact congrArg₂ (fun x y => FloatOps.cmpfTotal (F := Ideal) (φ := .f32) .gt (w x) (w y) == 1#1) (hal (ix2 b (3 : Fin 32)) rfl k) (hal (ix2 b (3 : Fin 32)) rfl k')

theorem sorted_above {n : Nat} (w : Fin n → EReal) (i j : Fin n) (h : i < j) : w (sortedFrom (above w) j) ≤ w (sortedFrom (above w) i) := by
  have := sortedFrom_noInversion (above w) (above w)
    (fun a b q => by rw [Bool.eq_false_iff]; intro q'; exact lt_asymm ((above_iff w a b).1 q) ((above_iff w b a).1 q'))
    (fun a b q => q) (fun a b c q q' => by
      rw [Bool.eq_false_iff] at *
      intro r
      have r' := (above_iff w a c).1 r
      have q1 : ¬ w b < w a := fun z => q ((above_iff w a b).2 z)
      have q2 : ¬ w c < w b := fun z => q' ((above_iff w b c).2 z)
      exact q1 (lt_of_le_of_lt (not_lt.1 q2) r')) i j h
  rw [Bool.eq_false_iff] at this
  exact not_lt.1 fun z => this ((above_iff w _ _).2 z)

theorem ref_fourth (w : FVec Ideal S16x32 .f32) (b : Fin 16) (v : EReal) :
    v ≤ (Host.topK S16x4 1 (FloatOps.cmpfTotal .gt) w sliceFits_S16x32_S16x4).1 (ix2 b (3 : Fin 4)) ↔ 4 ≤ many (fun j => w (ix2 b j)) v := by
  rw [topK_at]
  exact sorted_many (fun j => w (ix2 b j)) (sortedFrom (above fun j => w (ix2 b j))) (sortedFrom_injective _) (sortedFrom_surjective _)
    (fun i j h => sorted_above (fun j => w (ix2 b j)) i j h) 3 v

/-- The positions kept, read at an entry. -/
theorem pick_at (t : IVec S16x32 32) (q : FVec Ideal S16x32 .f32) (b : Fin 16) (j : Fin 32) :
    pickOf t q (ix2 b j) = IntOp.andi (heldOf t (ix2 b j)) (FloatOps.cmpf (F := Ideal) (φ := .f32) .oge (heldConfOf t q (ix2 b j))
      ((Host.topK S16x4 1 (FloatOps.cmpfTotal .gt) (heldConfOf t q) sliceFits_S16x32_S16x4).1 (ix2 b (3 : Fin 4)))) := by
  unfold pickOf
  generalize (Host.topK S16x4 1 (FloatOps.cmpfTotal .gt) (heldConfOf t q) sliceFits_S16x32_S16x4).1 = T
  generalize heldConfOf t q = w
  generalize heldOf t = h
  refine congrArg (fun z => IntOp.andi (h (ix2 b j)) (FloatOps.cmpf (F := Ideal) (φ := .f32) .oge (w (ix2 b j)) z)) ?_
  pointwise

end Cert.Value
end
-- ==== Proof.Value.SelectEq.lean ====
/-
  The positions that the selection kernel keeps are the reference's.
-/
module

public import proofs.«01_k».proof.Proof.Value.Round
public import proofs.«01_k».proof.Proof.Value.RefFourth

@[expose] public section

set_option maxRecDepth 16384

noncomputable section

namespace Cert.Value

open Idealize.ShloMosaic

/-- Which positions hold the mask token, in both programs; -/
theorem held_eq (y : IVec Cert.KernelIdeal.S16x32 32) :
    Cert.KernelIdeal.Gen.k1_pay2 (F := Ideal) y = Cert.ReferenceIdeal.Run.heldOf y := by
  unfold Cert.KernelIdeal.Gen.k1_pay2 Cert.ReferenceIdeal.Run.heldOf
  simp only [shapeCast_id]
  rfl

/-- the confidences there, in both. -/
theorem heldConf_eq (x : FVec Ideal Cert.KernelIdeal.S16x32 .f32) (y : IVec Cert.KernelIdeal.S16x32 32) :
    Cert.KernelIdeal.Gen.k1_pay3 (F := Ideal) x y = Cert.ReferenceIdeal.Run.heldConfOf (F := Ideal) y x := by
  unfold Cert.KernelIdeal.Gen.k1_pay3 Cert.ReferenceIdeal.Run.heldConfOf
  simp only [shapeCast_id]
  rw [held_eq]
  rfl

/-- **The positions kept agree.** -/
theorem bit_eq (x : FVec Ideal Cert.KernelIdeal.S16x32 .f32) (y : IVec Cert.KernelIdeal.S16x32 32) (b : Fin 16) (j : Fin 32) :
    Cert.KernelIdeal.SelectCall.bit (F := Ideal) x y (ix2 b j) = Cert.ReferenceIdeal.Run.pickOf (F := Ideal) y x (ix2 b j) := by
  rw [bit_at, pick_at, held_eq, heldConf_eq]
  refine congrArg (fun t => IntOp.andi (Cert.ReferenceIdeal.Run.heldOf y (ix2 b j))
    (FloatOps.cmpf (F := Ideal) (φ := .f32) .oge (Cert.ReferenceIdeal.Run.heldConfOf (F := Ideal) y x (ix2 b j)) t)) ?_
  exact eq_of_below _ _ fun v hv => (kernel_fourth _ b v hv).trans (ref_fourth _ b v).symm

end Cert.Value
end
-- ==== Proof.Value.ArgFirst.lean ====
/-
  The place of a row's largest entry, as the reference finds it: the first of several.
-/
module

public import proofs.«01_k».proof.Proof.Reference.Results
public import Idealize.ShloMosaic.PureOps.Ideal.Laws
public import Idealize.ShloMosaic.Lib.Pointwise

@[expose] public section

set_option maxRecDepth 16384

noncomputable section

namespace Cert.Value

open Idealize.ShloMosaic
open Cert.ReferenceIdeal Cert.ReferenceIdeal.Gen Cert.ReferenceIdeal.Run

/-- An entry with its place. -/
abbrev Entry : Type := Ideal .f32 × BitVec 32

/-- `r` is larger than `p`, or as large and not behind it. -/
def Ahead (r p : Entry) : Prop := (p.1 : EReal) < r.1 ∨ ((p.1 : EReal) = r.1 ∧ r.2.toInt ≤ p.2.toInt)

theorem Ahead.refl (r : Entry) : Ahead r r := .inr ⟨rfl, le_refl _⟩

theorem Ahead.trans {r p q : Entry} (h : Ahead r p) (h' : Ahead p q) : Ahead r q := by
  rcases h with h | ⟨h, k⟩ <;> rcases h' with h' | ⟨h', k'⟩
  · exact .inl (h'.trans h)
  · exact .inl (h' ▸ h)
  · exact .inl (h ▸ h')
  · exact .inr ⟨h'.trans h, k.trans k'⟩

theorem reducer_eq (a b : Entry) : reducer_argmax_f32_i32 (F := Ideal) a b
      = if (b.1 : EReal) < a.1 ∨ ((a.1 : EReal) = b.1 ∧ a.2.toInt < b.2.toInt) then a else b := by
  obtain ⟨a1, a2⟩ := a
  obtain ⟨b1, b2⟩ := b
  have hs : IntOp.cmpi .slt a2 b2 = if a2.toInt < b2.toInt then 1#1 else 0#1 := by
    simp only [IntOp.cmpi, BitVec.slt]
    by_cases h : a2.toInt < b2.toInt <;> simp [h]
  unfold reducer_argmax_f32_i32
  dsimp only
  rw [hs]
  rcases lt_trichotomy (a1 : EReal) b1 with h | h | h
  · have h1 : ¬ (b1 : EReal) < a1 := not_lt.2 h.le
    have h2 : ¬ (a1 : EReal) = b1 := h.ne
    simp [Ideal.cmpf_def, Ideal.cmp, h1, h2, Scalar.select, IntOp.ori, IntOp.andi]
  · subst h
    by_cases h3 : a2.toInt < b2.toInt <;>
      simp [Ideal.cmpf_def, Ideal.cmp, h3, Scalar.select, IntOp.ori, IntOp.andi]
  · have h2 : ¬ (a1 : EReal) = b1 := h.ne'
    simp [Ideal.cmpf_def, Ideal.cmp, h, h2, Scalar.select, IntOp.ori, IntOp.andi]

theorem step (a b : Entry) : (reducer_argmax_f32_i32 (F := Ideal) a b = a ∨ reducer_argmax_f32_i32 (F := Ideal) a b = b)
    ∧ Ahead (reducer_argmax_f32_i32 (F := Ideal) a b) a ∧ Ahead (reducer_argmax_f32_i32 (F := Ideal) a b) b := by
  rw [reducer_eq]
  split_ifs with h
  · refine ⟨.inl rfl, Ahead.refl _, ?_⟩
    rcases h with h | ⟨h, k⟩
    · exact .inl h
    · exact .inr ⟨h.symm, k.le⟩
  · refine ⟨.inr rfl, ?_, Ahead.refl _⟩
    rcases not_or.1 h with ⟨h1, h2⟩
    rcases (not_lt.1 h1).lt_or_eq with h3 | h3
    · exact .inl h3
    · exact .inr ⟨h3, not_lt.1 fun k => h2 ⟨h3, k⟩⟩

/-- The fold of a list stays in it, and ahead of all of it. -/
theorem fold_ahead (L : List Entry) : ∀ a : Entry, (L.foldl (reducer_argmax_f32_i32 (F := Ideal)) a) ∈ a :: L
    ∧ ∀ p ∈ a :: L, Ahead (L.foldl (reducer_argmax_f32_i32 (F := Ideal)) a) p := by
  induction L with
  | nil => exact fun a => ⟨List.mem_singleton.2 rfl, fun p hp => by rw [List.mem_singleton.1 hp]; exact Ahead.refl _⟩
  | cons b L ih =>
    intro a
    obtain ⟨hm, hA⟩ := ih (reducer_argmax_f32_i32 (F := Ideal) a b)
    obtain ⟨hs, ha, hb⟩ := step a b
    refine ⟨?_, fun p hp => ?_⟩
    · rw [List.foldl_cons]
      rcases List.mem_cons.1 hm with h | h
      · rw [h]; rcases hs with h | h <;> rw [h] <;> simp
      · exact List.mem_cons_of_mem _ (List.mem_cons_of_mem _ h)
    · rw [List.foldl_cons]
      have h0 := hA _ (List.mem_cons_self ..)
      rcases List.mem_cons.1 hp with rfl | hp
      · exact h0.trans ha
      · rcases List.mem_cons.1 hp with rfl | hp
        · exact h0.trans hb
        · exact hA p (List.mem_cons_of_mem _ hp)

/-- The entries of a row, read in the list that the reduction folds over. -/
theorem mem_fiber {N : ℕ} (x : FVec Ideal ⟨3, ![16, 32, N]⟩ .f32) (y : IVec ⟨3, ![16, 32, N]⟩ 32)
    (h : Shape.ReducesTo ⟨3, ![16, 32, N]⟩ [2] ⟨2, ![16, 32]⟩) (b : Fin 16) (s : Fin 32) (p : Entry) :
    p ∈ Host.argReduceFiber x y h (ix2 b s) ↔ ∃ j : Fin N, p = (x (ix3 b s j), y (ix3 b s j)) := by
  unfold Host.argReduceFiber
  simp only [List.mem_map, List.mem_filter, List.mem_finRange, true_and, decide_eq_true_eq]
  constructor
  · rintro ⟨n, hn, rfl⟩
    generalize (Shape.rowMajor _).symm n = i at hn ⊢
    have h0 : (h.drop i 0 : Nat) = i 0 := Shape.ReducesTo.drop_apply_val h i 0
    have h1 : (h.drop i 1 : Nat) = i 1 := Shape.ReducesTo.drop_apply_val h i 1
    rw [hn] at h0 h1
    refine ⟨i 2, ?_⟩
    have e : i = ix3 b s (i 2) := by
      funext a
      match a with
      | ⟨0, _⟩ => exact Fin.ext h0.symm
      | ⟨1, _⟩ => exact Fin.ext h1.symm
      | ⟨2, _⟩ => rfl
    exact congrArg (fun z => (x z, y z)) e
  · rintro ⟨j, rfl⟩
    refine ⟨Shape.rowMajor _ (ix3 b s j), ?_, by rw [Equiv.symm_apply_apply]⟩
    rw [Equiv.symm_apply_apply]
    funext a
    match a with
    | ⟨0, _⟩ => exact Fin.ext (Shape.ReducesTo.drop_apply_val h (ix3 b s j) 0)
    | ⟨1, _⟩ => exact Fin.ext (Shape.ReducesTo.drop_apply_val h (ix3 b s j) 1)

theorem toInt_ofNat (n : ℕ) (h : n < 100000) : (BitVec.ofNat 32 n).toInt = n := by
  rw [BitVec.toInt_eq_toNat_cond, BitVec.toNat_ofNat, Nat.mod_eq_of_lt (by omega), if_pos (by omega)]

/-- A fold over a row, from minus infinity and the first place, of any row of at most 100000 entries. -/
theorem fold_row {N : ℕ} (h0 : 0 < N) (hN : N ≤ 100000) (x : FVec Ideal ⟨3, ![16, 32, N]⟩ .f32) (y : IVec ⟨3, ![16, 32, N]⟩ 32)
    (hy : ∀ b s j, y (ix3 b s j) = BitVec.ofNat 32 j.val) (h : Shape.ReducesTo ⟨3, ![16, 32, N]⟩ [2] ⟨2, ![16, 32]⟩) (b : Fin 16) (s : Fin 32) :
    ∃ j : Fin N, ((Host.argReduceFiber x y h (ix2 b s)).foldl (reducer_argmax_f32_i32 (F := Ideal)) ((⊥ : EReal), 0#32)).2 = BitVec.ofNat 32 j.val
      ∧ (∀ j', (x (ix3 b s j') : EReal) ≤ x (ix3 b s j))
      ∧ ∀ j', (x (ix3 b s j') : EReal) = x (ix3 b s j) → j.val ≤ j'.val := by
  obtain ⟨hm, hA⟩ := fold_ahead (Host.argReduceFiber x y h (ix2 b s)) ((⊥ : EReal), 0#32)
  generalize (Host.argReduceFiber x y h (ix2 b s)).foldl (reducer_argmax_f32_i32 (F := Ideal)) ((⊥ : EReal), 0#32) = r at hm hA
  have hall : ∀ j : Fin N, Ahead r (x (ix3 b s j), BitVec.ofNat 32 j.val) := fun j =>
    hA _ (List.mem_cons_of_mem _ ((mem_fiber x y h b s _).2 ⟨j, by rw [hy]⟩))
  rcases List.mem_cons.1 hm with rfl | hm
  · have hbot : ∀ j : Fin N, (x (ix3 b s j) : EReal) = ⊥ := fun j => by
      rcases hall j with h | ⟨h, _⟩
      · exact absurd h not_lt_bot
      · exact h
    exact ⟨⟨0, h0⟩, rfl, fun j' => by rw [hbot, hbot], fun j' _ => Nat.zero_le _⟩
  · obtain ⟨j, rfl⟩ := (mem_fiber x y h b s _).1 hm
    refine ⟨j, hy b s j, fun j' => ?_, fun j' e => ?_⟩
    · rcases hall j' with h | ⟨h, _⟩
      · exact le_of_lt h
      · exact le_of_eq h
    · rcases hall j' with h | ⟨_, h⟩
      · exact absurd e (ne_of_lt h)
      · dsimp only at h
        rw [hy, toInt_ofNat _ (by omega), toInt_ofNat _ (by omega)] at h
        omega

end Cert.Value
-- ==== Proof.Value.FirstPlace.lean ====
/-
  The last lines of the sampling body: the place of the row's largest entry, the first of several.
-/
module

public import proofs.«01_k».proof.Proof.KernelIdeal.SampleBody
public import proofs.«01_k».proof.Proof.Value.Conf
public import proofs.«01_k».proof.Proof.Value.FirstHit
public import Idealize.ShloMosaic.Lib.Pointwise
public import Idealize.ShloMosaic.PureOps.Ideal.Laws

@[expose] public section

set_option maxRecDepth 16384

noncomputable section

namespace Cert.Value

open Idealize.ShloMosaic Cert.KernelIdeal Cert.KernelIdeal.Gen

/-- The least of the words `q` at the places where `z` is largest. -/
def firstPlace (z : FVec Ideal S8x12500 .f32) (q : IVec S8x12500 32) : IVec S1x1x1 32 :=
  shapeCast S1x1x1 (multiReductionI .minsi [1, 2] S1
    (shapeCast S1x8x12500 (select (cmpf .oeq z (broadcast S8x12500 (extractAt ![0, 0, 0]
      (shapeCast S1x1x1 (multiReduction .maximumf [1, 2] S1 (shapeCast S1x8x12500 z shapeCasts_S8x12500_S1x8x12500)
        0xFF800000#32 reduces_S1x8x12500_S1 (.inl rfl) rfl) shapeCasts_S1_S1x1x1) inpos_S1x1x1_p0_0_0))) q
      (broadcast S8x12500 100000#32)) shapeCasts_S8x12500_S1x8x12500)
    2147483647#32 reduces_S1x8x12500_S1 rfl) shapeCasts_S1_S1x1x1

theorem firstPlace_at (z : FVec Ideal S8x12500 .f32) (q : IVec S8x12500 32) :
    extractAt ![0, 0, 0] (firstPlace z q) inpos_S1x1x1_p0_0_0
      = Finset.fold IntOp.minsi (2147483647#32)
          (fun x : Fin 8 × Fin 12500 =>
            if z (Idealize.ShloMosaic.ix2 x.1 x.2) =
                Finset.fold max (Ideal.ofBits FTy.f32 4286578688#32) (fun x : Fin 8 × Fin 12500 => z (Idealize.ShloMosaic.ix2 x.1 x.2)) Finset.univ
            then q (Idealize.ShloMosaic.ix2 x.1 x.2) else 100000#32) Finset.univ := by
  pointwise [firstPlace]

end Cert.Value
-- ==== Proof.Value.Place.lean ====
/-
  The place that the sampling body finds: the first of the row's largest entries.
-/
module

public import proofs.«01_k».proof.Proof.Value.FirstPlace

@[expose] public section

set_option maxRecDepth 16384

noncomputable section

namespace Cert.Value

open Idealize.ShloMosaic
open Cert.KernelIdeal Cert.KernelIdeal.Gen

/-- Of a grid of entries, the least number among the largest. -/
theorem first_grid (z : Fin 8 × Fin 12500 → EReal) :
    ∃ k : Fin 8 × Fin 12500, (Finset.univ.fold IntOp.minsi (2147483647#32) fun x : Fin 8 × Fin 12500 =>
        if z x = Finset.fold max (⊥ : EReal) z Finset.univ then BitVec.ofNat 32 (12500 * x.1.val + x.2.val) else BitVec.ofNat 32 100000)
          = BitVec.ofNat 32 (12500 * k.1.val + k.2.val)
      ∧ (∀ k', z k' ≤ z k) ∧ ∀ k', z k' = z k → 12500 * k.1.val + k.2.val ≤ 12500 * k'.1.val + k'.2.val := by
  have hle : ∀ k, z k ≤ Finset.fold max (⊥ : EReal) z Finset.univ := fun k =>
    (Finset.le_fold_max _).2 (.inr ⟨k, Finset.mem_univ _, le_refl _⟩)
  obtain ⟨k₀, -, hk₀⟩ := Finset.exists_max_image Finset.univ z ⟨((0 : Fin 8), (0 : Fin 12500)), Finset.mem_univ _⟩
  have htop : z k₀ = Finset.fold max (⊥ : EReal) z Finset.univ :=
    le_antisymm (hle k₀) ((Finset.fold_max_le _).2 ⟨bot_le, fun k hk => hk₀ k hk⟩)
  generalize Finset.fold max (⊥ : EReal) z Finset.univ = T at hle htop
  obtain ⟨k, hk, e, hmin⟩ := first_hit (fun k => z k = T) (fun k : Fin 8 × Fin 12500 => 12500 * k.1.val + k.2.val) 100000 (by norm_num)
    (fun k => by have := k.1.isLt; have := k.2.isLt; omega) ⟨k₀, htop⟩
  exact ⟨k, e, fun k' => (hle k').trans_eq hk.symm, fun k' h => hmin k' (h.trans hk)⟩

/-- The body's last lines, of places numbered along the rows. -/
theorem place_at (z : FVec Ideal S8x12500 .f32) (q : IVec S8x12500 32)
    (hq : ∀ (a : Fin 8) (l : Fin 12500), q (Idealize.ShloMosaic.ix2 a l) = BitVec.ofNat 32 (12500 * a.val + l.val)) :
    ∃ k : Fin 8 × Fin 12500, extractAt ![0, 0, 0] (firstPlace z q) inpos_S1x1x1_p0_0_0 = BitVec.ofNat 32 (12500 * k.1.val + k.2.val)
      ∧ (∀ k' : Fin 8 × Fin 12500, (z (Idealize.ShloMosaic.ix2 k'.1 k'.2) : EReal) ≤ z (Idealize.ShloMosaic.ix2 k.1 k.2))
      ∧ ∀ k' : Fin 8 × Fin 12500, (z (Idealize.ShloMosaic.ix2 k'.1 k'.2) : EReal) = z (Idealize.ShloMosaic.ix2 k.1 k.2) →
          12500 * k.1.val + k.2.val ≤ 12500 * k'.1.val + k'.2.val := by
  obtain ⟨k, e, h⟩ := first_grid fun x => z (Idealize.ShloMosaic.ix2 x.1 x.2)
  refine ⟨k, ?_, h⟩
  rw [firstPlace_at, ofBits_bot]
  simp only [hq]
  exact e

end Cert.Value
-- ==== Proof.Value.KernelWords.lean ====
/-
  The random words that the sampling body computes, at each place of the row: the generator's pair for the counter of
  the place.
-/
module

public import proofs.«01_k».proof.Proof.KernelIdeal.SampleBody
public import proofs.«01_k».proof.Proof.Value.Cipher
public import Idealize.ShloMosaic.PureOps.Ideal

@[expose] public section

set_option maxRecDepth 16384

noncomputable section

namespace Cert.Value

open Cert.KernelIdeal Cert.KernelIdeal.Gen Cert.KernelIdeal.SampleCall
open Idealize.ShloMosaic

variable (w : BitVec 32) (a b c d e : IVec S8x12500 32) (i : S8x12500.Idx)

/-- The first part of the body: four turns. -/
theorem part1_at : (k2_pay12 (F := Ideal) w i, k2_pay13 (F := Ideal) w i ^^^ k2_pay12 (F := Ideal) w i) = odd (0#32, k2_pay5 (F := Ideal) w i) := by
  have h1 : (k2_pay6 (F := Ideal) w i, k2_pay7 (F := Ideal) w i) = turn 13#32 19#32 (0#32, k2_pay5 (F := Ideal) w i) := rfl
  have h2 : (k2_pay8 (F := Ideal) w i, k2_pay9 (F := Ideal) w i) = turn 15#32 17#32 (k2_pay6 (F := Ideal) w i, k2_pay7 (F := Ideal) w i) := rfl
  have h3 : (k2_pay10 (F := Ideal) w i, k2_pay11 (F := Ideal) w i) = turn 26#32 6#32 (k2_pay8 (F := Ideal) w i, k2_pay9 (F := Ideal) w i) := rfl
  have h4 : (k2_pay12 (F := Ideal) w i, k2_pay13 (F := Ideal) w i ^^^ k2_pay12 (F := Ideal) w i) = turn 6#32 26#32 (k2_pay10 (F := Ideal) w i, k2_pay11 (F := Ideal) w i) := rfl
  rw [h4, h3, h2, h1]; rfl

/-- The second: the first group's end, the second group, and a turn of the third. -/
theorem part2_at : (k2_pay23 a b i, (k2_pay24 a b i ||| (k2_pay22 a b i >>> 19#32)) ^^^ k2_pay23 a b i)
    = turn 13#32 19#32 (mix third 0#32 2#32 (even (mix 42#32 third 1#32 (a i, b i ^^^ a i)))) := by
  have h1 : (k2_pay15 a b i, k2_pay16 a b i) = turn 17#32 15#32 (mix 42#32 third 1#32 (a i, b i ^^^ a i)) := rfl
  have h2 : (k2_pay17 a b i, k2_pay18 a b i) = turn 29#32 3#32 (k2_pay15 a b i, k2_pay16 a b i) := rfl
  have h3 : (k2_pay19 a b i, k2_pay20 a b i) = turn 16#32 16#32 (k2_pay17 a b i, k2_pay18 a b i) := rfl
  have h4 : (k2_pay23 a b i, (k2_pay24 a b i ||| (k2_pay22 a b i >>> 19#32)) ^^^ k2_pay23 a b i)
    = turn 13#32 19#32 (mix third 0#32 2#32 (turn 24#32 8#32 (k2_pay19 a b i, k2_pay20 a b i))) := rfl
  rw [h4, h3, h2, h1]; rfl

/-- The third: the third group's other turns and its end, and two turns of the fourth. -/
theorem part3_at : (k2_pay34 c d e 19#32 i, k2_pay35 c d e 19#32 i)
    = turn 29#32 3#32 (turn 17#32 15#32 (mix 0#32 42#32 3#32 (turn 6#32 26#32 (turn 26#32 6#32 (turn 15#32 17#32
        (d i, (e i ||| (c i >>> 19#32)) ^^^ d i)))))) := by
  have h1 : (k2_pay26 c d e 19#32 i, k2_pay27 c d e 19#32 i) = turn 15#32 17#32 (d i, (e i ||| (c i >>> 19#32)) ^^^ d i) := rfl
  have h2 : (k2_pay28 c d e 19#32 i, k2_pay29 c d e 19#32 i) = turn 26#32 6#32 (k2_pay26 c d e 19#32 i, k2_pay27 c d e 19#32 i) := rfl
  have h3 : (k2_pay32 c d e 19#32 i, k2_pay33 c d e 19#32 i)
    = turn 17#32 15#32 (mix 0#32 42#32 3#32 (turn 6#32 26#32 (k2_pay28 c d e 19#32 i, k2_pay29 c d e 19#32 i))) := rfl
  have h4 : (k2_pay34 c d e 19#32 i, k2_pay35 c d e 19#32 i) = turn 29#32 3#32 (k2_pay32 c d e 19#32 i, k2_pay33 c d e 19#32 i) := rfl
  rw [h4, h3, h2, h1]

theorem part3_sum : k2_pay36 c d e 19#32 i = k2_pay34 c d e 19#32 i + k2_pay35 c d e 19#32 i := rfl

/-- The fourth: the rest but the last group's end. -/
theorem part4_at (x : BitVec 32) (hx : b i = x + a i) :
    (k2_pay46 a b 16#32 i, k2_pay47 a b 16#32 i ^^^ k2_pay46 a b 16#32 i)
      = odd (mix 42#32 third 4#32 (turn 24#32 8#32 (turn 16#32 16#32 (x, a i)))) := by
  have h1 : (b i, k2_pay37 a b 16#32 i) = turn 16#32 16#32 (x, a i) := by
    unfold turn
    rw [← hx]; rfl
  have h2 : (k2_pay40 a b 16#32 i, k2_pay41 a b 16#32 i)
    = turn 13#32 19#32 (mix 42#32 third 4#32 (turn 24#32 8#32 (b i, k2_pay37 a b 16#32 i))) := rfl
  have h3 : (k2_pay42 a b 16#32 i, k2_pay43 a b 16#32 i) = turn 15#32 17#32 (k2_pay40 a b 16#32 i, k2_pay41 a b 16#32 i) := rfl
  have h4 : (k2_pay44 a b 16#32 i, k2_pay45 a b 16#32 i) = turn 26#32 6#32 (k2_pay42 a b 16#32 i, k2_pay43 a b 16#32 i) := rfl
  have h5 : (k2_pay46 a b 16#32 i, k2_pay47 a b 16#32 i ^^^ k2_pay46 a b 16#32 i) = turn 6#32 26#32 (k2_pay44 a b 16#32 i, k2_pay45 a b 16#32 i) := rfl
  rw [h5, h4, h3, h2, h1]; rfl

/-- The pair at a place: the generator's, of zero and the place's counter with the key's second word added. -/
theorem words_at : mix third 0#32 5#32 ((words (F := Ideal) w).1 i, (words (F := Ideal) w).2 i ^^^ (words (F := Ideal) w).1 i)
    = cipher (0#32, k2_pay5 (F := Ideal) w i) := by
  unfold words cipher
  rw [part4_at _ _ i _ (part3_sum _ _ _ i), ← part1_at w i]
  refine congrArg (fun p => mix third 0#32 5#32 (odd (mix 42#32 third 4#32 (turn 24#32 8#32 (turn 16#32 16#32 p))))) ?_
  rw [part3_at, part2_at]
  rfl

end Cert.Value

end
-- ==== Proof.Value.Counter.lean ====
/-
  The counters of the random words: the kernel's and the reference's are the entry's number.
-/
module

public import proofs.«01_k».proof.Proof.Value.KernelWords
public import proofs.«01_k».proof.Proof.Reference.Results
public import Idealize.ShloMosaic.Lib.Pointwise

@[expose] public section

set_option maxRecDepth 16384

noncomputable section

namespace Cert.Value

open Idealize.ShloMosaic

section kernel
open Cert.KernelIdeal Cert.KernelIdeal.Gen

/-- A place's number in its row, -/
theorem number_at (a : Fin 8) (l : Fin 12500) :
    k2_pay4 (Idealize.ShloMosaic.ix2 a l) = BitVec.ofNat 32 (12500 * a.val + l.val) := by
  have h : k2_pay4 (Idealize.ShloMosaic.ix2 a l) = BitVec.ofNat 32 a.val * 12500#32 + BitVec.ofNat 32 l.val := by
    pointwise [k2_pay4]
    try rfl
  rw [h]
  apply BitVec.eq_of_toNat_eq
  simp only [BitVec.toNat_add, BitVec.toNat_mul, BitVec.toNat_ofNat]
  have := a.isLt; have := l.isLt
  omega

/-- and its counter. -/
theorem counter_at (r : ℕ) (hr : r < 512) (a : Fin 8) (l : Fin 12500) :
    k2_pay5 (F := Ideal) (BitVec.ofNat 32 r) (Idealize.ShloMosaic.ix2 a l) = BitVec.ofNat 32 (100000 * r + (12500 * a.val + l.val)) + 42#32 := by
  have h : k2_pay5 (F := Ideal) (BitVec.ofNat 32 r) (Idealize.ShloMosaic.ix2 a l)
      = (BitVec.ofNat 32 r * 100000#32 + k2_pay4 (Idealize.ShloMosaic.ix2 a l)) + 42#32 := by
    have g : ∀ (p : IVec S8x12500 32) (w k c : BitVec 32) (i : S8x12500.Idx),
        addi (addi (broadcast S8x12500 (Scalar.muli w k)) p) (broadcast S8x12500 c) i = (w * k + p i) + c := fun p w k c i => rfl
    unfold k2_pay5
    exact g _ _ _ _ _
  rw [h, number_at]
  congr 1
  apply BitVec.eq_of_toNat_eq
  simp only [BitVec.toNat_add, BitVec.toNat_mul, BitVec.toNat_ofNat]
  have := a.isLt; have := l.isLt
  omega

end kernel

section reference
open Cert.ReferenceIdeal Cert.ReferenceIdeal.Gen Cert.ReferenceIdeal.Run

theorem count_at (b : Fin 16) (s : Fin 32) (j : Fin 100000) :
    countOf (ix3 b s j) = BitVec.ofNat 64 (100000 * (32 * b.val + s.val) + j.val) := by
  have h : countOf (ix3 b s j)
      = 3200000#64 * BitVec.ofNat 64 b.val + 100000#64 * BitVec.ofNat 64 s.val + 1#64 * BitVec.ofNat 64 j.val := by
    pointwise [countOf]
    try rfl
  rw [h]
  apply BitVec.eq_of_toNat_eq
  simp only [BitVec.toNat_add, BitVec.toNat_mul, BitVec.toNat_ofNat]
  have := b.isLt; have := s.isLt; have := j.isLt
  omega

theorem random_at (b : Fin 16) (s : Fin 32) (j : Fin 100000) :
    randomOf (ix3 b s j) = cipher (0#32, BitVec.ofNat 32 (100000 * (32 * b.val + s.val) + j.val) + 42#32) := by
  have h1 : (counterOf (ix3 b s j)).1 = (IntOp.shrui .host (countOf (ix3 b s j)) 32#64).setWidth 32 := rfl
  have h2 : (counterOf (ix3 b s j)).2 = (countOf (ix3 b s j)).setWidth 32 := rfl
  have hs : IntOp.shrui .host (countOf (ix3 b s j)) 32#64 = countOf (ix3 b s j) >>> 32 := by simp [IntOp.shrui]
  have := b.isLt; have := s.isLt; have := j.isLt
  have e1 : (counterOf (ix3 b s j)).1 = 0#32 := by
    rw [h1, hs, count_at]
    apply BitVec.eq_of_toNat_eq
    simp only [BitVec.toNat_setWidth, BitVec.toNat_ushiftRight, BitVec.toNat_ofNat, Nat.shiftRight_eq_div_pow]
    rw [Nat.mod_eq_of_lt (by omega : 100000 * (32 * b.val + s.val) + j.val < 2 ^ 64),
      Nat.div_eq_of_lt (by omega : 100000 * (32 * b.val + s.val) + j.val < 2 ^ 32)]
  have e2 : (counterOf (ix3 b s j)).2 = BitVec.ofNat 32 (100000 * (32 * b.val + s.val) + j.val) := by
    rw [h2, count_at]
    apply BitVec.eq_of_toNat_eq
    simp only [BitVec.toNat_setWidth, BitVec.toNat_ofNat]
    omega
  unfold randomOf
  rw [e1, e2, BitVec.zero_add]

end reference

end Cert.Value
-- ==== Proof.Value.Noise.lean ====
/-
  The noise of a random word, as the kernel and as the reference compute it.
-/
module

public import proofs.«01_k».proof.Proof.KernelIdeal.SampleBody
public import proofs.«01_k».proof.Proof.Reference.Results
public import proofs.«01_k».proof.Proof.Value.FirstPlace

@[expose] public section

set_option maxRecDepth 16384

noncomputable section

namespace Cert.Value

open Idealize.ShloMosaic

/-- A number of the unit interval from a word, not under `tiny`. -/
def unit (one tiny : EReal) (k w : BitVec 32) : EReal :=
  max tiny ((Ideal.ofBits .f32 ((w >>> 9) ||| k) - one) * one + tiny)

/-- The noise of a number of the unit interval. -/
def gumbel (u : EReal) : EReal := -Ideal.log (-Ideal.log u)

theorem shift_vector (w : BitVec 32) : IntOp.shrui .vector w 9#32 = w >>> 9 := by
  simp [IntOp.shrui]
theorem shift_host (w : BitVec 32) : IntOp.shrui .host w 9#32 = w >>> 9 := by
  simp [IntOp.shrui]

section kernel
open Cert.KernelIdeal Cert.KernelIdeal.Gen

variable (zero one tiny bot : Ideal .f32) (k₀ k₁ k₂ k₃ k₄ k₅ : BitVec 32) (v10 : FVec Ideal S8x12500 .f32) (v15 v181 v186 : IVec S8x12500 32)

/-- The kernel's lines, of any constants: the random words, the numbers of the unit interval, the noisy logits. -/
def wordsK : IVec S8x12500 32 :=
  shrui (xori (addi v181 (broadcast S8x12500 k₀)) (addi (addi (xori v186 v181) (broadcast S8x12500 k₁)) (broadcast S8x12500 k₂)))
    (broadcast S8x12500 k₃)
def uniformK (u : IVec S8x12500 32) : FVec Ideal S8x12500 .f32 :=
  maximumf (broadcast S8x12500 tiny)
    (addf (mulf (subf (bitcastToFloat .f32 (ori u (broadcast S8x12500 k₄)))
      (broadcast S8x12500 one)) (broadcast S8x12500 one)) (broadcast S8x12500 tiny))
def noisyK (u : FVec Ideal S8x12500 .f32) : FVec Ideal S8x12500 .f32 :=
  addf (subf (broadcast S8x12500 zero) (log (subf (broadcast S8x12500 zero) (log u))))
    (select (cmpi .eq v15 (broadcast S8x12500 k₅)) (broadcast S8x12500 bot) v10)

theorem pay48_eq : k2_pay48 (F := Ideal) v10 v15 v181 v186
      = firstPlace (noisyK (Scalar.ofBits .f32 0x00000000#32) (Scalar.ofBits .f32 0xFF800000#32) 99999#32 v10 v15
          (uniformK (Scalar.ofBits .f32 0x3F800000#32) (Scalar.ofBits .f32 0x00800000#32) 1065353216#32
            (wordsK 466689008#32 0#32 5#32 9#32 v181 v186))) v15 := by
  unfold k2_pay48 firstPlace noisyK uniformK wordsK
  with_reducible rfl

theorem wordsK_at (i : S8x12500.Idx) : wordsK k₀ k₁ k₂ k₃ v181 v186 i
      = IntOp.shrui .vector ((v181 i + k₀) ^^^ (((v186 i ^^^ v181 i) + k₁) + k₂)) k₃ := rfl

theorem uniformK_at (u : IVec S8x12500 32) (i : S8x12500.Idx) : uniformK one tiny k₄ u i
      = max tiny ((Ideal.ofBits .f32 (u i ||| k₄) - one) * one + tiny) := rfl

theorem noisyK_at (u : FVec Ideal S8x12500 .f32) (i : S8x12500.Idx) : noisyK zero bot k₅ v10 v15 u i
      = (zero - Ideal.log (zero - Ideal.log (u i)) : EReal) + Scalar.select (IntOp.cmpi .eq (v15 i) k₅) bot (v10 i) := rfl

end kernel

end Cert.Value
-- ==== Proof.Value.RefNoise.lean ====
/-
  The reference's noise, at one entry.
-/
module

public import proofs.«01_k».proof.Proof.Value.Noise
public import proofs.«01_k».proof.Proof.Value.RefConf

@[expose] public section

set_option maxRecDepth 16384

noncomputable section

namespace Cert.Value

open Idealize.ShloMosaic
open Cert.ReferenceIdeal Cert.ReferenceIdeal.Gen Cert.ReferenceIdeal.Run

variable (one tiny : FVec Ideal S_ .f32) (k₃ k₄ : BitVec 32) (a b : IVec S16x32x100000 32)

/-- The reference's line, of any constants. -/
def unitR : FVec Ideal S16x32x100000 .f32 :=
  maximumf (broadcastInDim S16x32x100000 ![] bcast_S_S16x32x100000 tiny)
    (addf (mulf (subf (bitcastToFloat .f32 (ori (Host.shrui (xori a b)
            (broadcastInDim S16x32x100000 ![] bcast_S_S16x32x100000 (constantI S_ 32 k₃)))
          (broadcastInDim S16x32x100000 ![] bcast_S_S16x32x100000 (constantI S_ 32 k₄))))
        (broadcastInDim S16x32x100000 ![] bcast_S_S16x32x100000 one))
      (broadcastInDim S16x32x100000 ![] bcast_S_S16x32x100000 one))
    (broadcastInDim S16x32x100000 ![] bcast_S_S16x32x100000 tiny))

theorem unitOf_eq : unitOf (F := Ideal) a b = unitR (constant S_ .f32 0x3F800000#32) (constant S_ .f32 0x00800000#32) 9#32 1065353216#32 a b := by
  unfold unitOf unitR
  with_reducible rfl

theorem unitR_at (o t : Ideal .f32) (i : S16x32x100000.Idx) : unitR (fun _ => o) (fun _ => t) k₃ k₄ a b i
      = max t ((Ideal.ofBits .f32 (IntOp.shrui .host (a i ^^^ b i) k₃ ||| k₄) - o) * o + t) := rfl

theorem noisyOf_at (u x : FVec Ideal S16x32x100000 .f32) (i : S16x32x100000.Idx) :
    noisyOf (F := Ideal) u x i = gumbel (u i) + cooledOf (F := Ideal) x i := rfl

end Cert.Value
-- ==== Proof.Value.SampleEq.lean ====
/-
  The sampled token: the kernel's is the reference's.
-/
module

public import proofs.«01_k».proof.Proof.Value.ArgFirst
public import proofs.«01_k».proof.Proof.Value.Place
public import proofs.«01_k».proof.Proof.Value.Counter
public import proofs.«01_k».proof.Proof.Value.RefNoise
public import proofs.«01_k».proof.Proof.Value.PayConf

@[expose] public section

set_option maxRecDepth 16384

noncomputable section

namespace Cert.Value

open Idealize.ShloMosaic

/-- The token at a place of the sampling body's block. -/
def tokenAt (a : Fin 8) (l : Fin 12500) : Fin 100000 :=
  ⟨12500 * a.val + l.val, by have := a.isLt; have := l.isLt; omega⟩

theorem tokenAt_surj (j : Fin 100000) : ∃ k : Fin 8 × Fin 12500, tokenAt k.1 k.2 = j := by
  have := j.isLt
  exact ⟨(⟨j.val / 12500, by omega⟩, ⟨j.val % 12500, by omega⟩), Fin.ext (by show 12500 * (j.val / 12500) + j.val % 12500 = j.val; omega)⟩

/-- The noisy logit of a token from the entry's counter and its masked logit. -/
def noisy (one tiny : EReal) (k : BitVec 32) (c : BitVec 32) (v : EReal) : EReal :=
  gumbel (unit one tiny k ((cipher (0#32, c)).1 ^^^ (cipher (0#32, c)).2)) + v

section kernel
open Cert.KernelIdeal Cert.KernelIdeal.Gen Cert.KernelIdeal.SampleCall

theorem block_at (X : Vec Ideal S1x8x12500 .f32) (a : Fin 8) (l : Fin 12500) :
    k2_pay3 (F := Ideal) X (Idealize.ShloMosaic.ix2 a l) = X (Idealize.ShloMosaic.ix3 (0 : Fin 1) a l) := by
  pointwise [k2_pay3]

theorem mixed (w : BitVec 32) (i : S8x12500.Idx) :
    ((words (F := Ideal) w).1 i + 466689008#32) ^^^ ((((words (F := Ideal) w).2 i ^^^ (words (F := Ideal) w).1 i) + 0#32) + 5#32)
      = (cipher (0#32, k2_pay5 (F := Ideal) w i)).1 ^^^ (cipher (0#32, k2_pay5 (F := Ideal) w i)).2 := by
  rw [← words_at w i]
  unfold mix
  with_reducible rfl

theorem noisyK_val (zero bot : Ideal .f32) (hz : (zero : EReal) = 0) (hb : (bot : EReal) = ⊥) (one tiny : Ideal .f32) (k : BitVec 32) (w : BitVec 32)
    (X : Vec Ideal S1x8x12500 .f32) (a : Fin 8) (l : Fin 12500) :
    noisyK zero bot 99999#32 (k2_pay3 (F := Ideal) X) k2_pay4
        (uniformK one tiny k (wordsK 466689008#32 0#32 5#32 9#32 (words (F := Ideal) w).1 (words (F := Ideal) w).2)) (Idealize.ShloMosaic.ix2 a l)
      = noisy one tiny k (k2_pay5 (F := Ideal) w (Idealize.ShloMosaic.ix2 a l))
          (if (tokenAt a l).val = 99999 then (⊥ : EReal) else X (Idealize.ShloMosaic.ix3 (0 : Fin 1) a l)) := by
  rw [noisyK_at, uniformK_at, wordsK_at, shift_vector, mixed, block_at, hz, hb, zero_sub, zero_sub]
  rw [show k2_pay4 (Idealize.ShloMosaic.ix2 a l) = BitVec.ofNat 32 (tokenAt a l).val from number_at a l, select_token]
  unfold noisy gumbel unit
  with_reducible rfl

/-- The token that the body samples is the first of the row's largest noisy logits. -/
theorem sample_first (w : BitVec 32) (X : Vec Ideal S1x8x12500 .f32) (y : Fin 100000 → EReal)
    (hy : ∀ a l, noisy (Ideal.ofBits .f32 0x3F800000#32) (Ideal.ofBits .f32 0x00800000#32) 1065353216#32
        (k2_pay5 (F := Ideal) w (Idealize.ShloMosaic.ix2 a l))
          (if (tokenAt a l).val = 99999 then (⊥ : EReal) else X (Idealize.ShloMosaic.ix3 (0 : Fin 1) a l)) = y (tokenAt a l)) :
    ∃ j : Fin 100000, sample (F := Ideal) w X = BitVec.ofNat 32 j.val ∧ (∀ j', y j' ≤ y j) ∧ ∀ j', y j' = y j → j.val ≤ j'.val := by
  unfold sample
  rw [pay48_eq]
  have hc : ∀ b : BitVec 32, (Scalar.ofBits .f32 b : Ideal .f32) = Ideal.ofBits .f32 b := fun b => rfl
  have hz : ((Scalar.ofBits .f32 0x00000000#32 : Ideal .f32) : EReal) = 0 := (hc _).trans Ideal.ofBits_zero_f32
  have hb : ((Scalar.ofBits .f32 0xFF800000#32 : Ideal .f32) : EReal) = ⊥ := (hc _).trans ofBits_bot
  have hv := fun (a : Fin 8) (l : Fin 12500) =>
    (noisyK_val _ _ hz hb (Ideal.ofBits .f32 0x3F800000#32) (Ideal.ofBits .f32 0x00800000#32) 1065353216#32 w X a l).trans (hy a l)
  rw [hc 0x3F800000#32, hc 0x00800000#32]
  generalize noisyK _ _ 99999#32 (k2_pay3 (F := Ideal) X) k2_pay4 _ = z at hv ⊢
  obtain ⟨k, e, hle, hmin⟩ := place_at z k2_pay4 number_at
  simp only [hv] at hle hmin
  refine ⟨tokenAt k.1 k.2, e, fun j' => ?_, fun j' => ?_⟩
  · obtain ⟨k', rfl⟩ := tokenAt_surj j'
    exact hle k'
  · obtain ⟨k', rfl⟩ := tokenAt_surj j'
    exact hmin k'

end kernel

section reference
open Cert.ReferenceIdeal Cert.ReferenceIdeal.Gen Cert.ReferenceIdeal.Run

/-- An arg-max over rows of any length. -/
theorem argmax_gen {N : ℕ} (h0 : 0 < N) (hN : N ≤ 100000) (x : FVec Ideal ⟨3, ![16, 32, N]⟩ .f32) (y : IVec ⟨3, ![16, 32, N]⟩ 32)
    (hy : ∀ b s j, y (ix3 b s j) = BitVec.ofNat 32 j.val) (h : Shape.ReducesTo ⟨3, ![16, 32, N]⟩ [2] ⟨2, ![16, 32]⟩)
    (u : FVec Ideal S_ .f32) (v : IVec S_ 32) (hu : ∀ i, (u i : EReal) = ⊥) (hv : ∀ i, v i = 0#32)
    (g : IVec ⟨2, ![16, 32]⟩ 32) (hg : g = fun i => (Host.argReduce (reducer_argmax_f32_i32 (F := Ideal)) x y u v h h_S_ i).2) (b : Fin 16) (s : Fin 32) :
    ∃ j : Fin N, g (ix2 b s) = BitVec.ofNat 32 j.val
      ∧ (∀ j', (x (ix3 b s j') : EReal) ≤ x (ix3 b s j)) ∧ ∀ j', (x (ix3 b s j') : EReal) = x (ix3 b s j) → j.val ≤ j'.val := by
  have e : g (ix2 b s) = (Host.argReduce (reducer_argmax_f32_i32 (F := Ideal)) x y u v h h_S_ (ix2 b s)).2 := congrFun hg _
  rw [e, Ideal.argReduce_eq_reduce2, Host.reduce2_eq_foldl_fiber, hu, hv]
  exact fold_row h0 hN x y hy h b s

theorem iota_gen (N : ℕ) (b : Fin 16) (s : Fin 32) (j : Fin N) :
    iotaInDim (⟨3, ![16, 32, N]⟩ : Shape) 32 2 (ix3 b s j) = BitVec.ofNat 32 j.val := rfl

theorem argmaxOf_fun : @argmaxOf Ideal _ = fun x j => Prod.snd (Host.argReduce reducer_argmax_f32_i32 x (iotaInDim S16x32x100000 32 2)
    (constant S_ .f32 0xFF800000#32) (constantI S_ 32 0#32) reducesTo_S16x32x100000_S16x32_d2 h_S_ j) := rfl

theorem argmax_at (y : FVec Ideal S16x32x100000 .f32) (b : Fin 16) (s : Fin 32) :
    ∃ j : Fin 100000, argmaxOf (F := Ideal) y (ix2 b s) = BitVec.ofNat 32 j.val
      ∧ (∀ j', (y (ix3 b s j') : EReal) ≤ y (ix3 b s j)) ∧ ∀ j', (y (ix3 b s j') : EReal) = y (ix3 b s j) → j.val ≤ j'.val := by
  have hc : ∀ (v : BitVec 32) i, (constant S_ .f32 v : FVec Ideal S_ .f32) i = Ideal.ofBits .f32 v := fun v i => rfl
  exact argmax_gen (N := 100000) (by norm_num) le_rfl y (iotaInDim S16x32x100000 32 2) (iota_gen 100000) reducesTo_S16x32x100000_S16x32_d2
    (constant S_ .f32 0xFF800000#32) (constantI S_ 32 0#32) (fun i => (hc _ _).trans ofBits_bot) (fun i => rfl) (argmaxOf (F := Ideal) y)
    (congrFun argmaxOf_fun y) b s

theorem noisy_at (x : FVec Ideal S16x32x100000 .f32) (b : Fin 16) (s : Fin 32) (j : Fin 100000) :
    noisyOf (F := Ideal) (unitOf (fun i => (randomOf i).1) (fun i => (randomOf i).2)) (maskedOf x) (ix3 b s j)
      = noisy (Ideal.ofBits .f32 0x3F800000#32) (Ideal.ofBits .f32 0x00800000#32) 1065353216#32
          (BitVec.ofNat 32 (100000 * (32 * b.val + s.val) + j.val) + 42#32) (if j.val = 99999 then (⊥ : EReal) else x (ix3 b s j)) := by
  rw [noisyOf_at, cooled_eq, masked_at, unitOf_eq]
  have hc : ∀ v : BitVec 32, (constant S_ .f32 v : FVec Ideal S_ .f32) = fun _ => Ideal.ofBits .f32 v := fun v => rfl
  rw [hc 0x3F800000#32, hc 0x00800000#32, unitR_at, shift_host]
  rw [random_at]
  unfold noisy unit
  with_reducible rfl

end reference

/-- The sampled tokens are the same. -/
theorem sample_eq (X : Vec Ideal Cert.KernelIdeal.S1x8x12500 .f32) (x : FVec Ideal Cert.ReferenceIdeal.S16x32x100000 .f32) (b : Fin 16) (s : Fin 32)
    (hX : ∀ a l, X (ix3 (0 : Fin 1) a l) = x (ix3 b s (tokenAt a l))) :
    Cert.KernelIdeal.SampleCall.sample (F := Ideal) (BitVec.ofNat 32 (32 * b.val + s.val)) X = Cert.ReferenceIdeal.Run.sampledOf (F := Ideal) x (ix2 b s) := by
  unfold Cert.ReferenceIdeal.Run.sampledOf
  obtain ⟨j, e, hle, hmin⟩ := argmax_at (Cert.ReferenceIdeal.Run.noisyOf (F := Ideal)
    (Cert.ReferenceIdeal.Run.unitOf (fun i => (Cert.ReferenceIdeal.Run.randomOf i).1) (fun i => (Cert.ReferenceIdeal.Run.randomOf i).2))
    (Cert.ReferenceIdeal.Run.maskedOf x)) b s
  rw [e]
  simp only [noisy_at] at hle hmin
  have hr : 32 * b.val + s.val < 512 := by have := b.isLt; have := s.isLt; omega
  obtain ⟨j', e', hle', hmin'⟩ := sample_first (BitVec.ofNat 32 (32 * b.val + s.val)) X
    (fun j => noisy (Ideal.ofBits .f32 0x3F800000#32) (Ideal.ofBits .f32 0x00800000#32) 1065353216#32
          (BitVec.ofNat 32 (100000 * (32 * b.val + s.val) + j.val) + 42#32) (if j.val = 99999 then (⊥ : EReal) else x (ix3 b s j)))
    (fun a l => by rw [counter_at _ hr, hX]; unfold tokenAt; with_reducible rfl)
  rw [e']
  have hq := le_antisymm (hle' j) (hle j')
  exact congrArg (BitVec.ofNat 32) (Nat.le_antisymm (hmin' j hq) (hmin j' hq.symm))

end Cert.Value
-- ==== Proof.Value.FinalSample.lean ====
/-
  What the sampling call leaves in its output: at every row that the table names, the row's token as sampled or copied; the
  tokens as they were elsewhere.
-/
module

public import proofs.«01_k».proof.Proof.KernelIdeal.RegionSample
public import Idealize.ShloMosaic.Lib.Pointwise
public import Idealize.ShloMosaic.Lib.Pipeline.Value

@[expose] public section

set_option maxRecDepth 16384

noncomputable section

namespace Cert.KernelIdeal.SampleCall

open Cert.KernelIdeal.Gen
open Idealize.ShloMosaic Idealize.ShloMosaic.TcCoe
open Idealize.ShloMosaic.Pipeline (Dat Cfg Window)

variable {F : FTy → Type} [FloatOps F]

theorem emb_row (j : S1x8x12500.Idx) : rRow.emb j = j := by
  refine funext fun a => Fin.ext ?_
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
theorem emb_tok (j : S1x1x8.Idx) : rTok.emb j = j := by
  refine funext fun a => Fin.ext ?_
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega

theorem lanes_at (w : BitVec 32) (j : S1x1x8.Idx) :
    View.canon (Val := Elt F) (e := .i32) [⟨rTok, k2_pay1 w⟩] j = w := by
  have h := View.canon_cons_emb (Val := Elt F) (e := .i32) rTok (k2_pay1 w) [] j
  rw [emb_tok] at h
  exact h

theorem ld_row (x : Vec F S1x8x12500 .f32) : View.ld x rRow = x := funext fun j => congrArg x (emb_row j)

/-- A sampling point leaves the sampled token in every lane, -/
theorem hit_at (w : BitVec 32) (x : Vec F S1x8x12500 .f32) (j : S1x1x8.Idx) : hit w x j = sample w x := by
  unfold hit
  rw [ld_row]
  generalize sample w x = k
  exact lanes_at k j

theorem pay2_at (y : Vec F S1x1x8 .i32) (l : Fin 8) :
    k2_pay2 (F := F) y (Idealize.ShloMosaic.ix3 (0 : Fin 1) (0 : Fin 1) l) = y (Idealize.ShloMosaic.ix3 (0 : Fin 1) (0 : Fin 1) l) := by
  unfold k2_pay2
  rw [shapeCast_shapeCast]

/-- and a copying one the token that was there. -/
theorem copied_at (y : Vec F S1x1x8 .i32) (l : Fin 8) : copied y (Idealize.ShloMosaic.ix3 (0 : Fin 1) (0 : Fin 1) l) = y (Idealize.ShloMosaic.ix3 (0 : Fin 1) (0 : Fin 1) l) := by
  unfold copied
  rw [show View.ld y rTok = y from funext fun j => congrArg y (emb_tok j)]
  have h := View.canon_cons_emb (Val := Elt F) (e := .i32) rTok (k2_pay2 y) [] (Idealize.ShloMosaic.ix3 (0 : Fin 1) (0 : Fin 1) l)
  rw [emb_tok] at h
  exact h.trans (pay2_at y l)

variable (a : (pcfg2 (F := F)).Adm) (V : (c : Dev nD) → Valuation τ sig (Elt F))

theorem emb_out (t : Fin (cfg2 a).N) (ht : ids a.1 (pt t) < 512) (j : S1x1x8.Idx) : ((((cfg2 a).win 2).rect t).emb j : S512x1x8.Idx)
    = Idealize.ShloMosaic.ix3 (⟨ids a.1 (pt t), ht⟩ : Fin 512) (0 : Fin 1) (⟨(j 2).val, (j 2).isLt⟩ : Fin 8) := by
  refine funext fun b => Fin.ext ?_
  refine (Pipeline.Window.rect_emb_val ((cfg2 a).win 2) t j b rfl).trans ?_
  refine (congrArg (fun n => n * ((cfg2 a).win 2).size b + (j b).val) (congrFun (index_eq a 2 t) b)).trans ?_
  match b with
  | ⟨0, _⟩ =>
    have h : (j ⟨0, by show 0 < 3; omega⟩).val < 1 := (j ⟨0, _⟩).isLt
    show ids a.1 (pt t) * 1 + (j ⟨0, _⟩).val = ids a.1 (pt t); omega
  | ⟨1, _⟩ =>
    have h : (j ⟨1, by show 1 < 3; omega⟩).val < 1 := (j ⟨1, _⟩).isLt
    show 0 * 1 + (j ⟨1, _⟩).val = 0; omega
  | ⟨2, _⟩ => exact (congrArg (· + (j ⟨2, _⟩).val) (Nat.zero_mul _)).trans (Nat.zero_add _)

/-- The last point that names a row writes it back. -/
theorem flush_last (t : Fin 512) : ∃ t' : Fin (cfg2 a).N, ids a.1 (pt t') = ids a.1 t ∧ ((cfg2 a).win 2).flush t' = true := by
  classical
  have hN' : grid2.N = 512 := N_2
  obtain ⟨u, hu, hmax⟩ := Finset.exists_max_image (Finset.univ.filter fun u : Fin 512 => ids a.1 u = ids a.1 t) (fun u => u.val)
    ⟨t, Finset.mem_filter.2 ⟨Finset.mem_univ _, rfl⟩⟩
  have hu' := (Finset.mem_filter.1 hu).2
  have hlt : u.val < (cfg2 a).N := by
    have h : u.val < grid2.N := by have := u.isLt; omega
    exact h
  refine ⟨⟨u.val, hlt⟩, hu', ?_⟩
  show Pipeline.WinSpec.flushAt (G := grid2) (spec2 2) (ix2 a.1 2) ⟨u.val, hlt⟩ = true
  unfold Pipeline.WinSpec.flushAt
  rw [Bool.and_eq_true, Bool.or_eq_true]
  refine ⟨rfl, ?_⟩
  by_cases hend : u.val + 1 = grid2.N
  · exact .inl (decide_eq_true hend)
  · have h4 : u.val + 1 < grid2.N := by have := u.isLt; omega
    refine .inr (decide_eq_true ⟨h4, fun e => ?_⟩)
    have e' := ix2_inj a.1 2 _ _ e
    rw [co_coords, co_coords] at e'
    have h5 := hmax (pt ⟨u.val + 1, h4⟩) (Finset.mem_filter.2 ⟨Finset.mem_univ _, e'.trans hu'⟩)
    have h6 : u.val + 1 ≤ u.val := h5
    omega

/-- The array that the written rows are rows of. -/
def arr (c : Dev nD) : Vec F S512x1x8 .i32 := fun i =>
  left a V c (i 0).val (Idealize.ShloMosaic.ix3 (0 : Fin 1) (0 : Fin 1) (⟨(i 2).val, (i 2).isLt⟩ : Fin 8))

variable (hg : Good a.1)
include hg

theorem flushed_eq (c : Dev nD) (t : Fin (cfg2 a).N) :
    (dat a V c).flushed 2 t = (((cfg2 a).win 2).blk t).view.read (Elt F) (arr a V c) := by
  show (dat a V c).after 2 t = _
  rw [after_out]
  funext j
  refine Eq.trans ?_ (congrArg (arr a V c) (emb_out a t (hg.lt _) j)).symm
  show left a V c (ids a.1 (pt t)) j = left a V c (ids a.1 (pt t)) _
  refine congrArg (left a V c (ids a.1 (pt t))) (funext fun b => Fin.ext ?_)
  match b with
  | ⟨0, _⟩ =>
    have h : (j ⟨0, by show 0 < 3; omega⟩).val < 1 := (j ⟨0, _⟩).isLt
    show (j ⟨0, _⟩).val = 0; omega
  | ⟨1, _⟩ =>
    have h : (j ⟨1, by show 1 < 3; omega⟩).val < 1 := (j ⟨1, _⟩).isLt
    show (j ⟨1, _⟩).val = 0; omega
  | ⟨2, _⟩ => rfl

/-- A row that the table names holds what its points leave; -/
theorem final_named (c : Dev nD) (t : Fin 512) (r : Fin 512) (hr : ids a.1 t = r.val) (l : Fin 8) :
    (dat a V c).arrAt 2 (cfg2 a).N (Idealize.ShloMosaic.ix3 r (0 : Fin 1) l) = left a V c r.val (Idealize.ShloMosaic.ix3 (0 : Fin 1) (0 : Fin 1) l) := by
  refine (Dat.arrAt_eq_piecewise (dat a V c) 2 (arr a V c) (fun t _ => flushed_eq a V hg c t) (Idealize.ShloMosaic.ix3 r (0 : Fin 1) l)).trans ((if_pos ?_).trans ?_)
  swap
  · rfl
  · obtain ⟨t', h1, h2⟩ := flush_last a t
    refine ⟨t', h2, ?_⟩
    have h := View.emb_mem_set (((cfg2 a).win 2).blk t').view (Idealize.ShloMosaic.ix3 (0 : Fin 1) (0 : Fin 1) l)
    have e : ((((cfg2 a).win 2).rect t').emb (Idealize.ShloMosaic.ix3 (0 : Fin 1) (0 : Fin 1) l) : S512x1x8.Idx) = Idealize.ShloMosaic.ix3 r (0 : Fin 1) l := by
      refine (emb_out a t' (hg.lt _) _).trans ?_
      have e' : (⟨ids a.1 (pt t'), hg.lt _⟩ : Fin 512) = r := Fin.ext (h1.trans hr)
      rw [e']
      rfl
    exact (congrArg (fun z : S512x1x8.Idx => z ∈ (((cfg2 a).win 2).blk t').view.set) e).mp h

/-- any other row holds what it held. -/
theorem final_other (c : Dev nD) (r : Fin 512) (hr : ∀ t, ids a.1 t ≠ r.val) (l : Fin 8) :
    (dat a V c).arrAt 2 (cfg2 a).N (Idealize.ShloMosaic.ix3 r (0 : Fin 1) l) = V c (Proc.devRef .tc main_v24) (Idealize.ShloMosaic.ix3 r (0 : Fin 1) l) := by
  refine (Dat.arrAt_eq_piecewise (dat a V c) 2 (arr a V c) (fun t _ => flushed_eq a V hg c t) (Idealize.ShloMosaic.ix3 r (0 : Fin 1) l)).trans ((if_neg ?_).trans ?_)
  swap
  · rfl
  · rintro ⟨t, -, hi⟩
    obtain ⟨j, hj⟩ := View.exists_emb_of_mem_set _ hi
    have e := emb_out a t (hg.lt _) j
    have h0 : ((((cfg2 a).win 2).rect t).emb j : S512x1x8.Idx) = Idealize.ShloMosaic.ix3 r (0 : Fin 1) l := hj
    have h1 := congrFun (e.symm.trans h0) (0 : Fin 3)
    exact hr _ (congrArg Fin.val h1)

end Cert.KernelIdeal.SampleCall
end
-- ==== Proof.Value.Layout.lean ====
/-
  The layouts between the calls, read entry by entry.
-/
module

public import proofs.«01_k».proof.Proof.KernelIdeal.Chain
public import Idealize.ShloMosaic.Lib.Pointwise

@[expose] public section

set_option maxRecDepth 16384

noncomputable section

namespace Cert.Value

open Cert.KernelIdeal Cert.KernelIdeal.Gen
open Idealize.ShloMosaic

/-- The row of a position. -/
def rowOf (b : Fin 16) (s : Fin 32) : Fin 512 := ⟨32 * b.val + s.val, by have := b.isLt; have := s.isLt; omega⟩

theorem row_div (b : Fin 16) (s : Fin 32) (h) : (⟨(rowOf b s).val / 32, h⟩ : Fin 16) = b :=
  Fin.ext (by have := s.isLt; show (32 * b.val + s.val) / 32 = b.val; omega)
theorem row_mod (b : Fin 16) (s : Fin 32) (h) : (⟨(rowOf b s).val % 32, h⟩ : Fin 32) = s :=
  Fin.ext (by have := s.isLt; show (32 * b.val + s.val) % 32 = s.val; omega)

theorem flat_gen (z : IVec S16x32 1) (r : Fin 512) : shapeCast S512 z shapeCasts_S16x32_S512 (ix1 r)
      = z (Idealize.ShloMosaic.ix2 (⟨r.val / 32, by have := r.isLt; omega⟩ : Fin 16) (⟨r.val % 32, by omega⟩ : Fin 32)) := by
  pointwise

/-- A position of the flattened array. -/
theorem flat_at (z : IVec S16x32 1) (b : Fin 16) (s : Fin 32) :
    shapeCast S512 z shapeCasts_S16x32_S512 (SampleCall.at512 (rowOf b s)) = z (Idealize.ShloMosaic.ix2 b s) := by
  rw [show SampleCall.at512 (rowOf b s) = ix1 (rowOf b s) from funext fun a => by match a with | ⟨0, _⟩ => rfl]
  rw [flat_gen, row_div, row_mod]

theorem cut_gen (x : FVec Ideal S16x32x100000 .f32) (r : Fin 512) (a : Fin 8) (l : Fin 12500) :
    shapeCast S512x8x12500 (shapeCast S512x100000 x shapeCasts_S16x32x100000_S512x100000) shapeCasts_S512x100000_S512x8x12500
        (Idealize.ShloMosaic.ix3 r a l)
      = x (Idealize.ShloMosaic.ix3 (⟨r.val / 32, by have := r.isLt; omega⟩ : Fin 16) (⟨r.val % 32, by omega⟩ : Fin 32)
          (⟨12500 * a.val + l.val, by have := a.isLt; have := l.isLt; omega⟩ : Fin 100000)) := by
  pointwise
  exact congrArg (fun k : Fin 100000 => x (Idealize.ShloMosaic.ix3 (⟨r.val / 32, by have := r.isLt; omega⟩ : Fin 16) (⟨r.val % 32, by omega⟩ : Fin 32) k))
    (Fin.ext (by show a.val * 12500 + l.val = 12500 * a.val + l.val; omega))

theorem lane_gen (t : IVec S16x32 32) (r : Fin 512) (l : Fin 8) :
    broadcastInDim S512x1x8 ![0, 1, 2] bcast_S512x1x1_S512x1x8_0_1_2 (shapeCast S512x1x1 t shapeCasts_S16x32_S512x1x1)
        (Idealize.ShloMosaic.ix3 r (0 : Fin 1) l)
      = t (Idealize.ShloMosaic.ix2 (⟨r.val / 32, by have := r.isLt; omega⟩ : Fin 16) (⟨r.val % 32, by omega⟩ : Fin 32)) := by
  pointwise

/-- The result's layout: the first lane of each row. -/
theorem first_lane (z : IVec S512x1x8 32) (b : Fin 16) (s : Fin 32) :
    shapeCast S16x32 (shapeCast S512 (extractStridedSlice S512x1x1 ![0, 0, 0] z slices_S512x1x8_S512x1x1_0_0_0) shapeCasts_S512x1x1_S512)
        shapeCasts_S512_S16x32 (Idealize.ShloMosaic.ix2 b s)
      = z (Idealize.ShloMosaic.ix3 (rowOf b s) (0 : Fin 1) (0 : Fin 8)) := by
  pointwise
  exact congrArg (fun r : Fin 512 => z (Idealize.ShloMosaic.ix3 r (0 : Fin 1) (0 : Fin 8)))
    (Fin.ext (by show b.val * 32 + s.val = 32 * b.val + s.val; omega))

end Cert.Value
end
-- ==== Proof.Value.Results.lean ====
/-
  The kernel's two results, from its arguments: the reference's.
-/
module

public import proofs.«01_k».proof.Proof.Value.ConfEq
public import proofs.«01_k».proof.Proof.Value.SelectEq
public import proofs.«01_k».proof.Proof.Value.SampleEq
public import proofs.«01_k».proof.Proof.Value.FinalSample
public import proofs.«01_k».proof.Proof.Value.Layout

@[expose] public section

set_option maxRecDepth 16384

noncomputable section

namespace Cert.Value

open Cert.KernelIdeal Cert.KernelIdeal.Gen Cert.KernelIdeal.Chain
open Idealize.ShloMosaic Idealize.ShloMosaic.TcCoe
open Idealize.ShloMosaic.StableHlo (after)

variable (m : (ℓ : Loc nD τ sig) → Buf (Elt Ideal) ℓ)

/-- The arguments. -/
abbrev logits (c : Dev nD) : FVec Ideal S16x32x100000 .f32 := V0 m c main_arg0
abbrev before (c : Dev nD) : IVec S16x32 32 := V0 m c main_arg1

/-! ## The stages, at the buffers that are read -/

theorem a1_v0 (c : Dev nD) : A1 m c main_v0 = shapeCast S512x100000 (logits m c) shapeCasts_S16x32x100000_S512x100000 := by
  unfold A1
  exact Reads.ops0_v0 _

theorem a3_v2 (c : Dev nD) : A3 m c main_v2 = kconf (logits m c) := by
  unfold A3
  rw [Reads.ops1_v2, Function.update_self]
  unfold X1
  rw [ConfCall.final, a1_v0]
  rfl

theorem a3_arg1 (c : Dev nD) : A3 m c main_arg1 = before m c := by
  unfold A3
  rw [Reads.ops1_keep _ _ (by decide), Function.update_of_ne (StableHlo.devRef_ne_of_ne (by decide))]
  unfold A1
  rw [Reads.ops0_keep _ _ (by decide)]

theorem a4_v0 (c : Dev nD) : A4 m c main_v0 = shapeCast S512x100000 (logits m c) shapeCasts_S16x32x100000_S512x100000 := by
  unfold A4
  rw [Function.update_of_ne (StableHlo.devRef_ne_of_ne (by decide))]
  unfold A3
  rw [Reads.ops1_keep _ _ (by decide), Function.update_of_ne (StableHlo.devRef_ne_of_ne (by decide)), a1_v0]

theorem a4_arg1 (c : Dev nD) : A4 m c main_arg1 = before m c := by
  unfold A4
  rw [Function.update_of_ne (StableHlo.devRef_ne_of_ne (by decide)), a3_arg1]

theorem a9_v20 (c : Dev nD) : A9 m c main_v20 = shapeCast S512x8x12500
    (shapeCast S512x100000 (logits m c) shapeCasts_S16x32x100000_S512x100000) shapeCasts_S512x100000_S512x8x12500 := by
  unfold A9
  rw [Reads.mid_v20, a4_v0]

theorem a9_v22 (c : Dev nD) : A9 m c main_v22 = broadcastInDim S512x1x8 ![0, 1, 2] bcast_S512x1x1_S512x1x8_0_1_2
    (shapeCast S512x1x1 (before m c) shapeCasts_S16x32_S512x1x1) := by
  unfold A9
  rw [Reads.mid_v22, a4_arg1]

theorem a9_v24 (c : Dev nD) : A9 m c main_v24 = broadcastInDim S512x1x8 ![0, 1, 2] bcast_S512x1x1_S512x1x8_0_1_2
    (shapeCast S512x1x1 (before m c) shapeCasts_S16x32_S512x1x1) := by
  unfold A9
  rw [Reads.mid_v24, a4_arg1]

/-- The confidences at the end. -/
theorem v11_v2 (c : Dev nD) : V11 m (outs m) c main_v2 = kconf (logits m c) := by
  rw [V11_of m (outs m) c main_v2 (by decide), V10_of m (outs m) c main_v2 (by decide), V9_eq]
  unfold A9
  rw [Reads.mid_v2]
  unfold A4
  rw [Function.update_of_ne (StableHlo.devRef_ne_of_ne (by decide)), a3_v2]

/-- The tokens at the end. -/
theorem v11_v27 (c : Dev nD) (b : Fin 16) (s : Fin 32) :
    (V11 m (outs m) c main_v27 : IVec S16x32 32) (Idealize.ShloMosaic.ix2 b s)
      = (X10 m c : IVec S512x1x8 32) (Idealize.ShloMosaic.ix3 (rowOf b s) (0 : Fin 1) (0 : Fin 8)) := by
  have h : V11 m (outs m) c main_v27 = shapeCast S16x32 (shapeCast S512 (extractStridedSlice S512x1x1 ![0, 0, 0]
      (X10 m c : IVec S512x1x8 32) slices_S512x1x8_S512x1x1_0_0_0) shapeCasts_S512x1x1_S512) shapeCasts_S512_S16x32 := by
    unfold V11
    rw [Reads.ops3_v27]
    unfold V10
    rw [Function.update_self, outs_v24]
  rw [h]
  exact first_lane (X10 m c) b s

/-! ## The third call's output, row by row -/

/-- A row that is kept holds what was sampled, and any other its token. -/
theorem row_val (c : Dev nD) (r : Fin 512) :
    (X10 m c : IVec S512x1x8 32) (Idealize.ShloMosaic.ix3 r (0 : Fin 1) (0 : Fin 8))
      = if bits m 0 r = 1#1 then SampleCall.sample (F := Ideal) (BitVec.ofNat 32 r.val) (SampleCall.rowBlk (A9 m) c r.val)
        else (A9 m c main_v24 : IVec S512x1x8 32) (Idealize.ShloMosaic.ix3 r (0 : Fin 1) (0 : Fin 8)) := by
  have hp := posOf_at m 0
  have hids : ∀ t, SampleCall.ids (aT m).1 t = (Order.σ (Reads.posOf (A4 m 0)) (Order.place (bits m 0) t)).val := fun t =>
    Order.ids_eq hp (T_rows m) t
  have hcnt : SampleCall.cnt (aT m).1 = Order.ones (bits m 0) := Order.cnt_eq hp (T_count m)
  have hgood : SampleCall.Good (aT m).1 := good m
  have htok : ∀ r : Fin 512, SampleCall.tokBlk (A9 m) c r.val (Idealize.ShloMosaic.ix3 (0 : Fin 1) (0 : Fin 1) (0 : Fin 8))
      = (A9 m c main_v24 : IVec S512x1x8 32) (Idealize.ShloMosaic.ix3 r (0 : Fin 1) (0 : Fin 8)) := fun r => by
    rw [a9_v24, ← a9_v22]
    refine congrArg (A9 m c main_v22 : IVec S512x1x8 32) (funext fun a => Fin.ext ?_)
    match a with
    | ⟨0, _⟩ => exact Nat.mod_eq_of_lt r.isLt
    | ⟨1, _⟩ => rfl
    | ⟨2, _⟩ => rfl
  unfold X10
  by_cases h0 : Order.ones (bits m 0) = 0
  · have hb : ¬ bits m 0 r = 1#1 := fun h => by
      obtain ⟨t, rfl⟩ := Order.σ_surj (Reads.posOf (A4 m 0)) r
      have := (Order.selected_iff hp t).1 h
      omega
    rw [if_neg hb]
    by_cases hn : ∃ t, SampleCall.ids (aT m).1 t = r.val
    · obtain ⟨t, ht⟩ := hn
      rw [SampleCall.final_named (aT m) (A9 m) hgood c t r ht]
      unfold SampleCall.left
      rw [if_pos (hcnt.trans h0), SampleCall.copied_at, htok]
    · exact SampleCall.final_other (aT m) (A9 m) hgood c r (fun t ht => hn ⟨t, ht⟩) 0
  · by_cases hb : bits m 0 r = 1#1
    · rw [if_pos hb]
      obtain ⟨t, rfl⟩ := Order.σ_surj (Reads.posOf (A4 m 0)) r
      have ht := (Order.selected_iff hp t).1 hb
      have hplace : Order.place (bits m 0) t = t := Fin.ext (Nat.min_eq_left (by omega))
      rw [SampleCall.final_named (aT m) (A9 m) hgood c t _ ((hids t).trans (by rw [hplace]))]
      unfold SampleCall.left
      rw [if_neg (fun h => h0 (hcnt.symm.trans h)), SampleCall.hit_at]
    · rw [if_neg hb]
      refine SampleCall.final_other (aT m) (A9 m) hgood c r (fun t ht => hb ?_) 0
      have e : r = Order.σ (Reads.posOf (A4 m 0)) (Order.place (bits m 0) t) := Fin.ext (ht.symm.trans (hids t))
      rw [e]
      refine (Order.selected_iff hp _).2 ?_
      show min t.val (Order.ones (bits m 0) - 1) < Order.ones (bits m 0)
      omega

/-- A position's bit is the reference's choice. -/
theorem bits_at (hx : ∀ c i, logits m c i ≠ ⊤) (hx' : ∀ c i, logits m c i ≠ ⊥) (c : Dev nD) (b : Fin 16) (s : Fin 32) :
    bits m c (rowOf b s) = Cert.ReferenceIdeal.Run.pickOf (F := Ideal) (before m c)
      (Cert.ReferenceIdeal.Run.confidences (F := Ideal) (logits m c)) (Idealize.ShloMosaic.ix2 b s) := by
  unfold bits
  rw [a3_v2, a3_arg1, flat_at, bit_eq, kconf_eq _ (hx c) (hx' c)]

/-- The block of a row is the row of the logits. -/
theorem block_row (c : Dev nD) (b : Fin 16) (s : Fin 32) (a : Fin 8) (l : Fin 12500) :
    SampleCall.rowBlk (A9 m) c (rowOf b s).val (Idealize.ShloMosaic.ix3 (0 : Fin 1) a l)
      = logits m c (Idealize.ShloMosaic.ix3 b s (tokenAt a l)) := by
  have e : SampleCall.rowBlk (A9 m) c (rowOf b s).val (Idealize.ShloMosaic.ix3 (0 : Fin 1) a l)
      = (A9 m c main_v20 : FVec Ideal S512x8x12500 .f32) (Idealize.ShloMosaic.ix3 (rowOf b s) a l) := by
    refine congrArg (A9 m c main_v20 : FVec Ideal S512x8x12500 .f32) (funext fun k => Fin.ext ?_)
    match k with
    | ⟨0, _⟩ => exact Nat.mod_eq_of_lt (rowOf b s).isLt
    | ⟨1, _⟩ => rfl
    | ⟨2, _⟩ => rfl
  rw [e, a9_v20, cut_gen, row_div, row_mod]
  rfl

/-- **The tokens are the reference's.** -/
theorem tokens_eq (hx : ∀ c i, logits m c i ≠ ⊤) (hx' : ∀ c i, logits m c i ≠ ⊥) (c : Dev nD) :
    (V11 m (outs m) c main_v27 : IVec S16x32 32) = Cert.ReferenceIdeal.Run.tokens (F := Ideal) (logits m c) (before m c) := by
  have hc : c = 0 := Subsingleton.elim _ _
  funext i
  rw [show i = Idealize.ShloMosaic.ix2 (⟨(i 0).val, (i 0).isLt⟩ : Fin 16) (⟨(i 1).val, (i 1).isLt⟩ : Fin 32) from
    funext fun a => match a with | ⟨0, _⟩ => rfl | ⟨1, _⟩ => rfl]
  generalize (⟨(i 0).val, (i 0).isLt⟩ : Fin 16) = b
  generalize (⟨(i 1).val, (i 1).isLt⟩ : Fin 32) = s
  rw [v11_v27, row_val]
  subst hc
  rw [bits_at m hx hx', a9_v24, lane_gen, row_div, row_mod]
  have hs : SampleCall.sample (F := Ideal) (BitVec.ofNat 32 (rowOf b s).val) (SampleCall.rowBlk (A9 m) 0 (rowOf b s).val)
      = Cert.ReferenceIdeal.Run.sampledOf (F := Ideal) (logits m 0) (Idealize.ShloMosaic.ix2 b s) :=
    sample_eq _ _ b s (block_row m 0 b s)
  rw [hs]
  unfold Cert.ReferenceIdeal.Run.tokens
  rfl

/-- **The confidences are the reference's.** -/
theorem confidences_eq (hx : ∀ c i, logits m c i ≠ ⊤) (hx' : ∀ c i, logits m c i ≠ ⊥) (c : Dev nD) :
    (V11 m (outs m) c main_v2 : FVec Ideal S16x32 .f32) = Cert.ReferenceIdeal.Run.confidences (F := Ideal) (logits m c) :=
  (v11_v2 m c).trans (kconf_eq _ (hx c) (hx' c))

end Cert.Value
end
-- ==== Proof.Value.Finite.lean ====
/-
  What the precondition says: no logit is infinite.
-/
module

public import proofs.«01_k».proof.Pre_finite_logits
public import Idealize.ShloMosaic.Lib.Pointwise
public import Idealize.ShloMosaic.PureOps.Ideal

@[expose] public section

set_option maxRecDepth 16384

noncomputable section

namespace Cert.Value

open Idealize.ShloMosaic

theorem preFacts : Cert.Pre_finite_logits.Facts := ⟨by decide⟩

/-- An extended real whose magnitude is below `⊤` is neither infinity. -/
theorem finite_of_mag_lt (x : EReal) (h : max x (-x) < ⊤) : x ≠ ⊤ ∧ x ≠ ⊥ := by
  constructor
  · rintro rfl
    exact absurd h (by simp)
  · rintro rfl
    exact absurd h (by simp)

/-- The same of the comparison as the predicate writes it, with the bound `t` left open. -/
theorem finite_of_cmp (x t : Ideal .f32) (ht : (t : EReal) = ⊤)
    (h : FloatOps.cmpf .olt (FloatOps.absf x) t = 1#1) : (x : EReal) ≠ ⊤ ∧ (x : EReal) ≠ ⊥ := by
  apply finite_of_mag_lt
  rw [Ideal.cmpf_def, Ideal.cmp] at h
  by_contra hc
  rw [ht] at h
  simp_all [Ideal.absf_def]

/-- The predicate's bound. -/
theorem ofBits_top : (FloatOps.ofBits .f32 0x7F800000#32 : Ideal .f32) = (⊤ : EReal) := by
  show Ideal.ofBits .f32 0x7F800000#32 = ⊤
  simp [Ideal.ofBits, Ideal.ieee]

/-- The predicate, at one entry, with the bound `t` left open. -/
theorem entry_finite {S S0 : Shape} (x : FVec Ideal S .f32) (d : Fin S0.rank → Fin S.rank) (hd : S0.BroadcastsInDim S d)
    (t : Ideal .f32) (ht : (t : EReal) = ⊤)
    (h : cmpf .olt (Host.absf x) (broadcastInDim S d hd (fun _ => t : FVec Ideal S0 .f32)) = fun _ => 1#1) (i : S.Idx) :
    (x i : EReal) ≠ ⊤ ∧ (x i : EReal) ≠ ⊥ :=
  finite_of_cmp (x i) t ht (congrFun h i)

/-- Logits that meet the precondition are finite. -/
theorem finite_of_pre [Cert.Pre_finite_logits.Facts] (x : FVec Ideal Cert.Pre_finite_logits.S16x32x100000 .f32)
    (t : IVec Cert.Pre_finite_logits.S16x32 32) (h : Cert.Pre_finite_logits.fn (F := Ideal) x t = fun _ => 1#1)
    (i : Cert.Pre_finite_logits.S16x32x100000.Idx) : (x i : EReal) ≠ ⊤ ∧ (x i : EReal) ≠ ⊥ := by
  unfold Cert.Pre_finite_logits.fn at h
  exact entry_finite x _ _ _ ofBits_top h i

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kernel.Run
public import proofs.«01_k».proof.Proof.KernelIdeal.Run
public import proofs.«01_k».proof.Proof.Reference.Keep
public import proofs.«01_k».proof.Proof.Reference.Results
public import proofs.«01_k».proof.Proof.Value.Results
public import proofs.«01_k».proof.Proof.Value.Finite
public import Idealize.ShloMosaic.Adequacy
public import Idealize.ShloMosaic.Init

@[expose] public section

noncomputable section

namespace Cert.Proof

open Idealize.ShloMosaic Idealize.ShloMosaic.TcCoe Idealize.SL.Sem Cert.Kernel

/-- The kernel ends, leaves its arguments unchanged, and every counter at zero. -/
theorem frame_kernel : Cert.quiescent_Kernel := fun m g _ =>
  (θ_run _ _ _).mono (fun _ h => ⟨fun c => ⟨(h.1 c).1, (h.1 c).2.1⟩, h.2⟩) (Cert.Kernel.Chain.run m g)

/-- So does the kernel over the extended reals. -/
theorem frame_ideal : Cert.quiescent_KernelIdeal := fun m g _ =>
  (θ_run _ _ _).mono (fun _ h => ⟨fun c => ⟨(h.1 c).1, (h.1 c).2.1⟩, h.2⟩) (Cert.KernelIdeal.Chain.run m g)

/-- So does the reference. -/
theorem frame_reference : Cert.quiescent_ReferenceIdeal := fun m g _ => Cert.ReferenceIdeal.Run.frame m g

/-- The two frames, where the precondition is assumed besides. -/
theorem frame_ideal_pre [hPre_finite_logits : Cert.Pre_finite_logits.Facts] : Cert.quiescent_KernelIdeal_pre_finite_logits := fun m g _ =>
  (θ_run _ _ _).mono (fun _ h => ⟨fun c => ⟨(h.1 c).1, (h.1 c).2.1⟩, h.2⟩) (Cert.KernelIdeal.Chain.run m g)
theorem frame_reference_pre [hPre_finite_logits : Cert.Pre_finite_logits.Facts] : Cert.quiescent_ReferenceIdeal_pre_finite_logits :=
  fun m g _ => Cert.ReferenceIdeal.Run.frame m g

/-- The reference's two buffers, where its arguments hold what the kernel's do. -/
theorem reference_tokens (V : Valuation Cert.ReferenceIdeal.τ Cert.ReferenceIdeal.sig (Elt Ideal))
    (x : FVec Ideal Cert.ReferenceIdeal.S16x32x100000 .f32) (t : IVec Cert.ReferenceIdeal.S16x32 32)
    (hx : V (Proc.devRef .tc Cert.ReferenceIdeal.main_arg0) = x) (ht : V (Proc.devRef .tc Cert.ReferenceIdeal.main_arg1) = t) :
    StableHlo.after Cert.ReferenceIdeal.Run.ops V (Proc.devRef .tc Cert.ReferenceIdeal.main_v73)
      = Cert.ReferenceIdeal.Run.tokens (F := Ideal) x t :=
  (Cert.ReferenceIdeal.Run.result_v73 V).trans (congrArg₂ (Cert.ReferenceIdeal.Run.tokens (F := Ideal)) hx ht)
theorem reference_confidences (V : Valuation Cert.ReferenceIdeal.τ Cert.ReferenceIdeal.sig (Elt Ideal))
    (x : FVec Ideal Cert.ReferenceIdeal.S16x32x100000 .f32)
    (hx : V (Proc.devRef .tc Cert.ReferenceIdeal.main_arg0) = x) :
    StableHlo.after Cert.ReferenceIdeal.Run.ops V (Proc.devRef .tc Cert.ReferenceIdeal.main_v16)
      = Cert.ReferenceIdeal.Run.confidences (F := Ideal) x :=
  (Cert.ReferenceIdeal.Run.result_v16 V).trans (congrArg (Cert.ReferenceIdeal.Run.confidences (F := Ideal)) hx)

/-- Kernel and reference end with the same tokens and the same confidences, where no logit is infinite. -/
theorem same_results [hPre_finite_logits : Cert.Pre_finite_logits.Facts] : Cert.algebraic_KernelIdeal_ReferenceIdeal_pre_finite_logits :=
  fun m g m' g' hpre hargs => by
    have fin : ∀ c i, Cert.Value.logits m c i ≠ ⊤ ∧ Cert.Value.logits m c i ≠ ⊥ := fun c i =>
      Cert.Value.finite_of_pre (Cert.Value.logits m c) (Cert.Value.before m c) (hpre c) i
    refine ⟨fun c => Cert.KernelIdeal.Gen.V11 m (Cert.KernelIdeal.Chain.outs m) c Cert.KernelIdeal.main_v27,
      fun c => Cert.KernelIdeal.Gen.V11 m (Cert.KernelIdeal.Chain.outs m) c Cert.KernelIdeal.main_v2,
      (θ_run _ _ _).mono (fun _ h c => ⟨(h.1 c).2.2.1, (h.1 c).2.2.2, (h.1 c).1, (h.1 c).2.1⟩)
        (Cert.KernelIdeal.Chain.run m g),
      (θ_run _ _ _).mono (fun r h c => ⟨?_, ?_, ?_, ?_⟩) (Cert.ReferenceIdeal.Run.run m' g')⟩
    · exact (h c Cert.ReferenceIdeal.main_v73).trans ((reference_tokens _ _ _ (hargs c).1 (hargs c).2).trans
        (Cert.Value.tokens_eq m (fun c i => (fin c i).1) (fun c i => (fin c i).2) c).symm)
    · exact (h c Cert.ReferenceIdeal.main_v16).trans ((reference_confidences _ _ (hargs c).1).trans
        (Cert.Value.confidences_eq m (fun c i => (fin c i).1) (fun c i => (fin c i).2) c).symm)
    · exact (h c Cert.ReferenceIdeal.main_arg0).trans (Cert.ReferenceIdeal.Run.ops_keep _ _ (by decide))
    · exact (h c Cert.ReferenceIdeal.main_arg1).trans (Cert.ReferenceIdeal.Run.ops_keep _ _ (by decide))

theorem claim : Cert.Claim := ⟨Cert.Kernel.Gen.facts, Cert.KernelIdeal.Gen.facts, Cert.ReferenceIdeal.Gen.facts,
  Cert.Value.preFacts, frame_kernel, frame_ideal, frame_ideal_pre (hPre_finite_logits := Cert.Value.preFacts),
  frame_reference, frame_reference_pre (hPre_finite_logits := Cert.Value.preFacts), trivial,
  same_results (hPre_finite_logits := Cert.Value.preFacts)⟩

end Cert.Proof

end
